-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_not_negative [hPre_scales_not_negative : Cert.Pre_scales_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_scales_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_not_negative [hPre_scales_not_negative : Cert.Pre_scales_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysReferenceIdeal (m : (ℓ : Loc Cert.KeysReferenceIdeal.nD Cert.KeysReferenceIdeal.τ Cert.KeysReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_not_negative [hKernelIdeal : Cert.KernelIdeal.Facts] [hPre_scales_not_negative : Cert.Pre_scales_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_not_negative [hReferenceIdeal : Cert.ReferenceIdeal.Facts] [hPre_scales_not_negative : Cert.Pre_scales_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1)
      ∧ r.2.mem ((c.tc : Thread Cert.Keys.nD Cert.Keys.τ).loc Cert.Keys.main_arg2) = m ((c.tc : Thread Cert.Keys.nD Cert.Keys.τ).loc Cert.Keys.main_arg2)
      ∧ r.2.mem ((c.tc : Thread Cert.Keys.nD Cert.Keys.τ).loc Cert.Keys.main_arg3) = m ((c.tc : Thread Cert.Keys.nD Cert.Keys.τ).loc Cert.Keys.main_arg3))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2)
      ∧ r.2.mem ((c.tc : Thread Cert.KeysIdeal.nD Cert.KeysIdeal.τ).loc Cert.KeysIdeal.main_arg3) = m ((c.tc : Thread Cert.KeysIdeal.nD Cert.KeysIdeal.τ).loc Cert.KeysIdeal.main_arg3))
      ∧ r.2.sem = fun _ => 0)

def quiescent_KeysReferenceIdeal [hKeysReferenceIdeal : Cert.KeysReferenceIdeal.Facts] : Prop :=
  ∀ (m : (ℓ : Loc Cert.KeysReferenceIdeal.nD Cert.KeysReferenceIdeal.τ Cert.KeysReferenceIdeal.sig) → Buf (Elt Ideal) ℓ) (g : Dev Cert.KeysReferenceIdeal.nD → PrngReg), Pre_KeysReferenceIdeal m →
    θ_run (Cert.KeysReferenceIdeal.defs (F := Ideal)) (onTc (τ := Cert.KeysReferenceIdeal.τ) (Cert.KeysReferenceIdeal.main (F := Ideal))) ⟨m, fun _ => 0, g⟩ (fun r => (∀ c : Dev Cert.KeysReferenceIdeal.nD,
      r.2.mem ((c.tc : Thread Cert.KeysReferenceIdeal.nD Cert.KeysReferenceIdeal.τ).loc Cert.KeysReferenceIdeal.main_arg0) = m ((c.tc : Thread Cert.KeysReferenceIdeal.nD Cert.KeysReferenceIdeal.τ).loc Cert.KeysReferenceIdeal.main_arg0)
      ∧ r.2.mem ((c.tc : Thread Cert.KeysReferenceIdeal.nD Cert.KeysReferenceIdeal.τ).loc Cert.KeysReferenceIdeal.main_arg1) = m ((c.tc : Thread Cert.KeysReferenceIdeal.nD Cert.KeysReferenceIdeal.τ).loc Cert.KeysReferenceIdeal.main_arg1)
      ∧ r.2.mem ((c.tc : Thread Cert.KeysReferenceIdeal.nD Cert.KeysReferenceIdeal.τ).loc Cert.KeysReferenceIdeal.main_arg2) = m ((c.tc : Thread Cert.KeysReferenceIdeal.nD Cert.KeysReferenceIdeal.τ).loc Cert.KeysReferenceIdeal.main_arg2)
      ∧ r.2.mem ((c.tc : Thread Cert.KeysReferenceIdeal.nD Cert.KeysReferenceIdeal.τ).loc Cert.KeysReferenceIdeal.main_arg3) = m ((c.tc : Thread Cert.KeysReferenceIdeal.nD Cert.KeysReferenceIdeal.τ).loc Cert.KeysReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_scales_not_negative [hKernelIdeal : Cert.KernelIdeal.Facts] [hReferenceIdeal : Cert.ReferenceIdeal.Facts] [hPre_scales_not_negative : Cert.Pre_scales_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Keys_KeysIdeal : Prop :=
  IdealRules.bf16_pair.BufferStatement Cert.KeysIdeal.S1024x2x128 Cert.KeysIdeal.S1024x1x128
  ∧ IdealRules.bf16_pair.Statement Cert.KeysIdeal.S2048x128 Cert.KeysIdeal.S1024x128
  ∧ IdealRules.bf16_pair.Statement Cert.KeysIdeal.S1024x2x128 Cert.KeysIdeal.S1024x1x128
  ∧ IdealRules.bf16_pair.Statement Cert.KeysIdeal.S512x2x128 Cert.KeysIdeal.S512x1x128
  ∧ IdealRules.bf16_pair.Statement Cert.KeysIdeal.S1024x128 Cert.KeysIdeal.S512x128

def algebraic_KeysIdeal_KeysReferenceIdeal [hKeysIdeal : Cert.KeysIdeal.Facts] [hKeysReferenceIdeal : Cert.KeysReferenceIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysReferenceIdeal.nD Cert.KeysReferenceIdeal.τ Cert.KeysReferenceIdeal.sig) → Buf (Elt Ideal) ℓ) (g' : Dev Cert.KeysReferenceIdeal.nD → PrngReg), Pre_KeysIdeal m →
    (∀ c : Dev Cert.KeysIdeal.nD,
      m' ((c.tc : Thread Cert.KeysReferenceIdeal.nD Cert.KeysReferenceIdeal.τ).loc Cert.KeysReferenceIdeal.main_arg0) = m ((c.tc : Thread Cert.KeysIdeal.nD Cert.KeysIdeal.τ).loc Cert.KeysIdeal.main_arg0)
      ∧ m' ((c.tc : Thread Cert.KeysReferenceIdeal.nD Cert.KeysReferenceIdeal.τ).loc Cert.KeysReferenceIdeal.main_arg1) = m ((c.tc : Thread Cert.KeysIdeal.nD Cert.KeysIdeal.τ).loc Cert.KeysIdeal.main_arg1)
      ∧ m' ((c.tc : Thread Cert.KeysReferenceIdeal.nD Cert.KeysReferenceIdeal.τ).loc Cert.KeysReferenceIdeal.main_arg2) = m ((c.tc : Thread Cert.KeysIdeal.nD Cert.KeysIdeal.τ).loc Cert.KeysIdeal.main_arg2)
      ∧ m' ((c.tc : Thread Cert.KeysReferenceIdeal.nD Cert.KeysReferenceIdeal.τ).loc Cert.KeysReferenceIdeal.main_arg3) = m ((c.tc : Thread Cert.KeysIdeal.nD Cert.KeysIdeal.τ).loc Cert.KeysIdeal.main_arg3)) →
    ∃ (v0 : (c : Dev Cert.KeysIdeal.nD) → Buf (Elt Ideal) ((c.tc : Thread Cert.KeysIdeal.nD Cert.KeysIdeal.τ).loc Cert.KeysIdeal.main_v0_0)) (v1 : (c : Dev Cert.KeysIdeal.nD) → Buf (Elt Ideal) ((c.tc : Thread Cert.KeysIdeal.nD Cert.KeysIdeal.τ).loc Cert.KeysIdeal.main_v0_1)) (v2 : (c : Dev Cert.KeysIdeal.nD) → Buf (Elt Ideal) ((c.tc : Thread Cert.KeysIdeal.nD Cert.KeysIdeal.τ).loc Cert.KeysIdeal.main_v0_2)) (v3 : (c : Dev Cert.KeysIdeal.nD) → Buf (Elt Ideal) ((c.tc : Thread Cert.KeysIdeal.nD Cert.KeysIdeal.τ).loc Cert.KeysIdeal.main_v0_3)) (v4 : (c : Dev Cert.KeysIdeal.nD) → Buf (Elt Ideal) ((c.tc : Thread Cert.KeysIdeal.nD Cert.KeysIdeal.τ).loc Cert.KeysIdeal.main_v0_4)) (v5 : (c : Dev Cert.KeysIdeal.nD) → Buf (Elt Ideal) ((c.tc : Thread Cert.KeysIdeal.nD Cert.KeysIdeal.τ).loc Cert.KeysIdeal.main_v0_5)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v0_0) = v0 c
          ∧ r.2.mem ((c.tc : Thread Cert.KeysIdeal.nD Cert.KeysIdeal.τ).loc Cert.KeysIdeal.main_v0_1) = v1 c
          ∧ r.2.mem ((c.tc : Thread Cert.KeysIdeal.nD Cert.KeysIdeal.τ).loc Cert.KeysIdeal.main_v0_2) = v2 c
          ∧ r.2.mem ((c.tc : Thread Cert.KeysIdeal.nD Cert.KeysIdeal.τ).loc Cert.KeysIdeal.main_v0_3) = v3 c
          ∧ r.2.mem ((c.tc : Thread Cert.KeysIdeal.nD Cert.KeysIdeal.τ).loc Cert.KeysIdeal.main_v0_4) = v4 c
          ∧ r.2.mem ((c.tc : Thread Cert.KeysIdeal.nD Cert.KeysIdeal.τ).loc Cert.KeysIdeal.main_v0_5) = v5 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
          ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2)
          ∧ r.2.mem ((c.tc : Thread Cert.KeysIdeal.nD Cert.KeysIdeal.τ).loc Cert.KeysIdeal.main_arg3) = m ((c.tc : Thread Cert.KeysIdeal.nD Cert.KeysIdeal.τ).loc Cert.KeysIdeal.main_arg3))
      ∧ θ_run (Cert.KeysReferenceIdeal.defs (F := Ideal)) (onTc (τ := Cert.KeysReferenceIdeal.τ) (Cert.KeysReferenceIdeal.main (F := Ideal))) ⟨m', fun _ => 0, g'⟩ (fun r => ∀ c : Dev Cert.KeysReferenceIdeal.nD,
          r.2.mem ((c.tc : Thread Cert.KeysReferenceIdeal.nD Cert.KeysReferenceIdeal.τ).loc Cert.KeysReferenceIdeal.main_v0_0) = v0 c
          ∧ r.2.mem ((c.tc : Thread Cert.KeysReferenceIdeal.nD Cert.KeysReferenceIdeal.τ).loc Cert.KeysReferenceIdeal.main_v0_1) = v1 c
          ∧ r.2.mem ((c.tc : Thread Cert.KeysReferenceIdeal.nD Cert.KeysReferenceIdeal.τ).loc Cert.KeysReferenceIdeal.main_v0_2) = v2 c
          ∧ r.2.mem ((c.tc : Thread Cert.KeysReferenceIdeal.nD Cert.KeysReferenceIdeal.τ).loc Cert.KeysReferenceIdeal.main_v0_3) = v3 c
          ∧ r.2.mem ((c.tc : Thread Cert.KeysReferenceIdeal.nD Cert.KeysReferenceIdeal.τ).loc Cert.KeysReferenceIdeal.main_v0_4) = v4 c
          ∧ r.2.mem ((c.tc : Thread Cert.KeysReferenceIdeal.nD Cert.KeysReferenceIdeal.τ).loc Cert.KeysReferenceIdeal.main_v0_5) = v5 c
          ∧ r.2.mem ((c.tc : Thread Cert.KeysReferenceIdeal.nD Cert.KeysReferenceIdeal.τ).loc Cert.KeysReferenceIdeal.main_arg0) = m' ((c.tc : Thread Cert.KeysReferenceIdeal.nD Cert.KeysReferenceIdeal.τ).loc Cert.KeysReferenceIdeal.main_arg0)
          ∧ r.2.mem ((c.tc : Thread Cert.KeysReferenceIdeal.nD Cert.KeysReferenceIdeal.τ).loc Cert.KeysReferenceIdeal.main_arg1) = m' ((c.tc : Thread Cert.KeysReferenceIdeal.nD Cert.KeysReferenceIdeal.τ).loc Cert.KeysReferenceIdeal.main_arg1)
          ∧ r.2.mem ((c.tc : Thread Cert.KeysReferenceIdeal.nD Cert.KeysReferenceIdeal.τ).loc Cert.KeysReferenceIdeal.main_arg2) = m' ((c.tc : Thread Cert.KeysReferenceIdeal.nD Cert.KeysReferenceIdeal.τ).loc Cert.KeysReferenceIdeal.main_arg2)
          ∧ r.2.mem ((c.tc : Thread Cert.KeysReferenceIdeal.nD Cert.KeysReferenceIdeal.τ).loc Cert.KeysReferenceIdeal.main_arg3) = m' ((c.tc : Thread Cert.KeysReferenceIdeal.nD Cert.KeysReferenceIdeal.τ).loc Cert.KeysReferenceIdeal.main_arg3))

def Claim : Prop :=
  ∃ (hKernel : Cert.Kernel.Facts) (hKernelIdeal : Cert.KernelIdeal.Facts) (hReferenceIdeal : Cert.ReferenceIdeal.Facts) (hKeys : Cert.Keys.Facts) (hKeysIdeal : Cert.KeysIdeal.Facts) (hKeysReferenceIdeal : Cert.KeysReferenceIdeal.Facts) (hPre_scales_not_negative : Cert.Pre_scales_not_negative.Facts),
    quiescent_Kernel (hKernel := hKernel)
    ∧ quiescent_KernelIdeal (hKernelIdeal := hKernelIdeal)
    ∧ quiescent_KernelIdeal_pre_scales_not_negative (hKernelIdeal := hKernelIdeal) (hPre_scales_not_negative := hPre_scales_not_negative)
    ∧ quiescent_ReferenceIdeal (hReferenceIdeal := hReferenceIdeal)
    ∧ quiescent_ReferenceIdeal_pre_scales_not_negative (hReferenceIdeal := hReferenceIdeal) (hPre_scales_not_negative := hPre_scales_not_negative)
    ∧ quiescent_Keys (hKeys := hKeys)
    ∧ quiescent_KeysIdeal (hKeysIdeal := hKeysIdeal)
    ∧ quiescent_KeysReferenceIdeal (hKeysReferenceIdeal := hKeysReferenceIdeal)
    ∧ preserves_Kernel_KernelIdeal
    ∧ algebraic_KernelIdeal_ReferenceIdeal_pre_scales_not_negative (hKernelIdeal := hKernelIdeal) (hReferenceIdeal := hReferenceIdeal) (hPre_scales_not_negative := hPre_scales_not_negative)
    ∧ preserves_Keys_KeysIdeal
    ∧ algebraic_KeysIdeal_KeysReferenceIdeal (hKeysIdeal := hKeysIdeal) (hKeysReferenceIdeal := hKeysReferenceIdeal)
-- ==== Pre_scales_not_negative.lean ====
abbrev S12x28x2560x128 : Shape := ⟨4, ![12, 28, 2560, 128]⟩
abbrev S12x64x2560 : Shape := ⟨3, ![12, 64, 2560]⟩
abbrev S12x4x2560x128 : Shape := ⟨4, ![12, 4, 2560, 128]⟩
abbrev S12x4x2560 : Shape := ⟨3, ![12, 4, 2560]⟩
abbrev S12x4x128x2560 : Shape := ⟨4, ![12, 4, 128, 2560]⟩
abbrev S_ : Shape := ⟨0, ![]⟩

class Facts : Prop where
  bcast_S_S12x4x2560 : S_.BroadcastsInDim S12x4x2560 (![] : Fin 0 → Fin S12x4x2560.rank)
  reducesTo_S12x4x2560_S_d0_1_2 : S12x4x2560.ReducesTo [0, 1, 2] S_
  h_S_ : 0 < S_.numel

variable [Facts]

def fn {F : FTy → Type} [FloatOps F] (main_arg0 : FVec F S12x28x2560x128 .bf16) (main_arg1 : FVec F S12x64x2560 .f32) (main_arg2 : FVec F S12x64x2560 .f32) (main_arg3 : FVec F S12x4x2560x128 .fp8e4m3) (main_arg4 : FVec F S12x4x2560 .f32) (main_arg5 : FVec F S12x4x128x2560 .bf16) : IVec S_ 1 :=
  let main_cst : FVec F S_ .f32 := constant S_ .f32 0x00000000#32
  let main_v0 : FVec F S12x4x2560 .f32 := broadcastInDim S12x4x2560 ![] bcast_S_S12x4x2560 main_cst
  let main_v1 : IVec S12x4x2560 1 := cmpf .oge main_arg4 main_v0
  let main_c : IVec S_ 1 := constantI S_ 1 1#1
  let main_v2 : IVec S_ 1 := (fun x v => Host.reduce IntOp.andi x v reducesTo_S12x4x2560_S_d0_1_2 h_S_) main_v1 main_c
  main_v2
-- ==== Kernel.lean ====
abbrev S12x28x2560x128 : Shape := ⟨4, ![12, 28, 2560, 128]⟩
abbrev S12x64x2560 : Shape := ⟨3, ![12, 64, 2560]⟩
abbrev S12x4x2560x128 : Shape := ⟨4, ![12, 4, 2560, 128]⟩
abbrev S12x4x2560 : Shape := ⟨3, ![12, 4, 2560]⟩
abbrev S12x4x128x2560 : Shape := ⟨4, ![12, 4, 128, 2560]⟩
abbrev S12x2560x3584 : Shape := ⟨3, ![12, 2560, 3584]⟩
abbrev S12x28x2560 : Shape := ⟨3, ![12, 28, 2560]⟩
abbrev S1x1x2560x128 : Shape := ⟨4, ![1, 1, 2560, 128]⟩
abbrev S1x64x2560 : Shape := ⟨3, ![1, 64, 2560]⟩
abbrev S1x4x2560 : Shape := ⟨3, ![1, 4, 2560]⟩
abbrev S1x1x128x2560 : Shape := ⟨4, ![1, 1, 128, 2560]⟩
abbrev S1x2560x128 : Shape := ⟨3, ![1, 2560, 128]⟩
abbrev S1x28x2560 : Shape := ⟨3, ![1, 28, 2560]⟩
abbrev S2560x128 : Shape := ⟨2, ![2560, 128]⟩
abbrev S128x2560 : Shape := ⟨2, ![128, 2560]⟩
abbrev S2x2560x256 : Shape := ⟨3, ![2, 2560, 256]⟩
abbrev S1x4x128 : Shape := ⟨3, ![1, 4, 128]⟩
abbrev S4x128 : Shape := ⟨2, ![4, 128]⟩
abbrev S128 : Shape := ⟨1, ![128]⟩
abbrev S1x128 : Shape := ⟨2, ![1, 128]⟩
abbrev S128x128 : Shape := ⟨2, ![128, 128]⟩
abbrev S1x1x256x128 : Shape := ⟨4, ![1, 1, 256, 128]⟩
abbrev S256x128 : Shape := ⟨2, ![256, 128]⟩
abbrev S128x256 : Shape := ⟨2, ![128, 256]⟩
abbrev S64x256 : Shape := ⟨2, ![64, 256]⟩
abbrev S1x64x256 : Shape := ⟨3, ![1, 64, 256]⟩
abbrev S256 : Shape := ⟨1, ![256]⟩
abbrev S1x256 : Shape := ⟨2, ![1, 256]⟩
abbrev S248x256 : Shape := ⟨2, ![248, 256]⟩
abbrev S1x1x256 : Shape := ⟨3, ![1, 1, 256]⟩
abbrev S256x256 : Shape := ⟨2, ![256, 256]⟩
abbrev S1x256x128 : Shape := ⟨3, ![1, 256, 128]⟩
abbrev S32x8x128 : Shape := ⟨3, ![32, 8, 128]⟩
abbrev S8x128 : Shape := ⟨2, ![8, 128]⟩
abbrev S8x256 : Shape := ⟨2, ![8, 256]⟩
abbrev S1x256x256 : Shape := ⟨3, ![1, 256, 256]⟩
abbrev S1x1x128x256 : Shape := ⟨4, ![1, 1, 128, 256]⟩
abbrev S32x8x256 : Shape := ⟨3, ![32, 8, 256]⟩

abbrev nBuf : Space → Nat
  | .hbm => 9
  | .vmem => 21
  | .smem => 0
  | _ => 0

abbrev bufTy : (tb : Table) → Fin (tcTables nBuf tb) → BufTy
  | .hbm, ⟨0, _⟩ => ⟨S12x28x2560x128, .bf16⟩
  | .hbm, ⟨1, _⟩ => ⟨S12x64x2560, .f32⟩
  | .hbm, ⟨2, _⟩ => ⟨S12x64x2560, .f32⟩
  | .hbm, ⟨3, _⟩ => ⟨S12x4x2560x128, .fp8e4m3⟩
  | .hbm, ⟨4, _⟩ => ⟨S12x4x2560, .f32⟩
  | .hbm, ⟨5, _⟩ => ⟨S12x4x128x2560, .bf16⟩
  | .hbm, ⟨6, _⟩ => ⟨S12x2560x3584, .bf16⟩
  | .hbm, ⟨7, _⟩ => ⟨S12x28x2560x128, .fp8e4m3⟩
  | .hbm, ⟨8, _⟩ => ⟨S12x28x2560, .f32⟩
  | .local _ .vmem, ⟨0, _⟩ => ⟨S1x1x2560x128, .bf16⟩
  | .local _ .vmem, ⟨1, _⟩ => ⟨S1x1x2560x128, .bf16⟩
  | .local _ .vmem, ⟨2, _⟩ => ⟨S1x64x2560, .f32⟩
  | .local _ .vmem, ⟨3, _⟩ => ⟨S1x64x2560, .f32⟩
  | .local _ .vmem, ⟨4, _⟩ => ⟨S1x64x2560, .f32⟩
  | .local _ .vmem, ⟨5, _⟩ => ⟨S1x64x2560, .f32⟩
  | .local _ .vmem, ⟨6, _⟩ => ⟨S1x1x2560x128, .fp8e4m3⟩
  | .local _ .vmem, ⟨7, _⟩ => ⟨S1x1x2560x128, .fp8e4m3⟩
  | .local _ .vmem, ⟨8, _⟩ => ⟨S1x4x2560, .f32⟩
  | .local _ .vmem, ⟨9, _⟩ => ⟨S1x4x2560, .f32⟩
  | .local _ .vmem, ⟨10, _⟩ => ⟨S1x1x128x2560, .bf16⟩
  | .local _ .vmem, ⟨11, _⟩ => ⟨S1x1x128x2560, .bf16⟩
  | .local _ .vmem, ⟨12, _⟩ => ⟨S1x2560x128, .bf16⟩
  | .local _ .vmem, ⟨13, _⟩ => ⟨S1x2560x128, .bf16⟩
  | .local _ .vmem, ⟨14, _⟩ => ⟨S1x1x2560x128, .fp8e4m3⟩
  | .local _ .vmem, ⟨15, _⟩ => ⟨S1x1x2560x128, .fp8e4m3⟩
  | .local _ .vmem, ⟨16, _⟩ => ⟨S1x28x2560, .f32⟩
  | .local _ .vmem, ⟨17, _⟩ => ⟨S1x28x2560, .f32⟩
  | .local _ .vmem, ⟨18, _⟩ => ⟨S2560x128, .f32⟩
  | .local _ .vmem, ⟨19, _⟩ => ⟨S128x2560, .fp8e4m3⟩
  | .local _ .vmem, ⟨20, _⟩ => ⟨S2x2560x256, .f32⟩
  | _, _ => ⟨S12x28x2560x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![12, 4, 7], ![false, false, false]⟩

def k0_off1 (i : grid0.Coords) : Fin 3 → Nat :=
  let c0_29 : Index := 0#32
  let arg1 : BitVec 32 := BitVec.ofNat 32 (i 1).val
  let c7_i32 : BitVec 32 := 7#32
  let v3 : BitVec 32 := Scalar.muli arg1 c7_i32
  let arg2 : BitVec 32 := BitVec.ofNat 32 (i 2).val
  let v4 : BitVec 32 := Scalar.addi v3 arg2
  let v82 : Index := Scalar.indexCast v4
  let c0_30 : Index := 0#32
  ![0, v82.toNat, 0]
def k0_off2 (i : grid0.Coords) : Fin 3 → Nat :=
  let c0_65 : Index := 0#32
  let arg1 : BitVec 32 := BitVec.ofNat 32 (i 1).val
  let c7_i32 : BitVec 32 := 7#32
  let v3 : BitVec 32 := Scalar.muli arg1 c7_i32
  let arg2 : BitVec 32 := BitVec.ofNat 32 (i 2).val
  let v4 : BitVec 32 := Scalar.addi v3 arg2
  let v164 : Index := Scalar.indexCast v4
  let c256_66 : Index := 256#32
  ![0, v164.toNat, 256]
def k0_off3 (i : grid0.Coords) : Fin 3 → Nat :=
  let c0_121 : Index := 0#32
  let arg1 : BitVec 32 := BitVec.ofNat 32 (i 1).val
  let c7_i32 : BitVec 32 := 7#32
  let v3 : BitVec 32 := Scalar.muli arg1 c7_i32
  let arg2 : BitVec 32 := BitVec.ofNat 32 (i 2).val
  let v4 : BitVec 32 := Scalar.addi v3 arg2
  let v279 : Index := Scalar.indexCast v4
  let c512_122 : Index := 512#32
  ![0, v279.toNat, 512]
def k0_off4 (i : grid0.Coords) : Fin 3 → Nat :=
  let c0_208 : Index := 0#32
  let arg1 : BitVec 32 := BitVec.ofNat 32 (i 1).val
  let c7_i32 : BitVec 32 := 7#32
  let v3 : BitVec 32 := Scalar.muli arg1 c7_i32
  let arg2 : BitVec 32 := BitVec.ofNat 32 (i 2).val
  let v4 : BitVec 32 := Scalar.addi v3 arg2
  let v439 : Index := Scalar.indexCast v4
  let c768_209 : Index := 768#32
  ![0, v439.toNat, 768]
def k0_off5 (i : grid0.Coords) : Fin 3 → Nat :=
  let c0_322 : Index := 0#32
  let arg1 : BitVec 32 := BitVec.ofNat 32 (i 1).val
  let c7_i32 : BitVec 32 := 7#32
  let v3 : BitVec 32 := Scalar.muli arg1 c7_i32
  let arg2 : BitVec 32 := BitVec.ofNat 32 (i 2).val
  let v4 : BitVec 32 := Scalar.addi v3 arg2
  let v635 : Index := Scalar.indexCast v4
  let c1024_323 : Index := 1024#32
  ![0, v635.toNat, 1024]
def k0_off6 (i : grid0.Coords) : Fin 3 → Nat :=
  let c0_462 : Index := 0#32
  let arg1 : BitVec 32 := BitVec.ofNat 32 (i 1).val
  let c7_i32 : BitVec 32 := 7#32
  let v3 : BitVec 32 := Scalar.muli arg1 c7_i32
  let arg2 : BitVec 32 := BitVec.ofNat 32 (i 2).val
  let v4 : BitVec 32 := Scalar.addi v3 arg2
  let v867 : Index := Scalar.indexCast v4
  let c1280_463 : Index := 1280#32
  ![0, v867.toNat, 1280]
def k0_off7 (i : grid0.Coords) : Fin 3 → Nat :=
  let c0_628 : Index := 0#32
  let arg1 : BitVec 32 := BitVec.ofNat 32 (i 1).val
  let c7_i32 : BitVec 32 := 7#32
  let v3 : BitVec 32 := Scalar.muli arg1 c7_i32
  let arg2 : BitVec 32 := BitVec.ofNat 32 (i 2).val
  let v4 : BitVec 32 := Scalar.addi v3 arg2
  let v1135 : Index := Scalar.indexCast v4
  let c1536_629 : Index := 1536#32
  ![0, v1135.toNat, 1536]
def k0_off8 (i : grid0.Coords) : Fin 3 → Nat :=
  let c0_820 : Index := 0#32
  let arg1 : BitVec 32 := BitVec.ofNat 32 (i 1).val
  let c7_i32 : BitVec 32 := 7#32
  let v3 : BitVec 32 := Scalar.muli arg1 c7_i32
  let arg2 : BitVec 32 := BitVec.ofNat 32 (i 2).val
  let v4 : BitVec 32 := Scalar.addi v3 arg2
  let v1439 : Index := Scalar.indexCast v4
  let c1792_821 : Index := 1792#32
  ![0, v1439.toNat, 1792]
def k0_off9 (i : grid0.Coords) : Fin 3 → Nat :=
  let c0_1038 : Index := 0#32
  let arg1 : BitVec 32 := BitVec.ofNat 32 (i 1).val
  let c7_i32 : BitVec 32 := 7#32
  let v3 : BitVec 32 := Scalar.muli arg1 c7_i32
  let arg2 : BitVec 32 := BitVec.ofNat 32 (i 2).val
  let v4 : BitVec 32 := Scalar.addi v3 arg2
  let v1779 : Index := Scalar.indexCast v4
  let c2048_1039 : Index := 2048#32
  ![0, v1779.toNat, 2048]
def k0_off10 (i : grid0.Coords) : Fin 3 → Nat :=
  let c0_1282 : Index := 0#32
  let arg1 : BitVec 32 := BitVec.ofNat 32 (i 1).val
  let c7_i32 : BitVec 32 := 7#32
  let v3 : BitVec 32 := Scalar.muli arg1 c7_i32
  let arg2 : BitVec 32 := BitVec.ofNat 32 (i 2).val
  let v4 : BitVec 32 := Scalar.addi v3 arg2
  let v2155 : Index := Scalar.indexCast v4
  let c2304_1283 : Index := 2304#32
  ![0, v2155.toNat, 2304]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg1 c7_i32
  let v1 : BitVec 32 := Scalar.addi v0 arg2
  let c0_i32 : BitVec 32 := 0#32
  let c0_i32_0 : BitVec 32 := 0#32
  let c0_i32_1 : BitVec 32 := 0#32
  ![arg0.toNat, v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg1 c7_i32
  let v1 : BitVec 32 := Scalar.addi v0 arg2
  let c0_i32 : BitVec 32 := 0#32
  let c0_i32_0 : BitVec 32 := 0#32
  ![arg0.toNat, c0_i32.toNat, v1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg1 c7_i32
  let v1 : BitVec 32 := Scalar.addi v0 arg2
  let c0_i32 : BitVec 32 := 0#32
  let c0_i32_0 : BitVec 32 := 0#32
  let c0_i32_1 : BitVec 32 := 0#32
  ![arg0.toNat, v1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2560x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x64x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2560x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x128x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2560x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x2560x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x28x2560 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S12x28x2560x128 : Shape := ⟨4, ![12, 28, 2560, 128]⟩
abbrev S12x64x2560 : Shape := ⟨3, ![12, 64, 2560]⟩
abbrev S12x4x2560x128 : Shape := ⟨4, ![12, 4, 2560, 128]⟩
abbrev S12x4x2560 : Shape := ⟨3, ![12, 4, 2560]⟩
abbrev S12x4x128x2560 : Shape := ⟨4, ![12, 4, 128, 2560]⟩
abbrev S12x2560x3584 : Shape := ⟨3, ![12, 2560, 3584]⟩
abbrev S12x28x2560 : Shape := ⟨3, ![12, 28, 2560]⟩
abbrev S12x28x2560x64 : Shape := ⟨4, ![12, 28, 2560, 64]⟩
abbrev S12x2560x64 : Shape := ⟨3, ![12, 2560, 64]⟩
abbrev S12x2560x128 : Shape := ⟨3, ![12, 2560, 128]⟩
abbrev S12x1x2560x128 : Shape := ⟨4, ![12, 1, 2560, 128]⟩
abbrev S12x28x2560x1 : Shape := ⟨4, ![12, 28, 2560, 1]⟩
abbrev S1x1x1x248 : Shape := ⟨4, ![1, 1, 1, 248]⟩
abbrev S12x28x2560x248 : Shape := ⟨4, ![12, 28, 2560, 248]⟩
abbrev S12x4x1x2560x128 : Shape := ⟨5, ![12, 4, 1, 2560, 128]⟩
abbrev S12x4x7x2560x128 : Shape := ⟨5, ![12, 4, 7, 2560, 128]⟩
abbrev S12x28x2560x2560 : Shape := ⟨4, ![12, 28, 2560, 2560]⟩
abbrev S12x4x1x2560 : Shape := ⟨4, ![12, 4, 1, 2560]⟩
abbrev S12x4x7x2560 : Shape := ⟨4, ![12, 4, 7, 2560]⟩
abbrev S12x28x1x2560 : Shape := ⟨4, ![12, 28, 1, 2560]⟩
abbrev S12x4x1x128x2560 : Shape := ⟨5, ![12, 4, 1, 128, 2560]⟩
abbrev S12x4x7x128x2560 : Shape := ⟨5, ![12, 4, 7, 128, 2560]⟩
abbrev S12x28x128x2560 : Shape := ⟨4, ![12, 28, 128, 2560]⟩
abbrev S12x2560x28x128 : Shape := ⟨4, ![12, 2560, 28, 128]⟩

abbrev nBuf : Space → Nat
  | .hbm => 9
  | .vmem => 9
  | .smem => 0
  | _ => 0

abbrev bufTy : (tb : Table) → Fin (tcTables nBuf tb) → BufTy
  | .hbm, ⟨0, _⟩ => ⟨S12x28x2560x128, .bf16⟩
  | .hbm, ⟨1, _⟩ => ⟨S12x64x2560, .f32⟩
  | .hbm, ⟨2, _⟩ => ⟨S12x64x2560, .f32⟩
  | .hbm, ⟨3, _⟩ => ⟨S12x4x2560x128, .fp8e4m3⟩
  | .hbm, ⟨4, _⟩ => ⟨S12x4x2560, .f32⟩
  | .hbm, ⟨5, _⟩ => ⟨S12x4x128x2560, .bf16⟩
  | .hbm, ⟨6, _⟩ => ⟨S12x2560x3584, .bf16⟩
  | .hbm, ⟨7, _⟩ => ⟨S12x28x2560x128, .fp8e4m3⟩
  | .hbm, ⟨8, _⟩ => ⟨S12x28x2560, .f32⟩
  | .local _ .vmem, ⟨0, _⟩ => ⟨S12x28x2560x128, .bf16⟩
  | .local _ .vmem, ⟨1, _⟩ => ⟨S12x64x2560, .f32⟩
  | .local _ .vmem, ⟨2, _⟩ => ⟨S12x64x2560, .f32⟩
  | .local _ .vmem, ⟨3, _⟩ => ⟨S12x4x2560x128, .fp8e4m3⟩
  | .local _ .vmem, ⟨4, _⟩ => ⟨S12x4x2560, .f32⟩
  | .local _ .vmem, ⟨5, _⟩ => ⟨S12x4x128x2560, .bf16⟩
  | .local _ .vmem, ⟨6, _⟩ => ⟨S12x2560x3584, .bf16⟩
  | .local _ .vmem, ⟨7, _⟩ => ⟨S12x28x2560x128, .fp8e4m3⟩
  | .local _ .vmem, ⟨8, _⟩ => ⟨S12x28x2560, .f32⟩
  | _, _ => ⟨S12x28x2560x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S12x28x2560x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x64x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x64x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x4x2560x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x4x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x4x128x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x2560x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x28x2560x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x28x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Keys.lean ====
abbrev S3x12x2560 : Shape := ⟨3, ![3, 12, 2560]⟩
abbrev S64x128 : Shape := ⟨2, ![64, 128]⟩
abbrev S12x10240x128 : Shape := ⟨3, ![12, 10240, 128]⟩
abbrev S12x4x2560 : Shape := ⟨3, ![12, 4, 2560]⟩
abbrev S12x4x2560x128 : Shape := ⟨4, ![12, 4, 2560, 128]⟩
abbrev S12x4x128x2560 : Shape := ⟨4, ![12, 4, 128, 2560]⟩
abbrev S12x64x2560 : Shape := ⟨3, ![12, 64, 2560]⟩
abbrev S3x12x512 : Shape := ⟨3, ![3, 12, 512]⟩
abbrev S1x2048x128 : Shape := ⟨3, ![1, 2048, 128]⟩
abbrev S1x4x512 : Shape := ⟨3, ![1, 4, 512]⟩
abbrev S1x4x512x128 : Shape := ⟨4, ![1, 4, 512, 128]⟩
abbrev S1x4x128x512 : Shape := ⟨4, ![1, 4, 128, 512]⟩
abbrev S1x64x512 : Shape := ⟨3, ![1, 64, 512]⟩
abbrev S1024x128 : Shape := ⟨2, ![1024, 128]⟩
abbrev S2048x128 : Shape := ⟨2, ![2048, 128]⟩
abbrev S1x1x512 : Shape := ⟨3, ![1, 1, 512]⟩
abbrev S1x512 : Shape := ⟨2, ![1, 512]⟩
abbrev S16x512 : Shape := ⟨2, ![16, 512]⟩
abbrev S24x512 : Shape := ⟨2, ![24, 512]⟩
abbrev S64x512 : Shape := ⟨2, ![64, 512]⟩
abbrev S64x1 : Shape := ⟨2, ![64, 1]⟩
abbrev S128x512 : Shape := ⟨2, ![128, 512]⟩
abbrev S512x128 : Shape := ⟨2, ![512, 128]⟩
abbrev S512 : Shape := ⟨1, ![512]⟩
abbrev S512x1 : Shape := ⟨2, ![512, 1]⟩
abbrev S248x512 : Shape := ⟨2, ![248, 512]⟩
abbrev S1x1x512x128 : Shape := ⟨4, ![1, 1, 512, 128]⟩
abbrev S1x1x128x512 : Shape := ⟨4, ![1, 1, 128, 512]⟩

abbrev nBuf : Space → Nat
  | .hbm => 10
  | .vmem => 21
  | .smem => 0
  | _ => 0

abbrev bufTy : (tb : Table) → Fin (tcTables nBuf tb) → BufTy
  | .hbm, ⟨0, _⟩ => ⟨S3x12x2560, .i32⟩
  | .hbm, ⟨1, _⟩ => ⟨S64x128, .f32⟩
  | .hbm, ⟨2, _⟩ => ⟨S12x10240x128, .bf16⟩
  | .hbm, ⟨3, _⟩ => ⟨S12x10240x128, .bf16⟩
  | .hbm, ⟨4, _⟩ => ⟨S12x10240x128, .fp8e4m3⟩
  | .hbm, ⟨5, _⟩ => ⟨S12x4x2560, .f32⟩
  | .hbm, ⟨6, _⟩ => ⟨S12x4x2560x128, .fp8e4m3⟩
  | .hbm, ⟨7, _⟩ => ⟨S12x4x128x2560, .bf16⟩
  | .hbm, ⟨8, _⟩ => ⟨S12x64x2560, .f32⟩
  | .hbm, ⟨9, _⟩ => ⟨S12x64x2560, .f32⟩
  | .local _ .vmem, ⟨0, _⟩ => ⟨S3x12x512, .i32⟩
  | .local _ .vmem, ⟨1, _⟩ => ⟨S3x12x512, .i32⟩
  | .local _ .vmem, ⟨2, _⟩ => ⟨S64x128, .f32⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .fp8e4m3⟩
  | .local _ .vmem, ⟨8, _⟩ => ⟨S1x2048x128, .fp8e4m3⟩
  | .local _ .vmem, ⟨9, _⟩ => ⟨S1x4x512, .f32⟩
  | .local _ .vmem, ⟨10, _⟩ => ⟨S1x4x512, .f32⟩
  | .local _ .vmem, ⟨11, _⟩ => ⟨S1x4x512x128, .fp8e4m3⟩
  | .local _ .vmem, ⟨12, _⟩ => ⟨S1x4x512x128, .fp8e4m3⟩
  | .local _ .vmem, ⟨13, _⟩ => ⟨S1x4x128x512, .bf16⟩
  | .local _ .vmem, ⟨14, _⟩ => ⟨S1x4x128x512, .bf16⟩
  | .local _ .vmem, ⟨15, _⟩ => ⟨S1x64x512, .f32⟩
  | .local _ .vmem, ⟨16, _⟩ => ⟨S1x64x512, .f32⟩
  | .local _ .vmem, ⟨17, _⟩ => ⟨S1x64x512, .f32⟩
  | .local _ .vmem, ⟨18, _⟩ => ⟨S1x64x512, .f32⟩
  | .local _ .vmem, ⟨19, _⟩ => ⟨S1024x128, .i32⟩
  | .local _ .vmem, ⟨20, _⟩ => ⟨S2048x128, .f32⟩
  | _, _ => ⟨S3x12x2560, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [BitOps F]

abbrev grid0 : Pipeline.Grid := ⟨2, ![12, 5], ![false, false]⟩

def k0_off1 (i : grid0.Coords) : Fin 3 → Nat :=
  let c0 : Index := 0#32
  let arg0 : BitVec 32 := BitVec.ofNat 32 (i 0).val
  let v0 : Index := Scalar.indexCast arg0
  let c0_0 : Index := 0#32
  ![0, v0.toNat, 0]
def k0_off2 (i : grid0.Coords) : Fin 3 → Nat :=
  let c1 : Index := 1#32
  let arg0 : BitVec 32 := BitVec.ofNat 32 (i 0).val
  let v4 : Index := Scalar.indexCast arg0
  let c0_1 : Index := 0#32
  ![1, v4.toNat, 0]
def k0_off3 (i : grid0.Coords) : Fin 3 → Nat :=
  let c2 : Index := 2#32
  let arg0 : BitVec 32 := BitVec.ofNat 32 (i 0).val
  let v8 : Index := Scalar.indexCast arg0
  let c0_2 : Index := 0#32
  ![2, v8.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S3x12x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KeysIdeal.lean ====
abbrev S1024x2x128 : Shape := ⟨3, ![1024, 2, 128]⟩
abbrev S1024x1x128 : Shape := ⟨3, ![1024, 1, 128]⟩
abbrev S512x2x128 : Shape := ⟨3, ![512, 2, 128]⟩
abbrev S512x1x128 : Shape := ⟨3, ![512, 1, 128]⟩
  | .local _ .vmem, ⟨19, _⟩ => ⟨S1024x2x128, .bf16⟩
variable {F : FTy → Type} [FloatOps F]
-- ==== KeysReferenceIdeal.lean ====
abbrev S3x12x2560 : Shape := ⟨3, ![3, 12, 2560]⟩
abbrev S64x128 : Shape := ⟨2, ![64, 128]⟩
abbrev S12x10240x128 : Shape := ⟨3, ![12, 10240, 128]⟩
abbrev S12x4x2560 : Shape := ⟨3, ![12, 4, 2560]⟩
abbrev S12x4x2560x128 : Shape := ⟨4, ![12, 4, 2560, 128]⟩
abbrev S12x4x128x2560 : Shape := ⟨4, ![12, 4, 128, 2560]⟩
abbrev S12x64x2560 : Shape := ⟨3, ![12, 64, 2560]⟩
abbrev S1x12x2560 : Shape := ⟨3, ![1, 12, 2560]⟩
abbrev S12x2560 : Shape := ⟨2, ![12, 2560]⟩
abbrev S12x1x2560 : Shape := ⟨3, ![12, 1, 2560]⟩
abbrev S12x16x2560 : Shape := ⟨3, ![12, 16, 2560]⟩
abbrev S12x24x2560 : Shape := ⟨3, ![12, 24, 2560]⟩
abbrev S64x1 : Shape := ⟨2, ![64, 1]⟩
abbrev S1x64x1 : Shape := ⟨3, ![1, 64, 1]⟩
abbrev S12x2560x4x128 : Shape := ⟨4, ![12, 2560, 4, 128]⟩
abbrev S12x2560x4x64 : Shape := ⟨4, ![12, 2560, 4, 64]⟩
abbrev S12x128x2560 : Shape := ⟨3, ![12, 128, 2560]⟩
abbrev S12x2560x128 : Shape := ⟨3, ![12, 2560, 128]⟩
abbrev S12x2560x1x128 : Shape := ⟨4, ![12, 2560, 1, 128]⟩
abbrev S12x2560x4 : Shape := ⟨3, ![12, 2560, 4]⟩
abbrev S12x2560x4x1 : Shape := ⟨4, ![12, 2560, 4, 1]⟩
abbrev S1x1x1x248 : Shape := ⟨4, ![1, 1, 1, 248]⟩
abbrev S12x2560x4x248 : Shape := ⟨4, ![12, 2560, 4, 248]⟩

abbrev nBuf : Space → Nat
  | .hbm => 10
  | .vmem => 10
  | .smem => 0
  | _ => 0

abbrev bufTy : (tb : Table) → Fin (tcTables nBuf tb) → BufTy
  | .hbm, ⟨0, _⟩ => ⟨S3x12x2560, .i32⟩
  | .hbm, ⟨1, _⟩ => ⟨S64x128, .f32⟩
  | .hbm, ⟨2, _⟩ => ⟨S12x10240x128, .bf16⟩
  | .hbm, ⟨3, _⟩ => ⟨S12x10240x128, .bf16⟩
  | .hbm, ⟨4, _⟩ => ⟨S12x10240x128, .fp8e4m3⟩
  | .hbm, ⟨5, _⟩ => ⟨S12x4x2560, .f32⟩
  | .hbm, ⟨6, _⟩ => ⟨S12x4x2560x128, .fp8e4m3⟩
  | .hbm, ⟨7, _⟩ => ⟨S12x4x128x2560, .bf16⟩
  | .hbm, ⟨8, _⟩ => ⟨S12x64x2560, .f32⟩
  | .hbm, ⟨9, _⟩ => ⟨S12x64x2560, .f32⟩
  | .local _ .vmem, ⟨0, _⟩ => ⟨S3x12x2560, .i32⟩
  | .local _ .vmem, ⟨1, _⟩ => ⟨S64x128, .f32⟩
  | .local _ .vmem, ⟨2, _⟩ => ⟨S12x10240x128, .bf16⟩
  | .local _ .vmem, ⟨3, _⟩ => ⟨S12x10240x128, .bf16⟩
  | .local _ .vmem, ⟨4, _⟩ => ⟨S12x10240x128, .fp8e4m3⟩
  | .local _ .vmem, ⟨5, _⟩ => ⟨S12x4x2560, .f32⟩
  | .local _ .vmem, ⟨6, _⟩ => ⟨S12x4x2560x128, .fp8e4m3⟩
  | .local _ .vmem, ⟨7, _⟩ => ⟨S12x4x128x2560, .bf16⟩
  | .local _ .vmem, ⟨8, _⟩ => ⟨S12x64x2560, .f32⟩
  | .local _ .vmem, ⟨9, _⟩ => ⟨S12x64x2560, .f32⟩
  | _, _ => ⟨S3x12x2560, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S3x12x2560 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x10240x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x10240x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x10240x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x4x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x4x2560x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x4x128x2560 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x64x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x64x2560 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.FrameRuns.lean ====
/-
  What the two runs of the kernel's body share, at any values: the program up to the launch, the blocks of each point,
  the buffers that the body gets, and when a point is the first of its group of seven.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- the long axes need a deep recursion
set_option maxRecDepth 16384

noncomputable section

namespace Cert.Kernel.Unchanged

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program up to the launch -/

/-- The arrays when the launch starts: as they are at the beginning. -/
abbrev V (c : Dev nD) (b : Ref sig .tc) : Buf (Elt F) ((c : Thread nD τ).loc b) := m ((c : Thread nD τ).loc b)

set_option maxHeartbeats 800000 in
/-- The program is the launch alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The blocks of a point -/

/-- The block of window `w` at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffer of this input holds its block at every point, whether it was copied in at this point or an earlier one. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The buffer of this input holds its block at every point, whether it was copied in at this point or an earlier one. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The buffer of this input holds its block at every point, whether it was copied in at this point or an earlier one. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The buffer of this input holds its block at every point, whether it was copied in at this point or an earlier one. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The buffer of this input holds its block at every point, whether it was copied in at this point or an earlier one. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- The buffer of this input holds its block at every point, whether it was copied in at this point or an earlier one. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run -/

/-- After a run, the argument arrays are as they were. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c))⟩) h

/-! ## The first point of a group -/

/-- The condition under which the body prepares the key scales. -/
abbrev cond0_0 (i : grid0.Coords) : Prop := (Scalar.cmpi .ne (Scalar.extui (Scalar.cmpi .eq (BitVec.ofNat 32 (i 2).val) 0#32)) 0#32) = 1#1
/-- It holds at the points that are multiples of seven. -/
theorem hcond0_0 : ∀ t : Fin cfg0.N, cond0_0 (grid0.coords t) ↔ t.val % 7 = 0 :=
  (fun t => by
    have ht : t.val < 336 := Nat.lt_of_lt_of_eq t.isLt N_0
    have e0 : (grid0.coords t 0).val = t.val / 28 % 12 := Pipeline.Grid.coords_val t 0 (by decide) rfl
    have e1 : (grid0.coords t 1).val = t.val / 7 % 4 := Pipeline.Grid.coords_val t 1 (by decide) rfl
    have e2 : (grid0.coords t 2).val = t.val / 1 % 7 := Pipeline.Grid.coords_val t 2 (by decide) rfl
    simp only [cond0_0, e0, e1, e2]
    word_cmp
   : ∀ t : Fin grid0.N, cond0_0 (grid0.coords t) ↔ t.val % 7 = 0)

/-! ## The buffers of the body -/

/-- The buffer of each window at a point, and that it is a whole array. -/
abbrev ms0_0 (t : Fin cfg0.N) : Memref sig .tc .vmem S1x1x2560x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x2560 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x2560 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2560x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4x2560 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x128x2560 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2560x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x2560x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x28x2560 .f32 := win0_8.stage (cfg0.slots t 8)
abbrev hs0_8 (t : Fin cfg0.N) : (ms0_8 t).IsWhole := hstage0_8 ((cfg0.slots t 8).cast nbuf0_8)
/-- The scratch arrays. -/
abbrev scM0_0 : Memref sig .tc .vmem S2560x128 .f32 := Memref.whole cc0_scratch0
abbrev scM0_1 : Memref sig .tc .vmem S128x2560 .fp8e4m3 := Memref.whole cc0_scratch1
abbrev scM0_2 : Memref sig .tc .vmem S2x2560x256 .f32 := Memref.whole cc0_scratch2
/-- The scratch array of the key scales, which is kept between points. -/
abbrev VS0_0 : View sig .tc .vmem S2560x128 .f32 := scM0_0.view

/-- The scratch arrays at any contents, as the body gets them and gives them back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Unchanged

end
-- ==== Proof.FrameFirst.lean ====
/-
  The kernel's body at the first point of a group of seven: it runs, and leaves its input blocks as it found them.
-/
module

public import proofs.«01_k».proof.Proof.FrameRuns

@[expose] public section

-- the long axes need a deep recursion
set_option maxRecDepth 16384

noncomputable section

namespace Cert.Kernel.Unchanged

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the proof term is large
set_option maxHeartbeats 5152000 in
/-- The pieces that the body stores into each buffer at the first point of a group of seven, with the proof that it runs
    from any contents of the outputs and the scratch arrays, and hands the inputs back as they were. -/
noncomputable def kernelRun0_A (c : Dev nD) (i : grid0.Coords) (arg3 : Memref sig .tc .vmem S1x1x2560x128 .bf16) (harg3 : arg3.IsWhole) (arg4 : Memref sig .tc .vmem S1x64x2560 .f32) (harg4 : arg4.IsWhole) (arg5 : Memref sig .tc .vmem S1x64x2560 .f32) (harg5 : arg5.IsWhole) (arg6 : Memref sig .tc .vmem S1x1x2560x128 .fp8e4m3) (harg6 : arg6.IsWhole) (arg7 : Memref sig .tc .vmem S1x4x2560 .f32) (harg7 : arg7.IsWhole) (arg8 : Memref sig .tc .vmem S1x1x128x2560 .bf16) (harg8 : arg8.IsWhole) (arg9 : Memref sig .tc .vmem S1x2560x128 .bf16) (harg9 : arg9.IsWhole) (arg10 : Memref sig .tc .vmem S1x1x2560x128 .fp8e4m3) (harg10 : arg10.IsWhole) (arg11 : Memref sig .tc .vmem S1x28x2560 .f32) (harg11 : arg11.IsWhole) (arg12 : Memref sig .tc .vmem S2560x128 .f32) (harg12 : arg12.IsWhole) (arg13 : Memref sig .tc .vmem S128x2560 .fp8e4m3) (harg13 : arg13.IsWhole) (arg14 : Memref sig .tc .vmem S2x2560x256 .f32) (harg14 : arg14.IsWhole) (hc0 : cond0_0 i)
    (x0 : Vec F S1x1x2560x128 .bf16) (x1 : Vec F S1x64x2560 .f32) (x2 : Vec F S1x64x2560 .f32) (x3 : Vec F S1x1x2560x128 .fp8e4m3) (x4 : Vec F S1x4x2560 .f32) (x5 : Vec F S1x1x128x2560 .bf16) :
    { LS0 : List (View.Piece (Elt F) S2560x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ f, arg12.view.loc (c : Thread nD τ) ↦[arg12.view.set]{fullShare} arg12.view.writes (Elt F) f LS0) ∗ (∃ d, owns (c : Thread nD τ) arg13 fullShare d) ∗ (∃ d, owns (c : Thread nD τ) arg14 fullShare d)) -∗ K ⟨⟩))
          ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_attention_eq_skeleton]; unfold cc0_attention_skel
    simp only [k0_part92_eq_skeleton, k0_part8_eq_skeleton, k0_part1_eq_skeleton, k0_part2_eq_skeleton, k0_part3_eq_skeleton, k0_part4_eq_skeleton, k0_part5_eq_skeleton, k0_part6_eq_skeleton, k0_part7_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]; · iexists _; iexact HS0
    isplitl [HS1]
    · iexists _, _; isplitr; swap; · iexact HS1
      ipureintro; rfl
    iexists _, _; isplitr; swap; · iexact HS2
    ipureintro; rfl

end Cert.Kernel.Unchanged

end
-- ==== Proof.FrameLater.lean ====
/-
  The kernel's body at the later points of a group of seven: it runs, and leaves its input blocks as it found them.
-/
module

public import proofs.«01_k».proof.Proof.FrameFirst

@[expose] public section

-- the long axes need a deep recursion
set_option maxRecDepth 16384

noncomputable section

namespace Cert.Kernel.Unchanged

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the proof term is large
set_option maxHeartbeats 4692000 in
/-- The pieces that the body stores into each buffer at a later point of a group of seven, with the proof that it runs
    from any contents of the outputs and the scratch arrays, and hands the inputs back as they were. -/
noncomputable def kernelRun0_B (c : Dev nD) (i : grid0.Coords) (arg3 : Memref sig .tc .vmem S1x1x2560x128 .bf16) (harg3 : arg3.IsWhole) (arg4 : Memref sig .tc .vmem S1x64x2560 .f32) (harg4 : arg4.IsWhole) (arg5 : Memref sig .tc .vmem S1x64x2560 .f32) (harg5 : arg5.IsWhole) (arg6 : Memref sig .tc .vmem S1x1x2560x128 .fp8e4m3) (harg6 : arg6.IsWhole) (arg7 : Memref sig .tc .vmem S1x4x2560 .f32) (harg7 : arg7.IsWhole) (arg8 : Memref sig .tc .vmem S1x1x128x2560 .bf16) (harg8 : arg8.IsWhole) (arg9 : Memref sig .tc .vmem S1x2560x128 .bf16) (harg9 : arg9.IsWhole) (arg10 : Memref sig .tc .vmem S1x1x2560x128 .fp8e4m3) (harg10 : arg10.IsWhole) (arg11 : Memref sig .tc .vmem S1x28x2560 .f32) (harg11 : arg11.IsWhole) (arg12 : Memref sig .tc .vmem S2560x128 .f32) (harg12 : arg12.IsWhole) (arg13 : Memref sig .tc .vmem S128x2560 .fp8e4m3) (harg13 : arg13.IsWhole) (arg14 : Memref sig .tc .vmem S2x2560x256 .f32) (harg14 : arg14.IsWhole) (hc0 : ¬cond0_0 i)
    (x0 : Vec F S1x1x2560x128 .bf16) (x1 : Vec F S1x64x2560 .f32) (x2 : Vec F S1x64x2560 .f32) (x3 : Vec F S1x1x2560x128 .fp8e4m3) (x4 : Vec F S1x4x2560 .f32) (x5 : Vec F S1x1x128x2560 .bf16) (xs0 : Vec F S2560x128 .f32) :
    { LS0 : List (View.Piece (Elt F) S2560x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ (∃ d, owns (c : Thread nD τ) arg13 fullShare d) ∗ (∃ d, owns (c : Thread nD τ) arg14 fullShare d)) -∗ K ⟨⟩))
          ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14) K } := by
  refine ⟨[], fun E K => ?run⟩
  case run =>
    simp only [cc0_attention_eq_skeleton]; unfold cc0_attention_skel
    simp only [k0_part92_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg12.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _; isplitr; · ipureintro; exact harg12.read_unread _
      iexact HS0
    isplitl [HS1]
    · iexists _, _; isplitr; swap; · iexact HS1
      ipureintro; rfl
    iexists _, _; isplitr; swap; · iexact HS2
    ipureintro; rfl

end Cert.Kernel.Unchanged

end
-- ==== Proof.FrameKernel.lean ====
/-
  The kernel as printed, at any values: it runs, its argument arrays end unchanged, and every counter ends at zero.
  What it leaves in its results is not stated here.
-/
module

public import proofs.«01_k».proof.Proof.FrameLater
public import Idealize.ShloMosaic.Lib.Claim

@[expose] public section

-- the long axes need a deep recursion
set_option maxRecDepth 16384

noncomputable section

namespace Cert.Kernel.Unchanged

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- At the first point of a group the stores cover the key scales: 20 pieces. -/
theorem scover0_A_0 (c : Dev nD) (i : grid0.Coords) (arg3 : Memref sig .tc .vmem S1x1x2560x128 .bf16) (harg3 : arg3.IsWhole) (arg4 : Memref sig .tc .vmem S1x64x2560 .f32) (harg4 : arg4.IsWhole) (arg5 : Memref sig .tc .vmem S1x64x2560 .f32) (harg5 : arg5.IsWhole) (arg6 : Memref sig .tc .vmem S1x1x2560x128 .fp8e4m3) (harg6 : arg6.IsWhole) (arg7 : Memref sig .tc .vmem S1x4x2560 .f32) (harg7 : arg7.IsWhole) (arg8 : Memref sig .tc .vmem S1x1x128x2560 .bf16) (harg8 : arg8.IsWhole) (arg9 : Memref sig .tc .vmem S1x2560x128 .bf16) (harg9 : arg9.IsWhole) (arg10 : Memref sig .tc .vmem S1x1x2560x128 .fp8e4m3) (harg10 : arg10.IsWhole) (arg11 : Memref sig .tc .vmem S1x28x2560 .f32) (harg11 : arg11.IsWhole) (arg12 : Memref sig .tc .vmem S2560x128 .f32) (harg12 : arg12.IsWhole) (arg13 : Memref sig .tc .vmem S128x2560 .fp8e4m3) (harg13 : arg13.IsWhole) (arg14 : Memref sig .tc .vmem S2x2560x256 .f32) (harg14 : arg14.IsWhole) (hc0 : cond0_0 i)
    (x0 : Vec F S1x1x2560x128 .bf16) (x1 : Vec F S1x64x2560 .f32) (x2 : Vec F S1x64x2560 .f32) (x3 : Vec F S1x1x2560x128 .fp8e4m3) (x4 : Vec F S1x4x2560 .f32) (x5 : Vec F S1x1x128x2560 .bf16) (y : S2560x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5).1 S128x128.size (by sl_kernel_rfl) y

/-- What the first point leaves in the key scales. -/
def sout0_A_0 (c : Dev nD) (i : grid0.Coords) (arg3 : Memref sig .tc .vmem S1x1x2560x128 .bf16) (harg3 : arg3.IsWhole) (arg4 : Memref sig .tc .vmem S1x64x2560 .f32) (harg4 : arg4.IsWhole) (arg5 : Memref sig .tc .vmem S1x64x2560 .f32) (harg5 : arg5.IsWhole) (arg6 : Memref sig .tc .vmem S1x1x2560x128 .fp8e4m3) (harg6 : arg6.IsWhole) (arg7 : Memref sig .tc .vmem S1x4x2560 .f32) (harg7 : arg7.IsWhole) (arg8 : Memref sig .tc .vmem S1x1x128x2560 .bf16) (harg8 : arg8.IsWhole) (arg9 : Memref sig .tc .vmem S1x2560x128 .bf16) (harg9 : arg9.IsWhole) (arg10 : Memref sig .tc .vmem S1x1x2560x128 .fp8e4m3) (harg10 : arg10.IsWhole) (arg11 : Memref sig .tc .vmem S1x28x2560 .f32) (harg11 : arg11.IsWhole) (arg12 : Memref sig .tc .vmem S2560x128 .f32) (harg12 : arg12.IsWhole) (arg13 : Memref sig .tc .vmem S128x2560 .fp8e4m3) (harg13 : arg13.IsWhole) (arg14 : Memref sig .tc .vmem S2x2560x256 .f32) (harg14 : arg14.IsWhole) (hc0 : cond0_0 i)
    (x0 : Vec F S1x1x2560x128 .bf16) (x1 : Vec F S1x64x2560 .f32) (x2 : Vec F S1x64x2560 .f32) (x3 : Vec F S1x1x2560x128 .fp8e4m3) (x4 : Vec F S1x4x2560 .f32) (x5 : Vec F S1x1x128x2560 .bf16) : Vec F S2560x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5).1)

/-- A later point leaves the key scales as they were. -/
def sout0_B_0 (c : Dev nD) (i : grid0.Coords) (arg3 : Memref sig .tc .vmem S1x1x2560x128 .bf16) (harg3 : arg3.IsWhole) (arg4 : Memref sig .tc .vmem S1x64x2560 .f32) (harg4 : arg4.IsWhole) (arg5 : Memref sig .tc .vmem S1x64x2560 .f32) (harg5 : arg5.IsWhole) (arg6 : Memref sig .tc .vmem S1x1x2560x128 .fp8e4m3) (harg6 : arg6.IsWhole) (arg7 : Memref sig .tc .vmem S1x4x2560 .f32) (harg7 : arg7.IsWhole) (arg8 : Memref sig .tc .vmem S1x1x128x2560 .bf16) (harg8 : arg8.IsWhole) (arg9 : Memref sig .tc .vmem S1x2560x128 .bf16) (harg9 : arg9.IsWhole) (arg10 : Memref sig .tc .vmem S1x1x2560x128 .fp8e4m3) (harg10 : arg10.IsWhole) (arg11 : Memref sig .tc .vmem S1x28x2560 .f32) (harg11 : arg11.IsWhole) (arg12 : Memref sig .tc .vmem S2560x128 .f32) (harg12 : arg12.IsWhole) (arg13 : Memref sig .tc .vmem S128x2560 .fp8e4m3) (harg13 : arg13.IsWhole) (arg14 : Memref sig .tc .vmem S2x2560x256 .f32) (harg14 : arg14.IsWhole) (hc0 : ¬cond0_0 i)
    (x0 : Vec F S1x1x2560x128 .bf16) (x1 : Vec F S1x64x2560 .f32) (x2 : Vec F S1x64x2560 .f32) (x3 : Vec F S1x1x2560x128 .fp8e4m3) (x4 : Vec F S1x4x2560 .f32) (x5 : Vec F S1x1x128x2560 .bf16) (xs0 : Vec F S2560x128 .f32) : Vec F S2560x128 .f32 := xs0

/-! ## The key scales after each point -/

/-- What the buffers hold after position `n`, by recursion over the points. -/
def outsAt0 (c : Dev nD) : (n : ℕ) → n < cfg0.N → Vec F S2560x128 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 7 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))

/-- At the first point of a group. -/
theorem outsAt0_A (c : Dev nD) (t : Fin cfg0.N) (h0 : t.val % 7 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

/-- At a later point, from what the point before left. -/
theorem outsAt0_B (c : Dev nD) (t : Fin cfg0.N) (h0 : ¬t.val % 7 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The invariant before position `n`: at the start every scratch array at anything; afterwards the key scales at what the
    point before left, the others at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n`. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The proof data -/

/-- The output windows, of which nothing is stated. -/
def forgets0 : Fin 9 → Bool := fun w => w.val == 6 || w.val == 7 || w.val == 8

/-- The proof data: the arrays at the launch, each input's block, the invariant above, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := PhiS m c t.val (Nat.le_of_lt_succ t.isLt)
  q _ := fullShare
  owed _ := 0

/-- The arrays of the proof data are those at the launch. -/
theorem A_eq (c : Dev nD) (w : Fin cfg0.W) : (dats m 0 c).A w = V m c (Pipeline.arrRef spec0 w) := by
  dsimp only [dats]

/-- The invariant at the start of a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 9600000 in
/-- The body at any point: the first of a group or a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 336 := lt_of_lt_of_eq t.isLt (show cfg0.N = 336 from N_0)
  by_cases h0 : t.val % 7 = 0
  · by_cases hz : t.val = 0
    · rw [PhiS_castSucc m c t, PhiS_zero m c _ _ hz, PhiA0_eq]
      rw [outsAt0_A m c t h0]
      unfold sout0_A_0
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, H5, H6, H7, H8, ⟨%es0, HS0⟩, HS1, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [PhiS_castSucc m c t, PhiS_pos m c _ _ hz]
      rw [outsAt0_A m c t h0]
      unfold sout0_A_0
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexists _; iexact HS0
      isplitl [HS1]; · iexact HS1
      isplitl [HS2]; · iexact HS2
      iintro ⟨H0, H1, H2, H3, H4, H5, H6, H7, H8, ⟨%es0, HS0⟩, HS1, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · by_cases hz : t.val = 0
    · exfalso; have hN : t.val < 336 := lt_of_lt_of_eq t.isLt (show cfg0.N = 336 from N_0); omega
    · rw [PhiS_castSucc m c t, PhiS_pos m c _ _ hz]
      rw [outsAt0_B m c t h0]
      unfold sout0_B_0
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body as the launch calls it. -/
theorem defs₀_row (t : Fin cfg0.N) :
    defs₀ (F := F) .tc cfg0.body (cfg0.bodyArgs t (cfg0.slots t)) = bodyAt0 t := by
  unfold defs₀; rw [Defs.onTc_tc]

/-- The body at every point, as the launch needs it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The invariant holds at the start. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the scratch arrays are given back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- And after the last point. -/
theorem hout (c : Dev nD) : (dats m 0 c).Φ (Fin.last cfg0.N) ⊢ Pipeline.ΦA spec0 c :=
  Phi_out m c _ (by rw [Fin.val_last]; have : cfg0.N = 336 := N_0; omega)

/-! ## The run -/

-- the implicit arguments below are found by unfolding definitions in a type

set_option backward.isDefEq.respectTransparency.types false in
/-- The launch, every counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run, without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The kernel runs, its argument arrays end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Unchanged

end
-- ==== Proof.AttnProg.lean ====
/-
  The attention kernel as a short program: the stored values are named functions of the loaded ones, and the
  unrolled tile loops are recursions on the tile number. `attention_eq` says the printed kernel is this program.
-/
module

public import proofs.«01_k».proof.Proof.Gen.KernelIdeal
public import Idealize.ShloMosaic.Lib.Tactic

@[expose] public section

set_option synthInstance.maxSize 4096

noncomputable section

namespace Cert.KernelIdeal.Attn

open Idealize.ShloMosaic Idealize.SL.Sem
open Cert.KernelIdeal Cert.KernelIdeal.Facts₀ Cert.KernelIdeal.Facts

variable {F : FTy → Type} [FloatOps F] [Named F] [Cert.KernelIdeal.Facts]

/-! ## The values -/

/-- One chunk of the key scales of KV head `kv`, spread over lanes. -/
def kcolOf (kv : BitVec 32) (x : Vec F S1x4x128 .f32) : FVec F S128x128 .f32 :=
  have a : FVec F S4x128 .f32 := shapeCast S4x128 x shapeCasts_S1x4x128_S4x128
  have m : IVec S4x128 1 := cmpi .eq (iota .tc S4x128 32 [0] iota_S4x128_d0_w32) (broadcast S4x128 kv)
  have z : FVec F S4x128 .f32 := broadcast S4x128 (Scalar.ofBits .f32 0x00000000#32)
  have r : FVec F S128 .f32 := multiReduction .maximumf [0] S128 (select m a z) 0xFF800000#32 reduces_S4x128_S128 (.inl rfl) rfl
  shapeCast S128x128 (transpose S128x128 [1, 0] (broadcastTo S128x128 (shapeCast S1x128 (shapeCast S1x128 r shapeCasts_S128_S1x128) shapeCasts_S1x128_S1x128) broadcasts_S1x128_S128x128) transposes_S128x128_p1_0_S128x128) shapeCasts_S128x128_S128x128

/-- The first and the second half of the query features, in f32. -/
def half1 (q : Vec F S1x1x256x128 .bf16) : FVec F S64x256 .f32 :=
  extf .f32 (extractStridedSlice S64x256 ![0, 0] (transpose S128x256 [1, 0] (shapeCast S256x128 q shapeCasts_S1x1x256x128_S256x128 : FVec F S256x128 .bf16) transposes_S256x128_p1_0_S128x256) slices_S128x256_o0_0_S64x256) bitsLt_bf16_f32
def half2 (q : Vec F S1x1x256x128 .bf16) : FVec F S64x256 .f32 :=
  extf .f32 (extractStridedSlice S64x256 ![64, 0] (transpose S128x256 [1, 0] (shapeCast S256x128 q shapeCasts_S1x1x256x128_S256x128 : FVec F S256x128 .bf16) transposes_S256x128_p1_0_S128x256) slices_S128x256_o64_0_S64x256) bitsLt_bf16_f32

/-- The two halves of the rotated query. -/
def rot1 (q : Vec F S1x1x256x128 .bf16) (c s : Vec F S1x64x256 .f32) : FVec F S64x256 .f32 :=
  subf (mulf (half1 q) (shapeCast S64x256 c shapeCasts_S1x64x256_S64x256)) (mulf (half2 q) (shapeCast S64x256 s shapeCasts_S1x64x256_S64x256))
def rot2 (q : Vec F S1x1x256x128 .bf16) (c s : Vec F S1x64x256 .f32) : FVec F S64x256 .f32 :=
  addf (mulf (half2 q) (shapeCast S64x256 c shapeCasts_S1x64x256_S64x256)) (mulf (half1 q) (shapeCast S64x256 s shapeCasts_S1x64x256_S64x256))

/-- The largest magnitude of a column over 448. -/
def amaxOf (r1 r2 : FVec F S64x256 .f32) : FVec F S1x256 .f32 :=
  mulf (shapeCast S1x256 (multiReduction .maximumf [0] S256 (maximumf (absf r1) (absf r2)) 0xFF800000#32 reduces_S64x256_S256 (.inl rfl) rfl) shapeCasts_S256_S1x256)
    (broadcast S1x256 (Scalar.ofBits .f32 0x3B124925#32))

/-- The table of powers of two, and of their reciprocals. -/
def pows : FVec F S248x256 .f32 :=
  bitcastToFloat .f32 (shli (addi (iota .tc S248x256 32 [0] iota_S248x256_d0_w32) (broadcast S248x256 (1#32))) (broadcast S248x256 (23#32)))
def invs : FVec F S248x256 .f32 :=
  bitcastToFloat .f32 (shli (subi (broadcast S248x256 (253#32)) (iota .tc S248x256 32 [0] iota_S248x256_d0_w32)) (broadcast S248x256 (23#32)))
def aboveOf (y : FVec F S1x256 .f32) : IVec S248x256 1 :=
  cmpf .olt (broadcastTo S248x256 (shapeCast S1x256 y shapeCasts_S1x256_S1x256) broadcasts_S1x256_S248x256) pows
def zeroOf (y : FVec F S1x256 .f32) : IVec S1x256 1 :=
  cmpf .oeq y (broadcast S1x256 (Scalar.ofBits .f32 0x00000000#32))

/-- The power-of-two scale of each column, and its reciprocal. -/
def scaleOf (y : FVec F S1x256 .f32) : FVec F S1x256 .f32 :=
  select (zeroOf y) (broadcast S1x256 (Scalar.ofBits .f32 0x3F800000#32))
    (shapeCast S1x256 (multiReduction .minimumf [0] S256 (select (aboveOf y) pows (broadcast S248x256 (Scalar.ofBits .f32 0x7C800000#32))) 0x7F800000#32 reduces_S248x256_S256 (.inl rfl) rfl) shapeCasts_S256_S1x256)
def invOf (y : FVec F S1x256 .f32) : FVec F S1x256 .f32 :=
  select (zeroOf y) (broadcast S1x256 (Scalar.ofBits .f32 0x3F800000#32))
    (shapeCast S1x256 (multiReduction .maximumf [0] S256 (select (aboveOf y) invs (broadcast S248x256 (Scalar.ofBits .f32 0x02800000#32))) 0xFF800000#32 reduces_S248x256_S256 (.inl rfl) rfl) shapeCasts_S256_S1x256)

/-- The codes of one half. -/
def clipOf (r : FVec F S64x256 .f32) (inv : FVec F S1x256 .f32) : FVec F S64x256 .fp8e4m3 :=
  truncf .fp8e4m3 (minimumf (broadcast S64x256 (Scalar.ofBits .f32 0x43E00000#32)) (maximumf (broadcast S64x256 (Scalar.ofBits .f32 0xC3E00000#32))
    (mulf r (broadcastTo S64x256 inv broadcasts_S1x256_S64x256)))) bitsLt_fp8e4m3_f32
def codesOf (r1 r2 : FVec F S64x256 .f32) (inv : FVec F S1x256 .f32) : FVec F S128x256 .fp8e4m3 :=
  concatenate S128x256 0 [⟨S64x256, clipOf r1 inv⟩, ⟨S64x256, clipOf r2 inv⟩] concatenates_S64x256_S64x256_S128x256_d0

def yOf (q : Vec F S1x1x256x128 .bf16) (c s : Vec F S1x64x256 .f32) : FVec F S1x256 .f32 := amaxOf (rot1 q c s) (rot2 q c s)
def tileCodes (q : Vec F S1x1x256x128 .bf16) (c s : Vec F S1x64x256 .f32) : FVec F S128x256 .fp8e4m3 :=
  codesOf (rot1 q c s) (rot2 q c s) (invOf (yOf q c s))

def factorOf (scale : FVec F S1x256 .f32) : FVec F S1x256 .f32 :=
  mulf (mulf scale (broadcast S1x256 (Scalar.ofBits .f32 0x3DB504F3#32))) (broadcast S1x256 (Named.named κ "log2e" 0x3FB8AA3B#32))

/-- Scores of a tile of keys against a tile of queries, before scaling. -/
def dotOf (k : Vec F S1x1x256x128 .fp8e4m3) (q : Vec F S128x256 .fp8e4m3) : FVec F S256x256 .f32 :=
  matmul dot_S256x128_S128x256_S256x256_1_0_0_1_n_n none (shapeCast S256x128 k shapeCasts_S1x1x256x128_S256x128 : FVec F S256x128 .fp8e4m3) (q : FVec F S128x256 .fp8e4m3) (constant S256x256 .f32 0x00000000#32)
def left (d : FVec F S256x256 .f32) (kc : Vec F S256x128 .f32) : FVec F S256x128 .f32 :=
  mulf (extractStridedSlice S256x128 ![0, 0] d slices_S256x256_o0_0_S256x128) kc
def right (d : FVec F S256x256 .f32) (kc : Vec F S256x128 .f32) : FVec F S256x128 .f32 :=
  mulf (extractStridedSlice S256x128 ![0, 128] d slices_S256x256_o0_128_S256x128) kc
def ninf : FVec F S128x128 .f32 := broadcast S128x128 (Scalar.ofBits .f32 0xFF800000#32)
def causal : IVec S128x128 1 := cmpi .sle (iota .tc S128x128 32 [0] iota_S128x128_d0_w32) (iota .tc S128x128 32 [1] iota_S128x128_d1_w32)
def maskLeft (t : FVec F S256x128 .f32) : FVec F S256x128 .f32 :=
  concatenate S256x128 0 [⟨S128x128, select causal (extractStridedSlice S128x128 ![0, 0] t slices_S256x128_o0_0_S128x128) ninf⟩, ⟨S128x128, ninf⟩] concatenates_S128x128_S128x128_S256x128_d0
def maskRight (t : FVec F S256x128 .f32) : FVec F S256x128 .f32 :=
  concatenate S256x128 0 [⟨S128x128, extractStridedSlice S128x128 ![0, 0] t slices_S256x128_o0_0_S128x128⟩, ⟨S128x128, select causal (extractStridedSlice S128x128 ![128, 0] t slices_S256x128_o128_0_S128x128) ninf⟩] concatenates_S128x128_S128x128_S256x128_d0
def topHalf (t : FVec F S256x128 .f32) : FVec F S8x128 .f32 :=
  multiReduction .maximumf [0] S8x128 (shapeCast S32x8x128 t shapeCasts_S256x128_S32x8x128) 0xFF800000#32 reduces_S32x8x128_S8x128 (.inl rfl) rfl
def topOf (a b : FVec F S256x128 .f32) : FVec F S8x256 .f32 :=
  concatenate S8x256 1 [⟨S8x128, topHalf a⟩, ⟨S8x128, topHalf b⟩] concatenates_S8x128_S8x128_S8x256_d1
def shiftOf (top : FVec F S8x256 .f32) (factor : FVec F S1x256 .f32) : FVec F S1x256 .f32 :=
  mulf (shapeCast S1x256 (multiReduction .maximumf [0] S256 top 0xFF800000#32 reduces_S8x256_S256 (.inl rfl) rfl) shapeCasts_S256_S1x256) factor

/-- The weights, their product with the values, and their sums. -/
def weights (t : Vec F S1x256x256 .f32) (factor shift : FVec F S1x256 .f32) : FVec F S256x256 .f32 :=
  exp2 (subf (mulf (shapeCast S256x256 t shapeCasts_S1x256x256_S256x256) (broadcastTo S256x256 factor broadcasts_S1x256_S256x256)) (broadcastTo S256x256 shift broadcasts_S1x256_S256x256))
def accOf (v : Vec F S1x1x128x256 .bf16) (p : FVec F S256x256 .f32) : FVec F S128x256 .f32 :=
  matmul dot_S128x256_S256x256_S128x256_1_0_0_1_n_n none (shapeCast S128x256 v shapeCasts_S1x1x128x256_S128x256 : FVec F S128x256 .bf16) (truncf .bf16 p bitsLt_bf16_f32) (constant S128x256 .f32 0x00000000#32)
def totalOf (p : FVec F S256x256 .f32) : FVec F S8x256 .f32 :=
  multiReduction .add [0] S8x256 (shapeCast S32x8x256 p shapeCasts_S256x256_S32x8x256) 0x00000000#32 reduces_S32x8x256_S8x256 (.inl rfl) rfl
def outOf (acc : FVec F S128x256 .f32) (total : FVec F S8x256 .f32) : FVec F S256x128 .bf16 :=
  transpose S256x128 [1, 0] (truncf .bf16 (mulf acc (broadcastTo S128x256 (divf (broadcast S1x256 (Scalar.ofBits .f32 0x3F800000#32))
    (shapeCast S1x256 (multiReduction .add [0] S256 total 0x00000000#32 reduces_S8x256_S256 (.inl rfl) rfl) shapeCasts_S256_S1x256)) broadcasts_S1x256_S128x256)) bitsLt_bf16_f32) transposes_S128x256_p1_0_S256x128

/-! ## In bounds -/

theorem inb_q (j : Fin 10) : ∀ a, (![0, 0, 256 * j.val, 0] : Fin 4 → Nat) a + S1x1x256x128.size a ≤ S1x1x2560x128.size a := by
  intro a; fin_cases a <;> first | exact Nat.le_refl _ | (show 256 * j.val + 256 ≤ 2560; omega)
theorem inb_c (j : Fin 10) : ∀ a, (![0, 0, 256 * j.val] : Fin 3 → Nat) a + S1x64x256.size a ≤ S1x64x2560.size a := by
  intro a; fin_cases a <;> first | exact Nat.le_refl _ | (show 256 * j.val + 256 ≤ 2560; omega)
theorem inb_qt (j : Fin 10) : ∀ a, (![0, 256 * j.val] : Fin 2 → Nat) a + S128x256.size a ≤ S128x2560.size a := by
  intro a; fin_cases a <;> first | exact Nat.le_refl _ | (show 256 * j.val + 256 ≤ 2560; omega)
theorem inb_ks (c : Fin 20) : ∀ a, (![0, 0, 128 * c.val] : Fin 3 → Nat) a + S1x4x128.size a ≤ S1x4x2560.size a := by
  intro a; fin_cases a <;> first | exact Nat.le_refl _ | (show 128 * c.val + 128 ≤ 2560; omega)
theorem inb_kcol (c : Fin 20) : ∀ a, (![128 * c.val, 0] : Fin 2 → Nat) a + S128x128.size a ≤ S2560x128.size a := by
  intro a; fin_cases a <;> first | exact Nat.le_refl _ | (show 128 * c.val + 128 ≤ 2560; omega)
theorem inb_kc (c : Fin 10) : ∀ a, (![256 * c.val, 0] : Fin 2 → Nat) a + S256x128.size a ≤ S2560x128.size a := by
  intro a; fin_cases a <;> first | exact Nat.le_refl _ | (show 256 * c.val + 256 ≤ 2560; omega)
theorem inb_v (c : Fin 10) : ∀ a, (![0, 0, 0, 256 * c.val] : Fin 4 → Nat) a + S1x1x128x256.size a ≤ S1x1x128x2560.size a := by
  intro a; fin_cases a <;> first | exact Nat.le_refl _ | (show 256 * c.val + 256 ≤ 2560; omega)
theorem inb_t (i c : Fin 10) (h : Fin 2) : ∀ a, (![i.val % 2, 256 * c.val, 128 * h.val] : Fin 3 → Nat) a + S1x256x128.size a ≤ S2x2560x256.size a := by
  intro a; fin_cases a <;> first | exact Nat.le_refl _ | (show i.val % 2 + 1 ≤ 2; omega) | (show 256 * c.val + 256 ≤ 2560; omega) | (show 128 * h.val + 128 ≤ 256; omega)
theorem inb_tt (i c : Fin 10) : ∀ a, (![i.val % 2, 256 * c.val, 0] : Fin 3 → Nat) a + S1x256x256.size a ≤ S2x2560x256.size a := by
  intro a; fin_cases a <;> first | exact Nat.le_refl _ | (show i.val % 2 + 1 ≤ 2; omega) | (show 256 * c.val + 256 ≤ 2560; omega)
theorem inb_o (j : Fin 10) : ∀ a, (![0, 256 * j.val, 0] : Fin 3 → Nat) a + S1x256x128.size a ≤ S1x2560x128.size a := by
  intro a; fin_cases a <;> first | exact Nat.le_refl _ | (show 256 * j.val + 256 ≤ 2560; omega)

/-- The head of a grid point, as the kernel computes it. -/
def headWord (i : grid0.Coords) : BitVec 32 :=
  Scalar.addi (Scalar.muli (BitVec.ofNat 32 (i 1).val) 7#32) (BitVec.ofNat 32 (i 2).val)

theorem headWord_toNat (i : grid0.Coords) : (Scalar.indexCast (headWord i) : BitVec 32).toNat = 7 * (i 1).val + (i 2).val := by
  have h1 : (i 1).val < 4 := (i 1).isLt
  have h2 : (i 2).val < 7 := (i 2).isLt
  show (BitVec.ofNat 32 (i 1).val * 7#32 + BitVec.ofNat 32 (i 2).val).toNat = _
  simp only [BitVec.toNat_add, BitVec.toNat_mul, BitVec.toNat_ofNat]
  omega

theorem inb_s (i : grid0.Coords) (j : Fin 10) :
    ∀ a, (![0, (Scalar.indexCast (headWord i) : BitVec 32).toNat, 256 * j.val] : Fin 3 → Nat) a + S1x1x256.size a ≤ S1x28x2560.size a := by
  have h1 : (i 1).val < 4 := (i 1).isLt
  have h2 : (i 2).val < 7 := (i 2).isLt
  have h := headWord_toNat i
  intro a; fin_cases a <;> first | exact Nat.le_refl _ | (show (Scalar.indexCast (headWord i) : BitVec 32).toNat + 1 ≤ 28; omega) | (show 256 * j.val + 256 ≤ 2560; omega)

theorem packed_qt (j : Fin 10) : (Rect.unit (s := S128x2560) ![0, 256 * j.val] S128x256.size (inb_qt j)).PackedRows (EltTy.packing .fp8e4m3) :=
  .inr ⟨by decide, rfl, .inl ⟨⟨0, rfl⟩, ⟨32, rfl⟩⟩⟩
theorem packed_qc (j : Fin 10) : (Rect.unit (s := S1x1x2560x128) ![0, 0, 256 * j.val, 0] S1x1x256x128.size (inb_q j)).PackedRows (EltTy.packing .fp8e4m3) :=
  .inr ⟨by decide, rfl, .inl ⟨⟨64 * j.val, by show 256 * j.val = 4 * (64 * j.val); omega⟩, ⟨64, rfl⟩⟩⟩
theorem packed_o (j : Fin 10) : (Rect.unit (s := S1x2560x128) ![0, 256 * j.val, 0] S1x256x128.size (inb_o j)).PackedRows (EltTy.packing .bf16) :=
  .inr ⟨by decide, rfl, .inl ⟨⟨128 * j.val, by show 256 * j.val = 2 * (128 * j.val); omega⟩, ⟨128, rfl⟩⟩⟩

/-! ## The program -/

section Program
variable (i : grid0.Coords) (arg3 : Memref sig .tc .vmem S1x1x2560x128 .bf16) (harg3 : arg3.IsWhole) (arg4 : Memref sig .tc .vmem S1x64x2560 .f32) (harg4 : arg4.IsWhole) (arg5 : Memref sig .tc .vmem S1x64x2560 .f32) (harg5 : arg5.IsWhole) (arg6 : Memref sig .tc .vmem S1x1x2560x128 .fp8e4m3) (harg6 : arg6.IsWhole) (arg7 : Memref sig .tc .vmem S1x4x2560 .f32) (harg7 : arg7.IsWhole) (arg8 : Memref sig .tc .vmem S1x1x128x2560 .bf16) (harg8 : arg8.IsWhole) (arg9 : Memref sig .tc .vmem S1x2560x128 .bf16) (harg9 : arg9.IsWhole) (arg10 : Memref sig .tc .vmem S1x1x2560x128 .fp8e4m3) (harg10 : arg10.IsWhole) (arg11 : Memref sig .tc .vmem S1x28x2560 .f32) (harg11 : arg11.IsWhole) (arg12 : Memref sig .tc .vmem S2560x128 .f32) (harg12 : arg12.IsWhole) (arg13 : Memref sig .tc .vmem S128x2560 .fp8e4m3) (harg13 : arg13.IsWhole) (arg14 : Memref sig .tc .vmem S2x2560x256 .f32) (harg14 : arg14.IsWhole)

/-- Fill one chunk of the key scales. -/
def kcolChunk (c : Fin 20) : Prog (TpuEff nD τ sig (Elt F) Λ₀ .tc) PUnit := do
  let x : Vec F S1x4x128 .f32 ← Prog.lift (.load arg7 (Rect.unit (s := S1x4x2560) ![0, 0, 128 * c.val] S1x4x128.size (inb_ks c)).toLoadRect (View.loadsAt_vmem h_S1x4x128))
  let _ : Vec F S128x128 .f32 ← Prog.lift (.load arg12 (Rect.unit (s := S2560x128) ![128 * c.val, 0] S128x128.size (inb_kcol c)).toLoadRect (View.loadsAt_vmem h_S128x128))
  Prog.lift (.store arg12 (Rect.unit (s := S2560x128) ![128 * c.val, 0] S128x128.size (inb_kcol c)) (kcolOf (BitVec.ofNat 32 (i 1).val) x) Finset.univ (View.stores_vmem_bits_univ h_S128x128 rfl) (.inl rfl))

def kcolFill : (n : Nat) → n ≤ 20 → Prog (TpuEff nD τ sig (Elt F) Λ₀ .tc) PUnit
  | 0, _ => pure ⟨⟩
  | n + 1, h => do
    kcolFill n (Nat.le_of_succ_le h)
    kcolChunk i arg7 arg12 ⟨n, h⟩

/-- Rotate and quantise one tile of queries; its score factor. -/
def prep (j : Fin 10) : Prog (TpuEff nD τ sig (Elt F) Λ₀ .tc) (FVec F S1x256 .f32) := do
  let q : Vec F S1x1x256x128 .bf16 ← Prog.lift (.load arg3 (Rect.unit (s := S1x1x2560x128) ![0, 0, 256 * j.val, 0] S1x1x256x128.size (inb_q j)).toLoadRect (View.loadsAt_vmem h_S1x1x256x128))
  let c : Vec F S1x64x256 .f32 ← Prog.lift (.load arg4 (Rect.unit (s := S1x64x2560) ![0, 0, 256 * j.val] S1x64x256.size (inb_c j)).toLoadRect (View.loadsAt_vmem h_S1x64x256))
  let s : Vec F S1x64x256 .f32 ← Prog.lift (.load arg5 (Rect.unit (s := S1x64x2560) ![0, 0, 256 * j.val] S1x64x256.size (inb_c j)).toLoadRect (View.loadsAt_vmem h_S1x64x256))
  let _ : Vec F S128x256 .fp8e4m3 ← Prog.lift (.load arg13 (Rect.unit (s := S128x2560) ![0, 256 * j.val] S128x256.size (inb_qt j)).toLoadRect (View.loadsAt_vmem h_S128x256))
  Prog.lift (.store arg13 (Rect.unit (s := S128x2560) ![0, 256 * j.val] S128x256.size (inb_qt j)) (shapeCast S128x256 (tileCodes q c s) shapeCasts_S128x256_S128x256) Finset.univ (View.stores_vmem h_S128x256 (harg13.storeExact_slice rfl _ (packed_qt j)) (fun _ => rfl)) (.inl rfl))
  let _ : Vec F S1x1x256x128 .fp8e4m3 ← Prog.lift (.load arg10 (Rect.unit (s := S1x1x2560x128) ![0, 0, 256 * j.val, 0] S1x1x256x128.size (inb_q j)).toLoadRect (View.loadsAt_vmem h_S1x1x256x128))
  Prog.lift (.store arg10 (Rect.unit (s := S1x1x2560x128) ![0, 0, 256 * j.val, 0] S1x1x256x128.size (inb_q j)) (shapeCast S1x1x256x128 (transpose S256x128 [1, 0] (tileCodes q c s) transposes_S128x256_p1_0_S256x128) shapeCasts_S256x128_S1x1x256x128) Finset.univ (View.stores_vmem h_S1x1x256x128 (harg10.storeExact_slice rfl _ (packed_qc j)) (fun _ => rfl)) (.inl rfl))
  let _ : Vec F S1x1x256 .f32 ← Prog.lift (.load arg11 (Rect.unit (s := S1x28x2560) ![0, (Scalar.indexCast (headWord i) : BitVec 32).toNat, 256 * j.val] S1x1x256.size (inb_s i j)).toLoadRect (View.loadsAt_vmem h_S1x1x256))
  Prog.lift (.store arg11 (Rect.unit (s := S1x28x2560) ![0, (Scalar.indexCast (headWord i) : BitVec 32).toNat, 256 * j.val] S1x1x256.size (inb_s i j)) (shapeCast S1x1x256 (scaleOf (yOf q c s)) shapeCasts_S1x256_S1x1x256) Finset.univ (View.stores_vmem_bits_univ h_S1x1x256 rfl) (.inl rfl))
  pure (factorOf (scaleOf (yOf q c s)))

/-- Scores of query tile `r` against key tile `c`, stored; their maximum over groups of eight keys. -/
def scores (r c : Fin 10) (fl fr : FVec F S256x128 .f32 → FVec F S256x128 .f32) : Prog (TpuEff nD τ sig (Elt F) Λ₀ .tc) (FVec F S8x256 .f32) := do
  let k : Vec F S1x1x256x128 .fp8e4m3 ← Prog.lift (.load arg6 (Rect.unit (s := S1x1x2560x128) ![0, 0, 256 * c.val, 0] S1x1x256x128.size (inb_q c)).toLoadRect (View.loadsAt_vmem h_S1x1x256x128))
  let q : Vec F S128x256 .fp8e4m3 ← Prog.lift (.load arg13 (Rect.unit (s := S128x2560) ![0, 256 * r.val] S128x256.size (inb_qt r)).toLoadRect (View.loadsAt_vmem h_S128x256))
  let kc : Vec F S256x128 .f32 ← Prog.lift (.load arg12 (Rect.unit (s := S2560x128) ![256 * c.val, 0] S256x128.size (inb_kc c)).toLoadRect (View.loadsAt_vmem h_S256x128))
  let _ : Vec F S1x256x128 .f32 ← Prog.lift (.load arg14 (Rect.unit (s := S2x2560x256) ![r.val % 2, 256 * c.val, 128 * (0 : Fin 2).val] S1x256x128.size (inb_t r c 0)).toLoadRect (View.loadsAt_vmem h_S1x256x128))
  Prog.lift (.store arg14 (Rect.unit (s := S2x2560x256) ![r.val % 2, 256 * c.val, 128 * (0 : Fin 2).val] S1x256x128.size (inb_t r c 0)) (shapeCast S1x256x128 (fl (left (dotOf k q) kc)) shapeCasts_S256x128_S1x256x128) Finset.univ (View.stores_vmem_bits_univ h_S1x256x128 rfl) (.inl rfl))
  let _ : Vec F S1x256x128 .f32 ← Prog.lift (.load arg14 (Rect.unit (s := S2x2560x256) ![r.val % 2, 256 * c.val, 128 * (1 : Fin 2).val] S1x256x128.size (inb_t r c 1)).toLoadRect (View.loadsAt_vmem h_S1x256x128))
  Prog.lift (.store arg14 (Rect.unit (s := S2x2560x256) ![r.val % 2, 256 * c.val, 128 * (1 : Fin 2).val] S1x256x128.size (inb_t r c 1)) (shapeCast S1x256x128 (fr (right (dotOf k q) kc)) shapeCasts_S256x128_S1x256x128) Finset.univ (View.stores_vmem_bits_univ h_S1x256x128 rfl) (.inl rfl))
  pure (topOf (fl (left (dotOf k q) kc)) (fr (right (dotOf k q) kc)))

/-- The weighted sum of values of key tile `c` for query tile `r`, and the sum of the weights. -/
def weigh (r c : Fin 10) (factor shift : FVec F S1x256 .f32) : Prog (TpuEff nD τ sig (Elt F) Λ₀ .tc) (FVec F S128x256 .f32 × FVec F S8x256 .f32) := do
  let t : Vec F S1x256x256 .f32 ← Prog.lift (.load arg14 (Rect.unit (s := S2x2560x256) ![r.val % 2, 256 * c.val, 0] S1x256x256.size (inb_tt r c)).toLoadRect (View.loadsAt_vmem h_S1x256x256))
  let v : Vec F S1x1x128x256 .bf16 ← Prog.lift (.load arg8 (Rect.unit (s := S1x1x128x2560) ![0, 0, 0, 256 * c.val] S1x1x128x256.size (inb_v c)).toLoadRect (View.loadsAt_vmem h_S1x1x128x256))
  pure (accOf v (weights t factor shift), totalOf (weights t factor shift))

/-- Normalise and store one tile of the output. -/
def outTile (r : Fin 10) (acc : FVec F S128x256 .f32) (total : FVec F S8x256 .f32) : Prog (TpuEff nD τ sig (Elt F) Λ₀ .tc) PUnit := do
  let _ : Vec F S1x256x128 .bf16 ← Prog.lift (.load arg9 (Rect.unit (s := S1x2560x128) ![0, 256 * r.val, 0] S1x256x128.size (inb_o r)).toLoadRect (View.loadsAt_vmem h_S1x256x128))
  Prog.lift (.store arg9 (Rect.unit (s := S1x2560x128) ![0, 256 * r.val, 0] S1x256x128.size (inb_o r)) (shapeCast S1x256x128 (outOf acc total) shapeCasts_S256x128_S1x256x128) Finset.univ (View.stores_vmem h_S1x256x128 (harg9.storeExact_slice rfl _ (packed_o r)) (fun _ => rfl)) (.inl rfl))

/-- Key tiles `0 … n` of row `r`: the scores of the next row, then the weights of this one. -/
def rowLoop (r : Fin 10) (hr : r.val + 1 < 10) (factor shift : FVec F S1x256 .f32) : (n : Nat) → n ≤ r.val →
    Prog (TpuEff nD τ sig (Elt F) Λ₀ .tc) (FVec F S8x256 .f32 × FVec F S128x256 .f32 × FVec F S8x256 .f32)
  | 0, _ => do
    let top ← scores arg6 arg12 arg13 arg14 ⟨r.val + 1, hr⟩ 0 id id
    let w ← weigh arg8 arg14 r 0 factor shift
    pure (top, w.1, w.2)
  | n + 1, h => do
    let st ← rowLoop r hr factor shift n (Nat.le_of_succ_le h)
    let top ← scores arg6 arg12 arg13 arg14 ⟨r.val + 1, hr⟩ ⟨n + 1, Nat.lt_of_le_of_lt h r.isLt⟩ id id
    let w ← weigh arg8 arg14 r ⟨n + 1, Nat.lt_of_le_of_lt h r.isLt⟩ factor shift
    pure (maximumf st.1 top, addf st.2.1 w.1, addf st.2.2 w.2)

/-- Row `r` after its shift: gives the maxima of row `r + 1`. -/
def rowBody (r : Fin 10) (hr : r.val + 1 < 10) (factor shift : FVec F S1x256 .f32) : Prog (TpuEff nD τ sig (Elt F) Λ₀ .tc) (FVec F S8x256 .f32) := do
  let st ← rowLoop arg6 arg8 arg12 arg13 arg14 r hr factor shift r.val (Nat.le_refl _)
  let top ← scores arg6 arg12 arg13 arg14 ⟨r.val + 1, hr⟩ ⟨r.val + 1, hr⟩ maskLeft maskRight
  outTile arg9 harg9 r st.2.1 st.2.2
  pure (maximumf st.1 top)

/-- Rows `0 … n - 1`, `n ≤ 8`: each also prepares the tile two rows on. -/
def rows : (n : Nat) → n ≤ 8 → Prog (TpuEff nD τ sig (Elt F) Λ₀ .tc) (FVec F S1x256 .f32 × FVec F S1x256 .f32 × FVec F S8x256 .f32)
  | 0, _ => do
    let f0 ← prep i arg3 arg4 arg5 arg10 harg10 arg11 arg13 harg13 0
    let f1 ← prep i arg3 arg4 arg5 arg10 harg10 arg11 arg13 harg13 1
    let top ← scores arg6 arg12 arg13 arg14 0 0 maskLeft maskRight
    pure (f0, f1, top)
  | n + 1, h => do
    let st ← rows n (Nat.le_of_succ_le h)
    let f ← prep i arg3 arg4 arg5 arg10 harg10 arg11 arg13 harg13 ⟨n + 2, by omega⟩
    let top ← rowBody arg6 arg8 arg9 harg9 arg12 arg13 arg14 ⟨n, by omega⟩ (by show n + 1 < 10; omega) st.1 (shiftOf st.2.2 st.1)
    pure (st.2.1, f, top)

/-- Key tiles `0 … n` of the last row. -/
def lastLoop (factor shift : FVec F S1x256 .f32) : (n : Nat) → n ≤ 9 →
    Prog (TpuEff nD τ sig (Elt F) Λ₀ .tc) (FVec F S128x256 .f32 × FVec F S8x256 .f32)
  | 0, _ => weigh arg8 arg14 9 0 factor shift
  | n + 1, h => do
    let st ← lastLoop factor shift n (Nat.le_of_succ_le h)
    let w ← weigh arg8 arg14 9 ⟨n + 1, Nat.lt_succ_of_le h⟩ factor shift
    pure (addf st.1 w.1, addf st.2 w.2)

/-- Everything after the key scales are in place. -/
def afterFill : Prog (TpuEff nD τ sig (Elt F) Λ₀ .tc) PUnit := do
  let st ← rows i arg3 arg4 arg5 arg6 arg8 arg9 harg9 arg10 harg10 arg11 arg12 arg13 harg13 arg14 8 (Nat.le_refl _)
  let top ← rowBody arg6 arg8 arg9 harg9 arg12 arg13 arg14 8 (by decide) st.1 (shiftOf st.2.2 st.1)
  let w ← lastLoop arg8 arg14 st.2.1 (shiftOf top st.2.1) 9 (Nat.le_refl _)
  outTile arg9 harg9 9 w.1 w.2

/-- Whether the point is the first of its KV head, as the kernel tests it. -/
def firstWord : BitVec 1 :=
  Scalar.cmpi .ne (Scalar.extui (Scalar.cmpi .eq (BitVec.ofNat 32 (i 2).val) 0#32) : BitVec 32) 0#32

theorem attention_eq_first (h : firstWord i = 1#1) :
    cc0_attention (F := F) i arg3 harg3 arg4 harg4 arg5 harg5 arg6 harg6 arg7 harg7 arg8 harg8 arg9 harg9 arg10 harg10 arg11 harg11 arg12 harg12 arg13 harg13 arg14 harg14
      = (do
          kcolFill i arg7 arg12 20 (Nat.le_refl _)
          afterFill i arg3 arg4 arg5 arg6 arg8 arg9 harg9 arg10 harg10 arg11 arg12 arg13 harg13 arg14) := by
  unfold cc0_attention k0_part92 k0_part8
  unfold firstWord at h
  simp only [dif_pos h]
  sl_kernel_rfl

theorem attention_eq_later (h : ¬ firstWord i = 1#1) :
    cc0_attention (F := F) i arg3 harg3 arg4 harg4 arg5 harg5 arg6 harg6 arg7 harg7 arg8 harg8 arg9 harg9 arg10 harg10 arg11 harg11 arg12 harg12 arg13 harg13 arg14 harg14
      = afterFill i arg3 arg4 arg5 arg6 arg8 arg9 harg9 arg10 harg10 arg11 arg12 arg13 harg13 arg14 := by
  unfold cc0_attention k0_part92 k0_part8
  unfold firstWord at h
  simp only [dif_neg h]
  sl_kernel_rfl

end Program

end Cert.KernelIdeal.Attn
-- ==== Proof.AttnHoare.lean ====
/-
  Running a program on owned memrefs: `Runs O p v O'` says that from the assertion `O` the program `p`
  gives `v` and leaves `O'`. Rules for loads, stores and sequencing.
-/
module

public import proofs.«01_k».proof.Proof.AttnProg
public import Idealize.ShloMosaic.Lib.Memref
public import Idealize.ShloMosaic.Lib.Pipeline.FrameBody

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {F : FTy → Type} [FloatOps F] [Named F] [Cert.KernelIdeal.Facts]

/-- Assertions about the memory of the devices. -/
abbrev Asn (F : FTy → Type) [FloatOps F] : Type _ := sProp (MT nD τ sig Unit (Elt F) ℕ (UR sig nD τ) ℕ)

/-- From `O` the program gives `v` and leaves `O'`. -/
def Runs (c : Dev nD) (O : Asn F) {α : Type} (p : Prog (TpuEff nD τ sig (Elt F) Λ₀ .tc) α) (v : α) (O' : Asn F) : Prop :=
  ∀ (E : Set ℕ) (K : α → Asn F), iprop(O ∗ (O' -∗ K v)) ⊢ wp frame (wpE (defs₀ (F := F)) Variants.none c none) E p K

variable {c : Dev nD} {O O' O₁ O₂ R : Asn F} {α β : Type}

theorem Runs.ret (a : α) : Runs c O (Pure.pure a : Prog (TpuEff nD τ sig (Elt F) Λ₀ .tc) α) a O := by
  intro E K
  rw [wp_pure]
  iintro ⟨HO, HK⟩
  iapply fupd_intro
  iapply HK
  iexact HO

theorem Runs.bind {p : Prog (TpuEff nD τ sig (Elt F) Λ₀ .tc) α} {k : α → Prog (TpuEff nD τ sig (Elt F) Λ₀ .tc) β} {a : α} {b : β}
    (h₁ : Runs c O p a O₁) (h₂ : Runs c O₁ (k a) b O₂) : Runs c O (p >>= k) b O₂ := by
  intro E K
  rw [wp_bind]
  refine .trans ?_ (h₁ E _)
  iintro ⟨HO, HK⟩
  isplitl [HO]; · iexact HO
  iintro HO
  iapply (h₂ E K)
  isplitl [HO]; · iexact HO
  iexact HK

theorem Runs.load {sh : Shape} {e : EltTy} {m : Memref sig .tc .vmem sh e} {X : sh.Idx → Elt F e}
    (hget : O ⊢ iprop(owns (c : Thread nD τ) m fullShare X ∗ R)) (hput : iprop(owns (c : Thread nD τ) m fullShare X ∗ R) ⊢ O)
    (r : Rect sh) (hl : m.view.LoadsAt r.toLoadRect) :
    Runs c O (Prog.lift (.load m r.toLoadRect hl)) (fun x => X (r.emb x)) O := by
  intro E K
  refine (sep_mono_left hget).trans ?_
  unfold owns
  iintro ⟨⟨⟨%f, %hf, H⟩, HR⟩, HK⟩
  subst hf
  iapply (wp_load Variants.none (c : Thread nD τ) none E (m := m) (r := r.toLoadRect) (hl := hl) (f := f)
    (S := m.view.set) (Finset.map_subset_map.mpr (Finset.subset_univ _))) $$ H
  iintro H
  iapply (le_wp_ret _ _ _ _ _)
  rw [show m.view.readAt (Elt F) r.toLoadRect f = fun x => m.view.read (Elt F) f (r.emb x) from rfl]
  iapply HK
  iapply hput
  isplitl [H]
  · iapply (owns_intro (c : Thread nD τ) m fullShare f); iexact H
  · iexact HR

theorem Runs.store {sh : Shape} {e : EltTy} {m : Memref sig .tc .vmem sh e} {X : sh.Idx → Elt F e} (r : Rect sh) (w : r.shape.Idx → Elt F e)
    (hget : O ⊢ iprop(owns (c : Thread nD τ) m fullShare X ∗ R)) (hput : iprop(owns (c : Thread nD τ) m fullShare (r.overlay X w) ∗ R) ⊢ O')
    (hx : (m.access r).Stores Finset.univ) (hm : (Finset.univ : Finset r.shape.Idx) = Finset.univ ∨ ∀ a, r.stride a = 1) :
    Runs c O (Prog.lift (.store m r w Finset.univ hx hm)) ⟨⟩ O' := by
  intro E K
  refine (sep_mono_left hget).trans ?_
  unfold owns
  iintro ⟨⟨⟨%f, %hf, H⟩, HR⟩, HK⟩
  subst hf
  iapply (wp_store Variants.none (c : Thread nD τ) none E (m := m) (r := r) (w := w) (hx := hx) (hm := hm) (f := f)
    (S := m.view.set) (by
      refine (show (m.access r).setOn Finset.univ ⊆ (m.access r).set from Finset.Subset.refl _).trans (m.view.set_slice_subset r))) $$ H
  iintro H
  iapply (le_wp_ret _ _ _ _ _)
  iapply HK
  iapply hput
  isplitl [H]
  · have h : m.view.read (Elt F) ((m.access r).write (Elt F) f w Finset.univ) = r.overlay (m.view.read (Elt F) f) w := by
      funext j
      by_cases hj : j ∈ r.set
      · obtain ⟨i, rfl⟩ := r.exists_idx_of_mem hj
        exact (View.read_slice_write_emb r f w (Finset.mem_univ i)).trans (r.overlay_emb _ _ i).symm
      · rw [Rect.overlay_of_not_mem _ _ _ hj]
        exact View.read_slice_write_of_not_mem r f w _ (by rw [Rect.map_emb_univ]; exact hj)
    rw [← h]
    iapply (owns_intro (c : Thread nD τ) m fullShare _); iexact H
  · iexact HR

/-! ## The kernel's twelve memrefs -/

/-- The memrefs the kernel body is given. -/
structure Mems where
  q : Memref sig .tc .vmem S1x1x2560x128 .bf16
  cos : Memref sig .tc .vmem S1x64x2560 .f32
  sin : Memref sig .tc .vmem S1x64x2560 .f32
  k : Memref sig .tc .vmem S1x1x2560x128 .fp8e4m3
  ks : Memref sig .tc .vmem S1x4x2560 .f32
  v : Memref sig .tc .vmem S1x1x128x2560 .bf16
  out : Memref sig .tc .vmem S1x2560x128 .bf16
  hout : out.IsWhole
  codes : Memref sig .tc .vmem S1x1x2560x128 .fp8e4m3
  hcodes : codes.IsWhole
  scales : Memref sig .tc .vmem S1x28x2560 .f32
  kcol : Memref sig .tc .vmem S2560x128 .f32
  qt : Memref sig .tc .vmem S128x2560 .fp8e4m3
  hqt : qt.IsWhole
  t : Memref sig .tc .vmem S2x2560x256 .f32

/-- The contents of the six input blocks. -/
structure Ins (F : FTy → Type) [FloatOps F] where
  q : Vec F S1x1x2560x128 .bf16
  cos : Vec F S1x64x2560 .f32
  sin : Vec F S1x64x2560 .f32
  k : Vec F S1x1x2560x128 .fp8e4m3
  ks : Vec F S1x4x2560 .f32
  v : Vec F S1x1x128x2560 .bf16

/-- The contents of the three output blocks and the three scratch arrays. -/
structure St (F : FTy → Type) [FloatOps F] where
  out : Vec F S1x2560x128 .bf16
  codes : Vec F S1x1x2560x128 .fp8e4m3
  scales : Vec F S1x28x2560 .f32
  kcol : Vec F S2560x128 .f32
  qt : Vec F S128x2560 .fp8e4m3
  t : Vec F S2x2560x256 .f32

/-- A state with one rectangle of one array replaced. -/
def St.putOut (s : St F) (r : Rect S1x2560x128) (w : r.shape.Idx → Elt F .bf16) : St F := { s with out := r.overlay s.out w }
def St.putCodes (s : St F) (r : Rect S1x1x2560x128) (w : r.shape.Idx → Elt F .fp8e4m3) : St F := { s with codes := r.overlay s.codes w }
def St.putScales (s : St F) (r : Rect S1x28x2560) (w : r.shape.Idx → Elt F .f32) : St F := { s with scales := r.overlay s.scales w }
def St.putKcol (s : St F) (r : Rect S2560x128) (w : r.shape.Idx → Elt F .f32) : St F := { s with kcol := r.overlay s.kcol w }
def St.putQt (s : St F) (r : Rect S128x2560) (w : r.shape.Idx → Elt F .fp8e4m3) : St F := { s with qt := r.overlay s.qt w }
def St.putT (s : St F) (r : Rect S2x2560x256) (w : r.shape.Idx → Elt F .f32) : St F := { s with t := r.overlay s.t w }

section Put
variable (s : St F)
@[simp] theorem St.out_putOut (r : Rect S1x2560x128) (w) : (s.putOut r w).out = r.overlay s.out w := rfl
@[simp] theorem St.codes_putOut (r : Rect S1x2560x128) (w) : (s.putOut r w).codes = s.codes := rfl
@[simp] theorem St.scales_putOut (r : Rect S1x2560x128) (w) : (s.putOut r w).scales = s.scales := rfl
@[simp] theorem St.kcol_putOut (r : Rect S1x2560x128) (w) : (s.putOut r w).kcol = s.kcol := rfl
@[simp] theorem St.qt_putOut (r : Rect S1x2560x128) (w) : (s.putOut r w).qt = s.qt := rfl
@[simp] theorem St.t_putOut (r : Rect S1x2560x128) (w) : (s.putOut r w).t = s.t := rfl
@[simp] theorem St.out_putCodes (r : Rect S1x1x2560x128) (w) : (s.putCodes r w).out = s.out := rfl
@[simp] theorem St.codes_putCodes (r : Rect S1x1x2560x128) (w) : (s.putCodes r w).codes = r.overlay s.codes w := rfl
@[simp] theorem St.scales_putCodes (r : Rect S1x1x2560x128) (w) : (s.putCodes r w).scales = s.scales := rfl
@[simp] theorem St.kcol_putCodes (r : Rect S1x1x2560x128) (w) : (s.putCodes r w).kcol = s.kcol := rfl
@[simp] theorem St.qt_putCodes (r : Rect S1x1x2560x128) (w) : (s.putCodes r w).qt = s.qt := rfl
@[simp] theorem St.t_putCodes (r : Rect S1x1x2560x128) (w) : (s.putCodes r w).t = s.t := rfl
@[simp] theorem St.out_putScales (r : Rect S1x28x2560) (w) : (s.putScales r w).out = s.out := rfl
@[simp] theorem St.codes_putScales (r : Rect S1x28x2560) (w) : (s.putScales r w).codes = s.codes := rfl
@[simp] theorem St.scales_putScales (r : Rect S1x28x2560) (w) : (s.putScales r w).scales = r.overlay s.scales w := rfl
@[simp] theorem St.kcol_putScales (r : Rect S1x28x2560) (w) : (s.putScales r w).kcol = s.kcol := rfl
@[simp] theorem St.qt_putScales (r : Rect S1x28x2560) (w) : (s.putScales r w).qt = s.qt := rfl
@[simp] theorem St.t_putScales (r : Rect S1x28x2560) (w) : (s.putScales r w).t = s.t := rfl
@[simp] theorem St.out_putKcol (r : Rect S2560x128) (w) : (s.putKcol r w).out = s.out := rfl
@[simp] theorem St.codes_putKcol (r : Rect S2560x128) (w) : (s.putKcol r w).codes = s.codes := rfl
@[simp] theorem St.scales_putKcol (r : Rect S2560x128) (w) : (s.putKcol r w).scales = s.scales := rfl
@[simp] theorem St.kcol_putKcol (r : Rect S2560x128) (w) : (s.putKcol r w).kcol = r.overlay s.kcol w := rfl
@[simp] theorem St.qt_putKcol (r : Rect S2560x128) (w) : (s.putKcol r w).qt = s.qt := rfl
@[simp] theorem St.t_putKcol (r : Rect S2560x128) (w) : (s.putKcol r w).t = s.t := rfl
@[simp] theorem St.out_putQt (r : Rect S128x2560) (w) : (s.putQt r w).out = s.out := rfl
@[simp] theorem St.codes_putQt (r : Rect S128x2560) (w) : (s.putQt r w).codes = s.codes := rfl
@[simp] theorem St.scales_putQt (r : Rect S128x2560) (w) : (s.putQt r w).scales = s.scales := rfl
@[simp] theorem St.kcol_putQt (r : Rect S128x2560) (w) : (s.putQt r w).kcol = s.kcol := rfl
@[simp] theorem St.qt_putQt (r : Rect S128x2560) (w) : (s.putQt r w).qt = r.overlay s.qt w := rfl
@[simp] theorem St.t_putQt (r : Rect S128x2560) (w) : (s.putQt r w).t = s.t := rfl
@[simp] theorem St.out_putT (r : Rect S2x2560x256) (w) : (s.putT r w).out = s.out := rfl
@[simp] theorem St.codes_putT (r : Rect S2x2560x256) (w) : (s.putT r w).codes = s.codes := rfl
@[simp] theorem St.scales_putT (r : Rect S2x2560x256) (w) : (s.putT r w).scales = s.scales := rfl
@[simp] theorem St.kcol_putT (r : Rect S2x2560x256) (w) : (s.putT r w).kcol = s.kcol := rfl
@[simp] theorem St.qt_putT (r : Rect S2x2560x256) (w) : (s.putT r w).qt = s.qt := rfl
@[simp] theorem St.t_putT (r : Rect S2x2560x256) (w) : (s.putT r w).t = r.overlay s.t w := rfl
end Put

/-- The body owns its memrefs, at these contents. -/
def Own (c : Dev nD) (A : Mems) (x : Ins F) (s : St F) : Asn F :=
  iprop(owns (c : Thread nD τ) A.q fullShare x.q ∗ owns (c : Thread nD τ) A.cos fullShare x.cos ∗ owns (c : Thread nD τ) A.sin fullShare x.sin
    ∗ owns (c : Thread nD τ) A.k fullShare x.k ∗ owns (c : Thread nD τ) A.ks fullShare x.ks ∗ owns (c : Thread nD τ) A.v fullShare x.v
    ∗ owns (c : Thread nD τ) A.out fullShare s.out ∗ owns (c : Thread nD τ) A.codes fullShare s.codes ∗ owns (c : Thread nD τ) A.scales fullShare s.scales
    ∗ owns (c : Thread nD τ) A.kcol fullShare s.kcol ∗ owns (c : Thread nD τ) A.qt fullShare s.qt ∗ owns (c : Thread nD τ) A.t fullShare s.t)

section Rules
variable (c : Dev nD) (A : Mems) (x : Ins F) (s : St F)

/-- A separating conjunction with its `n`-th part brought to the front, one step of the way. -/
theorem pull {P Q R S : Asn F} (h₁ : Q ⊢ iprop(R ∗ S)) : iprop(P ∗ Q) ⊢ iprop(R ∗ (P ∗ S)) := by
  refine (sep_mono_right h₁).trans ?_
  iintro ⟨HP, HR, HS⟩
  isplitl [HR]; · iexact HR
  isplitl [HP]; · iexact HP
  iexact HS
theorem push {P Q R S : Asn F} (h₁ : iprop(R ∗ S) ⊢ Q) : iprop(R ∗ (P ∗ S)) ⊢ iprop(P ∗ Q) := by
  refine .trans ?_ (sep_mono_right h₁)
  iintro ⟨HR, HP, HS⟩
  isplitl [HP]; · iexact HP
  isplitl [HR]; · iexact HR
  iexact HS
theorem pull_last {P Q : Asn F} : iprop(P ∗ Q) ⊢ iprop(Q ∗ P) := by
  iintro ⟨HP, HQ⟩
  isplitl [HQ]; · iexact HQ
  iexact HP

theorem load_q (r : Rect S1x1x2560x128) (hl) : Runs c (Own c A x s) (Prog.lift (.load A.q r.toLoadRect hl)) (fun j => x.q (r.emb j)) (Own c A x s) :=
  Runs.load .rfl .rfl r hl
theorem load_cos (r : Rect S1x64x2560) (hl) : Runs c (Own c A x s) (Prog.lift (.load A.cos r.toLoadRect hl)) (fun j => x.cos (r.emb j)) (Own c A x s) :=
  Runs.load (pull .rfl) (push .rfl) r hl
theorem load_sin (r : Rect S1x64x2560) (hl) : Runs c (Own c A x s) (Prog.lift (.load A.sin r.toLoadRect hl)) (fun j => x.sin (r.emb j)) (Own c A x s) :=
  Runs.load (pull (pull .rfl)) (push (push .rfl)) r hl
theorem load_k (r : Rect S1x1x2560x128) (hl) : Runs c (Own c A x s) (Prog.lift (.load A.k r.toLoadRect hl)) (fun j => x.k (r.emb j)) (Own c A x s) :=
  Runs.load (pull (pull (pull .rfl))) (push (push (push .rfl))) r hl
theorem load_ks (r : Rect S1x4x2560) (hl) : Runs c (Own c A x s) (Prog.lift (.load A.ks r.toLoadRect hl)) (fun j => x.ks (r.emb j)) (Own c A x s) :=
  Runs.load (pull (pull (pull (pull .rfl)))) (push (push (push (push .rfl)))) r hl
theorem load_v (r : Rect S1x1x128x2560) (hl) : Runs c (Own c A x s) (Prog.lift (.load A.v r.toLoadRect hl)) (fun j => x.v (r.emb j)) (Own c A x s) :=
  Runs.load (pull (pull (pull (pull (pull .rfl))))) (push (push (push (push (push .rfl))))) r hl
theorem load_out (r : Rect S1x2560x128) (hl) : Runs c (Own c A x s) (Prog.lift (.load A.out r.toLoadRect hl)) (fun j => s.out (r.emb j)) (Own c A x s) :=
  Runs.load (pull (pull (pull (pull (pull (pull .rfl)))))) (push (push (push (push (push (push .rfl)))))) r hl
theorem load_codes (r : Rect S1x1x2560x128) (hl) : Runs c (Own c A x s) (Prog.lift (.load A.codes r.toLoadRect hl)) (fun j => s.codes (r.emb j)) (Own c A x s) :=
  Runs.load (pull (pull (pull (pull (pull (pull (pull .rfl))))))) (push (push (push (push (push (push (push .rfl))))))) r hl
theorem load_scales (r : Rect S1x28x2560) (hl) : Runs c (Own c A x s) (Prog.lift (.load A.scales r.toLoadRect hl)) (fun j => s.scales (r.emb j)) (Own c A x s) :=
  Runs.load (pull (pull (pull (pull (pull (pull (pull (pull .rfl)))))))) (push (push (push (push (push (push (push (push .rfl)))))))) r hl
theorem load_kcol (r : Rect S2560x128) (hl) : Runs c (Own c A x s) (Prog.lift (.load A.kcol r.toLoadRect hl)) (fun j => s.kcol (r.emb j)) (Own c A x s) :=
  Runs.load (pull (pull (pull (pull (pull (pull (pull (pull (pull .rfl))))))))) (push (push (push (push (push (push (push (push (push .rfl))))))))) r hl
theorem load_qt (r : Rect S128x2560) (hl) : Runs c (Own c A x s) (Prog.lift (.load A.qt r.toLoadRect hl)) (fun j => s.qt (r.emb j)) (Own c A x s) :=
  Runs.load (pull (pull (pull (pull (pull (pull (pull (pull (pull (pull .rfl)))))))))) (push (push (push (push (push (push (push (push (push (push .rfl)))))))))) r hl
theorem load_t (r : Rect S2x2560x256) (hl) : Runs c (Own c A x s) (Prog.lift (.load A.t r.toLoadRect hl)) (fun j => s.t (r.emb j)) (Own c A x s) :=
  Runs.load (pull (pull (pull (pull (pull (pull (pull (pull (pull (pull pull_last)))))))))) (push (push (push (push (push (push (push (push (push (push pull_last)))))))))) r hl

theorem store_out (r : Rect S1x2560x128) (w) (hx) (hm) : Runs c (Own c A x s) (Prog.lift (.store A.out r w Finset.univ hx hm)) ⟨⟩ (Own c A x (s.putOut r w)) :=
  Runs.store r w (pull (pull (pull (pull (pull (pull .rfl)))))) (push (push (push (push (push (push .rfl)))))) hx hm
theorem store_codes (r : Rect S1x1x2560x128) (w) (hx) (hm) : Runs c (Own c A x s) (Prog.lift (.store A.codes r w Finset.univ hx hm)) ⟨⟩ (Own c A x (s.putCodes r w)) :=
  Runs.store r w (pull (pull (pull (pull (pull (pull (pull .rfl))))))) (push (push (push (push (push (push (push .rfl))))))) hx hm
theorem store_scales (r : Rect S1x28x2560) (w) (hx) (hm) : Runs c (Own c A x s) (Prog.lift (.store A.scales r w Finset.univ hx hm)) ⟨⟩ (Own c A x (s.putScales r w)) :=
  Runs.store r w (pull (pull (pull (pull (pull (pull (pull (pull .rfl)))))))) (push (push (push (push (push (push (push (push .rfl)))))))) hx hm
theorem store_kcol (r : Rect S2560x128) (w) (hx) (hm) : Runs c (Own c A x s) (Prog.lift (.store A.kcol r w Finset.univ hx hm)) ⟨⟩ (Own c A x (s.putKcol r w)) :=
  Runs.store r w (pull (pull (pull (pull (pull (pull (pull (pull (pull .rfl))))))))) (push (push (push (push (push (push (push (push (push .rfl))))))))) hx hm
theorem store_qt (r : Rect S128x2560) (w) (hx) (hm) : Runs c (Own c A x s) (Prog.lift (.store A.qt r w Finset.univ hx hm)) ⟨⟩ (Own c A x (s.putQt r w)) :=
  Runs.store r w (pull (pull (pull (pull (pull (pull (pull (pull (pull (pull .rfl)))))))))) (push (push (push (push (push (push (push (push (push (push .rfl)))))))))) hx hm
theorem store_t (r : Rect S2x2560x256) (w) (hx) (hm) : Runs c (Own c A x s) (Prog.lift (.store A.t r w Finset.univ hx hm)) ⟨⟩ (Own c A x (s.putT r w)) :=
  Runs.store r w (pull (pull (pull (pull (pull (pull (pull (pull (pull (pull pull_last)))))))))) (push (push (push (push (push (push (push (push (push (push pull_last)))))))))) hx hm

end Rules

/-! ## The fragments -/

section Fragments
variable (c : Dev nD) (A : Mems) (x : Ins F) (s : St F) (i : grid0.Coords)

/-- The rectangles the fragments touch. -/
abbrev rKs (n : Fin 20) : Rect S1x4x2560 := Rect.unit ![0, 0, 128 * n.val] S1x4x128.size (inb_ks n)
abbrev rKcol (n : Fin 20) : Rect S2560x128 := Rect.unit ![128 * n.val, 0] S128x128.size (inb_kcol n)
abbrev rQ (j : Fin 10) : Rect S1x1x2560x128 := Rect.unit ![0, 0, 256 * j.val, 0] S1x1x256x128.size (inb_q j)
abbrev rC (j : Fin 10) : Rect S1x64x2560 := Rect.unit ![0, 0, 256 * j.val] S1x64x256.size (inb_c j)
abbrev rQt (j : Fin 10) : Rect S128x2560 := Rect.unit ![0, 256 * j.val] S128x256.size (inb_qt j)
abbrev rS (j : Fin 10) : Rect S1x28x2560 := Rect.unit ![0, (Scalar.indexCast (headWord i) : BitVec 32).toNat, 256 * j.val] S1x1x256.size (inb_s i j)
abbrev rKc (n : Fin 10) : Rect S2560x128 := Rect.unit ![256 * n.val, 0] S256x128.size (inb_kc n)
abbrev rT (r n : Fin 10) (h : Fin 2) : Rect S2x2560x256 := Rect.unit ![r.val % 2, 256 * n.val, 128 * h.val] S1x256x128.size (inb_t r n h)
abbrev rTT (r n : Fin 10) : Rect S2x2560x256 := Rect.unit ![r.val % 2, 256 * n.val, 0] S1x256x256.size (inb_tt r n)
abbrev rV (n : Fin 10) : Rect S1x1x128x2560 := Rect.unit ![0, 0, 0, 256 * n.val] S1x1x128x256.size (inb_v n)
abbrev rO (r : Fin 10) : Rect S1x2560x128 := Rect.unit ![0, 256 * r.val, 0] S1x256x128.size (inb_o r)

/-- One chunk of key scales. -/
def chunkKs (x : Ins F) (n : Fin 20) : Vec F S1x4x128 .f32 := fun j => x.ks ((rKs n).emb j)
def tileQ (x : Ins F) (j : Fin 10) : Vec F S1x1x256x128 .bf16 := fun y => x.q ((rQ j).emb y)
def tileCos (x : Ins F) (j : Fin 10) : Vec F S1x64x256 .f32 := fun y => x.cos ((rC j).emb y)
def tileSin (x : Ins F) (j : Fin 10) : Vec F S1x64x256 .f32 := fun y => x.sin ((rC j).emb y)
def tileK (x : Ins F) (n : Fin 10) : Vec F S1x1x256x128 .fp8e4m3 := fun y => x.k ((rQ n).emb y)
def tileV (x : Ins F) (n : Fin 10) : Vec F S1x1x128x256 .bf16 := fun y => x.v ((rV n).emb y)

theorem run_kcolChunk (n : Fin 20) : Runs c (Own c A x s) (kcolChunk i A.ks A.kcol n) ⟨⟩
    (Own c A x (s.putKcol (rKcol n) (kcolOf (BitVec.ofNat 32 (i 1).val) (chunkKs x n)))) :=
  (load_ks c A x s _ _).bind <| (load_kcol c A x s _ _).bind <| store_kcol c A x s _ _ _ _

def codesT (x : Ins F) (j : Fin 10) : FVec F S128x256 .fp8e4m3 := tileCodes (tileQ x j) (tileCos x j) (tileSin x j)
def scaleT (x : Ins F) (j : Fin 10) : FVec F S1x256 .f32 := scaleOf (yOf (tileQ x j) (tileCos x j) (tileSin x j))

/-- The state after a query tile has been prepared. -/
def prepSt (x : Ins F) (s : St F) (i : grid0.Coords) (j : Fin 10) : St F :=
  ((s.putQt (rQt j) (shapeCast S128x256 (codesT x j) shapeCasts_S128x256_S128x256)).putCodes (rQ j)
    (shapeCast S1x1x256x128 (transpose S256x128 [1, 0] (codesT x j) transposes_S128x256_p1_0_S256x128) shapeCasts_S256x128_S1x1x256x128)).putScales (rS i j)
    (shapeCast S1x1x256 (scaleT x j) shapeCasts_S1x256_S1x1x256)

theorem run_prep (j : Fin 10) : Runs c (Own c A x s) (prep i A.q A.cos A.sin A.codes A.hcodes A.scales A.qt A.hqt j) (factorOf (scaleT x j))
    (Own c A x (prepSt x s i j)) := by
  unfold prep prepSt scaleT codesT tileQ tileCos tileSin
  refine (load_q c A x s _ _).bind ?_
  refine (load_cos c A x s _ _).bind ?_
  refine (load_sin c A x s _ _).bind ?_
  refine (load_qt c A x s _ _).bind ?_
  refine (store_qt c A x s _ _ _ _).bind ?_
  refine (load_codes c A x _ _ _).bind ?_
  refine (store_codes c A x _ _ _ _ _).bind ?_
  refine (load_scales c A x _ _ _).bind ?_
  refine (store_scales c A x _ _ _ _ _).bind ?_
  exact Runs.ret _

def scoreL (x : Ins F) (s : St F) (r n : Fin 10) : FVec F S256x128 .f32 :=
  left (dotOf (tileK x n) (fun y => s.qt ((rQt r).emb y))) (fun y => s.kcol ((rKc n).emb y))
def scoreR (x : Ins F) (s : St F) (r n : Fin 10) : FVec F S256x128 .f32 :=
  right (dotOf (tileK x n) (fun y => s.qt ((rQt r).emb y))) (fun y => s.kcol ((rKc n).emb y))

/-- The state after the scores of one tile have been stored. -/
def scoreSt (x : Ins F) (s : St F) (r n : Fin 10) (fl fr : FVec F S256x128 .f32 → FVec F S256x128 .f32) : St F :=
  (s.putT (rT r n 0) (shapeCast S1x256x128 (fl (scoreL x s r n)) shapeCasts_S256x128_S1x256x128)).putT (rT r n 1)
      (shapeCast S1x256x128 (fr (scoreR x s r n)) shapeCasts_S256x128_S1x256x128)

theorem run_scores (r n : Fin 10) (fl fr) : Runs c (Own c A x s) (scores A.k A.kcol A.qt A.t r n fl fr) (topOf (fl (scoreL x s r n)) (fr (scoreR x s r n)))
    (Own c A x (scoreSt x s r n fl fr)) := by
  unfold scores scoreSt scoreL scoreR tileK
  refine (load_k c A x s _ _).bind ?_
  refine (load_qt c A x s _ _).bind ?_
  refine (load_kcol c A x s _ _).bind ?_
  refine (load_t c A x s _ _).bind ?_
  refine (store_t c A x s _ _ _ _).bind ?_
  refine (load_t c A x _ _ _).bind ?_
  refine (store_t c A x _ _ _ _ _).bind ?_
  exact Runs.ret _

def weightT (s : St F) (r n : Fin 10) (factor shift : FVec F S1x256 .f32) : FVec F S256x256 .f32 :=
  weights (fun y => s.t ((rTT r n).emb y)) factor shift

theorem run_weigh (r n : Fin 10) (factor shift) : Runs c (Own c A x s) (weigh A.v A.t r n factor shift)
    (accOf (tileV x n) (weightT s r n factor shift), totalOf (weightT s r n factor shift)) (Own c A x s) :=
  (load_t c A x s _ _).bind <| (load_v c A x s _ _).bind <| Runs.ret _

theorem run_outTile (r : Fin 10) (acc total) : Runs c (Own c A x s) (outTile A.out A.hout r acc total) ⟨⟩
    (Own c A x (s.putOut (rO r) (shapeCast S1x256x128 (outOf acc total) shapeCasts_S256x128_S1x256x128))) :=
  (load_out c A x s _ _).bind <| store_out c A x s _ _ _ _

end Fragments

end Cert.KernelIdeal.Attn
-- ==== Proof.AttnPay.lean ====
/-
  The kernel's stored values read at an index, on the extended reals.
-/
module

public import proofs.«01_k».proof.Proof.AttnProg
public import Idealize.ShloMosaic.Lib.Pointwise

@[expose] public section

set_option maxRecDepth 16384

noncomputable section

namespace Cert.KernelIdeal.Attn

open Idealize.ShloMosaic
open Cert.KernelIdeal Cert.KernelIdeal.Facts₀ Cert.KernelIdeal.Facts

variable [Cert.KernelIdeal.Facts]

/-- The single-precision pattern of minus infinity, and of infinity. -/
theorem ofBits_ninf : Ideal.ofBits .f32 0xFF800000#32 = ⊥ := by simp [Ideal.ofBits, Ideal.ieee]
theorem ofBits_inf : Ideal.ofBits .f32 0x7F800000#32 = ⊤ := by simp [Ideal.ofBits, Ideal.ieee]
theorem select_ite {α : Type} (b : Bool) (x y : α) : Scalar.select (BitVec.ofBool b) x y = if b = true then x else y := by
  cases b <;> rfl
theorem fold_max_eq {α : Type} [Fintype α] (f : α → EReal) : Finset.univ.sup f = Finset.univ.sup f := rfl
theorem fold_min_eq {α : Type} [Fintype α] (f : α → EReal) : Finset.univ.inf f = Finset.univ.inf f := rfl
theorem sle_small {a b : Nat} (ha : a < 256) (hb : b < 256) : (BitVec.ofNat 32 a).sle (BitVec.ofNat 32 b) = decide (a ≤ b) := by
  rw [BitVec.sle_eq_decide, BitVec.toInt_ofNat', BitVec.toInt_ofNat']
  simp only [Int.bmod_def]
  congr 1
  apply propext
  constructor <;> intro h <;> first | omega | (split_ifs at h ⊢ <;> omega) | skip
  all_goals (split_ifs <;> omega)

theorem kcolOf_apply (kv : BitVec 32) (x : Vec Ideal S1x4x128 .f32) (s l : Fin 128) :
    kcolOf kv x (ix2 s l) = Finset.univ.sup fun r : Fin 4 => if BitVec.ofNat 32 r.val = kv then x (ix3 0 r s) else 0 := by
  pointwise [kcolOf]
  rw [ofBits_ninf, fold_max_eq]
  simp only [IntOp.cmpi, select_ite, beq_iff_eq]
  rfl

theorem rot1_apply (q : Vec Ideal S1x1x256x128 .bf16) (c s : Vec Ideal S1x64x256 .f32) (d : Fin 64) (j : Fin 256) :
    rot1 q c s (ix2 d j) = q (ix4 0 0 j ⟨d.val, by omega⟩) * c (ix3 0 d j) - q (ix4 0 0 j ⟨64 + d.val, by omega⟩) * s (ix3 0 d j) := by
  pointwise [rot1, half1, half2]

theorem rot2_apply (q : Vec Ideal S1x1x256x128 .bf16) (c s : Vec Ideal S1x64x256 .f32) (d : Fin 64) (j : Fin 256) :
    rot2 q c s (ix2 d j) = q (ix4 0 0 j ⟨64 + d.val, by omega⟩) * c (ix3 0 d j) + q (ix4 0 0 j ⟨d.val, by omega⟩) * s (ix3 0 d j) := by
  pointwise [rot2, half1, half2]

theorem amaxOf_apply (r1 r2 : FVec Ideal S64x256 .f32) (j : Fin 256) :
    amaxOf r1 r2 (ix2 0 j) = (Finset.univ.sup fun d : Fin 64 => max (max (r1 (ix2 d j)) (-r1 (ix2 d j))) (max (r2 (ix2 d j)) (-r2 (ix2 d j)))) * Ideal.ofBits .f32 0x3B124925#32 := by
  pointwise [amaxOf]
  simp only [ofBits_ninf, Ideal.absf_def]
  rfl

/-- A word that is an exponent alone is a power of two. -/
theorem ofBits_exponent (w : BitVec 32) (n : Nat) (h0 : n ≠ 0) (h1 : n ≠ 255) (e : (w.extractLsb' 23 8).toNat = n)
    (f : (w.extractLsb' 0 23).toNat = 0) (g : (w.extractLsb' 31 1 == 1#1) = false) :
    Ideal.ofBits .f32 w = (((2:ℝ) ^ ((n : ℤ) - 127) : ℝ) : EReal) := by
  show Ideal.ieee 8 23 w = _
  unfold Ideal.ieee
  simp only [e, f, g, Nat.reduceAdd, Nat.reducePow, Nat.reduceSub]
  rw [if_neg h1, if_neg h0]
  congr 1
  simp only [Bool.false_eq_true, if_false, Nat.add_zero, one_mul]
  rw [show ((8388608 : ℕ) : ℝ) = (2:ℝ) ^ (23 : ℤ) by norm_num, ← zpow_add₀ (by norm_num)]
  congr 1
  push_cast
  ring

/-- The row's word, and its fields. -/
def powWord (r : Fin 248) : BitVec 32 := IntOp.shli ArithUnit.vector (IntOp.addi (BitVec.ofNat 32 r.val) 1#32) 23#32
def invWord (r : Fin 248) : BitVec 32 := IntOp.shli ArithUnit.vector (IntOp.subi (253#32) (BitVec.ofNat 32 r.val)) 23#32
theorem powWord_fields : ∀ r : Fin 248, ((powWord r).extractLsb' 23 8).toNat = r.val + 1 ∧ ((powWord r).extractLsb' 0 23).toNat = 0
    ∧ ((powWord r).extractLsb' 31 1 == 1#1) = false := by decide +kernel
theorem invWord_fields : ∀ r : Fin 248, ((invWord r).extractLsb' 23 8).toNat = 253 - r.val ∧ ((invWord r).extractLsb' 0 23).toNat = 0
    ∧ ((invWord r).extractLsb' 31 1 == 1#1) = false := by decide +kernel

theorem powWord_val (r : Fin 248) : Ideal.ofBits .f32 (powWord r) = (((2:ℝ) ^ ((r.val : ℤ) - 126) : ℝ) : EReal) := by
  rw [ofBits_exponent (powWord r) (r.val + 1) (Nat.succ_ne_zero _) (by have := r.isLt; omega) (powWord_fields r).1 (powWord_fields r).2.1 (powWord_fields r).2.2]
  rw [show (((r.val + 1 : ℕ) : ℤ) - 127) = (r.val : ℤ) - 126 by push_cast; ring]
theorem invWord_val (r : Fin 248) : Ideal.ofBits .f32 (invWord r) = (((2:ℝ) ^ (126 - (r.val : ℤ)) : ℝ) : EReal) := by
  rw [ofBits_exponent (invWord r) (253 - r.val) (by have := r.isLt; omega) (by have := r.isLt; omega) (invWord_fields r).1 (invWord_fields r).2.1 (invWord_fields r).2.2]
  rw [show (((253 - r.val : ℕ) : ℤ) - 127) = 126 - (r.val : ℤ) by have := r.isLt; omega]
theorem pows_apply (r : Fin 248) (j : Fin 256) : pows (F := Ideal) (ix2 r j) = (((2:ℝ) ^ ((r.val : ℤ) - 126) : ℝ) : EReal) := by
  have h := powWord_val r
  unfold powWord at h
  pointwise [pows]
  exact h
theorem invs_apply (r : Fin 248) (j : Fin 256) : invs (F := Ideal) (ix2 r j) = (((2:ℝ) ^ (126 - (r.val : ℤ)) : ℝ) : EReal) := by
  have h := invWord_val r
  unfold invWord at h
  pointwise [invs]
  exact h

theorem scaleOf_apply (y : FVec Ideal S1x256 .f32) (j : Fin 256) :
    scaleOf y (ix2 0 j) = if y (ix2 0 j) = 0 then 1 else
      Finset.univ.inf fun r : Fin 248 => if y (ix2 0 j) < pows (F := Ideal) (ix2 r j) then pows (F := Ideal) (ix2 r j) else Ideal.ofBits .f32 0x7C800000#32 := by
  pointwise [scaleOf, zeroOf, aboveOf]
  rw [ofBits_inf]
  rfl
theorem invOf_apply (y : FVec Ideal S1x256 .f32) (j : Fin 256) :
    invOf y (ix2 0 j) = if y (ix2 0 j) = 0 then 1 else
      Finset.univ.sup fun r : Fin 248 => if y (ix2 0 j) < pows (F := Ideal) (ix2 r j) then invs (F := Ideal) (ix2 r j) else Ideal.ofBits .f32 0x02800000#32 := by
  pointwise [invOf, zeroOf, aboveOf]
  rw [ofBits_ninf]
  rfl

theorem clipOf_apply (r : FVec Ideal S64x256 .f32) (inv : FVec Ideal S1x256 .f32) (d : Fin 64) (j : Fin 256) :
    clipOf r inv (ix2 d j) = min (Ideal.ofBits .f32 0x43E00000#32) (max (Ideal.ofBits .f32 0xC3E00000#32) (r (ix2 d j) * inv (ix2 0 j))) := by
  pointwise [clipOf]
theorem codesOf_apply (r1 r2 : FVec Ideal S64x256 .f32) (inv : FVec Ideal S1x256 .f32) (d : Fin 128) (j : Fin 256) :
    codesOf r1 r2 inv (ix2 d j) = if h : d.val < 64 then clipOf r1 inv (ix2 ⟨d.val, h⟩ j) else clipOf r2 inv (ix2 ⟨d.val - 64, by omega⟩ j) := by
  pointwise [codesOf]

theorem factorOf_apply (scale : FVec Ideal S1x256 .f32) (j : Fin 256) :
    factorOf scale (ix2 0 j) = scale (ix2 0 j) * Ideal.ofBits .f32 0x3DB504F3#32 * Named.named (F := Ideal) κ "log2e" 0x3FB8AA3B#32 := by
  pointwise [factorOf]

theorem dotOf_apply (k : Vec Ideal S1x1x256x128 .fp8e4m3) (q : Vec Ideal S128x256 .fp8e4m3) (a b : Fin 256) :
    dotOf k q (ix2 a b) = ∑ d : Fin 128, k (ix4 0 0 a d) * q (ix2 d b) := by
  pointwise [dotOf]
theorem left_apply (d : FVec Ideal S256x256 .f32) (kc : Vec Ideal S256x128 .f32) (a : Fin 256) (b : Fin 128) :
    left d kc (ix2 a b) = d (ix2 a ⟨b.val, by omega⟩) * kc (ix2 a b) := by
  pointwise [left]
theorem right_apply (d : FVec Ideal S256x256 .f32) (kc : Vec Ideal S256x128 .f32) (a : Fin 256) (b : Fin 128) :
    right d kc (ix2 a b) = d (ix2 a ⟨128 + b.val, by omega⟩) * kc (ix2 a b) := by
  pointwise [right]
theorem maskLeft_apply (t : FVec Ideal S256x128 .f32) (a : Fin 256) (b : Fin 128) :
    maskLeft t (ix2 a b) = if a.val ≤ b.val then t (ix2 a b) else ⊥ := by
  pointwise [maskLeft, causal, ninf]
  rw [ofBits_ninf]
  by_cases h : a.val < 128
  · rw [dif_pos h, IntOp.cmpi, select_ite, sle_small (by omega) (by omega)]; simp only [decide_eq_true_eq]
  · rw [dif_neg h, if_neg (by omega)]
theorem maskRight_apply (t : FVec Ideal S256x128 .f32) (a : Fin 256) (b : Fin 128) :
    maskRight t (ix2 a b) = if a.val ≤ b.val + 128 then t (ix2 a b) else ⊥ := by
  pointwise [maskRight, causal, ninf]
  by_cases h : a.val < 128
  · rw [dif_pos h, if_pos (by omega)]
  · rw [dif_neg h, IntOp.cmpi, select_ite, sle_small (by omega) (by omega)]
    have e : ∀ p, t (ix2 ⟨128 + (a.val - 128), p⟩ b) = t (ix2 a b) := fun p => by
      congr 2; exact Fin.ext (show 128 + (a.val - 128) = a.val by omega)
    simp only [e, decide_eq_true_eq, ofBits_ninf]
    by_cases h' : a.val ≤ b.val + 128
    · rw [if_pos h', if_pos (by omega)]
    · rw [if_neg h', if_neg (by omega)]
theorem topOf_apply (x y : FVec Ideal S256x128 .f32) (g : Fin 8) (b : Fin 256) :
    topOf x y (ix2 g b) = Finset.univ.sup fun m : Fin 32 => if h : b.val < 128 then x (ix2 ⟨m.val * 8 + g.val, by omega⟩ ⟨b.val, h⟩) else y (ix2 ⟨m.val * 8 + g.val, by omega⟩ ⟨b.val - 128, by omega⟩) := by
  pointwise [topOf, topHalf]
  by_cases h : b.val < 128
  · simp only [dif_pos h, ofBits_ninf]; rfl
  · simp only [dif_neg h, ofBits_ninf]; rfl
theorem shiftOf_apply (top : FVec Ideal S8x256 .f32) (factor : FVec Ideal S1x256 .f32) (b : Fin 256) :
    shiftOf top factor (ix2 0 b) = (Finset.univ.sup fun g : Fin 8 => top (ix2 g b)) * factor (ix2 0 b) := by
  pointwise [shiftOf]
  rw [ofBits_ninf]
  rfl

theorem weights_apply (t : Vec Ideal S1x256x256 .f32) (factor shift : FVec Ideal S1x256 .f32) (a b : Fin 256) :
    weights t factor shift (ix2 a b) = Ideal.exp2 (t (ix3 0 a b) * factor (ix2 0 b) - shift (ix2 0 b)) := by
  pointwise [weights]
  rfl
theorem accOf_apply (v : Vec Ideal S1x1x128x256 .bf16) (p : FVec Ideal S256x256 .f32) (d : Fin 128) (b : Fin 256) :
    accOf v p (ix2 d b) = ∑ a : Fin 256, v (ix4 0 0 d a) * p (ix2 a b) := by
  pointwise [accOf]
theorem totalOf_apply (p : FVec Ideal S256x256 .f32) (g : Fin 8) (b : Fin 256) :
    totalOf p (ix2 g b) = ∑ m : Fin 32, p (ix2 ⟨m.val * 8 + g.val, by omega⟩ b) := by
  pointwise [totalOf]
theorem outOf_apply (acc : FVec Ideal S128x256 .f32) (total : FVec Ideal S8x256 .f32) (b : Fin 256) (d : Fin 128) :
    outOf acc total (ix2 b d) = acc (ix2 d b) * Ideal.div 1 (∑ g : Fin 8, total (ix2 g b)) := by
  pointwise [outOf]

end Cert.KernelIdeal.Attn
-- ==== Proof.AttnTile.lean ====
/-
  What the attention kernel computes at one grid point, written index by index, and what each fragment of the
  program leaves in memory in these terms.
-/
module

public import proofs.«01_k».proof.Proof.AttnHoare
public import proofs.«01_k».proof.Proof.AttnPay

@[expose] public section

set_option maxRecDepth 16384

noncomputable section

namespace Cert.KernelIdeal.Attn

open Idealize.ShloMosaic
open Cert.KernelIdeal Cert.KernelIdeal.Facts₀ Cert.KernelIdeal.Facts

variable [Cert.KernelIdeal.Facts]

/-! ## Positions -/

/-- Position `b` of tile `j`. -/
def at' (j : Fin 10) (b : Fin 256) : Fin 2560 := ⟨256 * j.val + b.val, by omega⟩
def atC (n : Fin 20) (b : Fin 128) : Fin 2560 := ⟨128 * n.val + b.val, by omega⟩
def slot (r : Fin 10) : Fin 2 := ⟨r.val % 2, by omega⟩
def lane (h : Fin 2) (b : Fin 128) : Fin 256 := ⟨128 * h.val + b.val, by omega⟩

theorem exists_at (s : Fin 2560) : ∃ j b, s = at' j b :=
  ⟨⟨s.val / 256, by omega⟩, ⟨s.val % 256, by omega⟩, Fin.ext (by show s.val = 256 * (s.val / 256) + s.val % 256; omega)⟩
theorem exists_atC (s : Fin 2560) : ∃ n b, s = atC n b :=
  ⟨⟨s.val / 128, by omega⟩, ⟨s.val % 128, by omega⟩, Fin.ext (by show s.val = 128 * (s.val / 128) + s.val % 128; omega)⟩
theorem exists_lane (b : Fin 256) : ∃ h b', b = lane h b' :=
  ⟨⟨b.val / 128, by omega⟩, ⟨b.val % 128, by omega⟩, Fin.ext (by show b.val = 128 * (b.val / 128) + b.val % 128; omega)⟩

/-- The head of a grid point. -/
def headOf (i : grid0.Coords) : Fin 28 := ⟨7 * (i 1).val + (i 2).val, by
  have h1 : (i 1).val < 4 := (i 1).isLt
  have h2 : (i 2).val < 7 := (i 2).isLt
  omega⟩

/-- Where the rectangles lie. -/
theorem rKs_emb (n : Fin 20) (r : Fin 4) (b : Fin 128) : (rKs n).emb (ix3 0 r b) = ix3 0 r (atC n b) := by
  funext ax; fin_cases ax <;> apply Fin.ext <;> rw [Rect.emb_apply] <;> (try rfl)
  · show 0 + 1 * r.val = r.val; omega
  · show 128 * n.val + 1 * b.val = 128 * n.val + b.val; omega
theorem rKcol_emb (n : Fin 20) (b l : Fin 128) : (rKcol n).emb (ix2 b l) = ix2 (atC n b) l := by
  funext ax; fin_cases ax <;> apply Fin.ext <;> rw [Rect.emb_apply]
  · show 128 * n.val + 1 * b.val = 128 * n.val + b.val; omega
  · show 0 + 1 * l.val = l.val; omega
theorem rQ_emb (j : Fin 10) (b : Fin 256) (d : Fin 128) : (rQ j).emb (ix4 0 0 b d) = ix4 0 0 (at' j b) d := by
  funext ax; fin_cases ax <;> apply Fin.ext <;> rw [Rect.emb_apply] <;> (try rfl)
  · show 256 * j.val + 1 * b.val = 256 * j.val + b.val; omega
  · show 0 + 1 * d.val = d.val; omega
theorem rC_emb (j : Fin 10) (d : Fin 64) (b : Fin 256) : (rC j).emb (ix3 0 d b) = ix3 0 d (at' j b) := by
  funext ax; fin_cases ax <;> apply Fin.ext <;> rw [Rect.emb_apply] <;> (try rfl)
  · show 0 + 1 * d.val = d.val; omega
  · show 256 * j.val + 1 * b.val = 256 * j.val + b.val; omega
theorem rQt_emb (j : Fin 10) (d : Fin 128) (b : Fin 256) : (rQt j).emb (ix2 d b) = ix2 d (at' j b) := by
  funext ax; fin_cases ax <;> apply Fin.ext <;> rw [Rect.emb_apply]
  · show 0 + 1 * d.val = d.val; omega
  · show 256 * j.val + 1 * b.val = 256 * j.val + b.val; omega
theorem rS_emb (i : grid0.Coords) (j : Fin 10) (b : Fin 256) : (rS i j).emb (ix3 0 0 b) = ix3 0 (headOf i) (at' j b) := by
  have h := headWord_toNat i
  funext ax; fin_cases ax <;> apply Fin.ext <;> rw [Rect.emb_apply] <;> (try rfl)
  · show (Scalar.indexCast (headWord i) : BitVec 32).toNat + 1 * 0 = 7 * (i 1).val + (i 2).val; omega
  · show 256 * j.val + 1 * b.val = 256 * j.val + b.val; omega
theorem rKc_emb (n : Fin 10) (a : Fin 256) (l : Fin 128) : (rKc n).emb (ix2 a l) = ix2 (at' n a) l := by
  funext ax; fin_cases ax <;> apply Fin.ext <;> rw [Rect.emb_apply]
  · show 256 * n.val + 1 * a.val = 256 * n.val + a.val; omega
  · show 0 + 1 * l.val = l.val; omega
theorem rT_emb (r n : Fin 10) (h : Fin 2) (a : Fin 256) (b : Fin 128) : (rT r n h).emb (ix3 0 a b) = ix3 (slot r) (at' n a) (lane h b) := by
  funext ax; fin_cases ax <;> apply Fin.ext <;> rw [Rect.emb_apply] <;> (try rfl)
  · show 256 * n.val + 1 * a.val = 256 * n.val + a.val; omega
  · show 128 * h.val + 1 * b.val = 128 * h.val + b.val; omega
theorem rTT_emb (r n : Fin 10) (a b : Fin 256) : (rTT r n).emb (ix3 0 a b) = ix3 (slot r) (at' n a) b := by
  funext ax; fin_cases ax <;> apply Fin.ext <;> rw [Rect.emb_apply] <;> (try rfl)
  · show 256 * n.val + 1 * a.val = 256 * n.val + a.val; omega
  · show 0 + 1 * b.val = b.val; omega
theorem rV_emb (n : Fin 10) (d : Fin 128) (a : Fin 256) : (rV n).emb (ix4 0 0 d a) = ix4 0 0 d (at' n a) := by
  funext ax; fin_cases ax <;> apply Fin.ext <;> rw [Rect.emb_apply] <;> (try rfl)
  · show 0 + 1 * d.val = d.val; omega
  · show 256 * n.val + 1 * a.val = 256 * n.val + a.val; omega
theorem rO_emb (r : Fin 10) (b : Fin 256) (d : Fin 128) : (rO r).emb (ix3 0 b d) = ix3 0 (at' r b) d := by
  funext ax; fin_cases ax <;> apply Fin.ext <;> rw [Rect.emb_apply] <;> (try rfl)
  · show 256 * r.val + 1 * b.val = 256 * r.val + b.val; omega
  · show 0 + 1 * d.val = d.val; omega

/-- An index whose coordinate on some axis is outside a rectangle is not in it. -/
theorem overlay_off {sh : Shape} {α : Type} (r : Rect sh) (X : sh.Idx → α) (w : r.shape.Idx → α) (j : sh.Idx)
    (h : ∀ y : r.shape.Idx, r.emb y ≠ j) : r.overlay X w j = X j :=
  r.overlay_of_not_mem X w fun hj => let ⟨y, hy⟩ := r.exists_idx_of_mem hj; h y hy

/-! ## The values -/

section Values
variable (x : Ins Ideal) (kv : Fin 4)

/-- The two halves of the rotated query at position `s`. -/
def rotA (d : Fin 64) (s : Fin 2560) : EReal :=
  x.q (ix4 0 0 s ⟨d.val, by omega⟩) * x.cos (ix3 0 d s) - x.q (ix4 0 0 s ⟨64 + d.val, by omega⟩) * x.sin (ix3 0 d s)
def rotB (d : Fin 64) (s : Fin 2560) : EReal :=
  x.q (ix4 0 0 s ⟨64 + d.val, by omega⟩) * x.cos (ix3 0 d s) + x.q (ix4 0 0 s ⟨d.val, by omega⟩) * x.sin (ix3 0 d s)
/-- The largest magnitude over 448. -/
def yq (s : Fin 2560) : EReal :=
  (Finset.univ.sup fun d : Fin 64 => max (max (rotA x d s) (-rotA x d s)) (max (rotB x d s) (-rotB x d s))) * Ideal.ofBits .f32 0x3B124925#32
/-- The scale a magnitude `y` gets, and its reciprocal. -/
def scOf (y : EReal) : EReal :=
  if y = 0 then 1 else Finset.univ.inf fun r : Fin 248 => if y < (((2:ℝ) ^ ((r.val : ℤ) - 126) : ℝ) : EReal) then (((2:ℝ) ^ ((r.val : ℤ) - 126) : ℝ) : EReal) else Ideal.ofBits .f32 0x7C800000#32
def inOf (y : EReal) : EReal :=
  if y = 0 then 1 else Finset.univ.sup fun r : Fin 248 => if y < (((2:ℝ) ^ ((r.val : ℤ) - 126) : ℝ) : EReal) then (((2:ℝ) ^ (126 - (r.val : ℤ)) : ℝ) : EReal) else Ideal.ofBits .f32 0x02800000#32
def scaleV (s : Fin 2560) : EReal := scOf (yq x s)
def clipV (r inv : EReal) : EReal := min (Ideal.ofBits .f32 0x43E00000#32) (max (Ideal.ofBits .f32 0xC3E00000#32) (r * inv))
/-- The query codes. -/
def codeV (d : Fin 128) (s : Fin 2560) : EReal :=
  if h : d.val < 64 then clipV (rotA x ⟨d.val, h⟩ s) (inOf (yq x s)) else clipV (rotB x ⟨d.val - 64, by omega⟩ s) (inOf (yq x s))
/-- What the score of a query is multiplied by. -/
def facV (s : Fin 2560) : EReal := scaleV x s * Ideal.ofBits .f32 0x3DB504F3#32 * Named.named (F := Ideal) (φ := .f32) κ "log2e" 0x3FB8AA3B#32
/-- The key scale of a key, as the kernel selects it. -/
def kcV (s : Fin 2560) : EReal := Finset.univ.sup fun r : Fin 4 => if BitVec.ofNat 32 r.val = BitVec.ofNat 32 kv.val then x.ks (ix3 0 r s) else 0
/-- The score of key `k` and query `s` before the query's factor, without and with the causal mask. -/
def rawV (k s : Fin 2560) : EReal := (∑ d : Fin 128, x.k (ix4 0 0 k d) * codeV x d s) * kcV x kv k
def scV (k s : Fin 2560) : EReal := if k.val ≤ s.val then rawV x kv k s else ⊥
def topV (s : Fin 2560) : EReal := Finset.univ.sup fun k => scV x kv k s
def wV (k s : Fin 2560) : EReal := Ideal.exp2 (scV x kv k s * facV x s - topV x kv s * facV x s)
def outV (d : Fin 128) (s : Fin 2560) : EReal := (∑ k, x.v (ix4 0 0 d k) * wV x kv k s) * Ideal.div 1 (∑ k, wV x kv k s)

theorem yOf_at (j : Fin 10) (b : Fin 256) : yOf (tileQ x j) (tileCos x j) (tileSin x j) (ix2 0 b) = yq x (at' j b) := by
  unfold yOf; rw [amaxOf_apply]
  simp only [rot1_apply, rot2_apply, tileQ, tileCos, tileSin, rQ_emb, rC_emb]; rfl
theorem scaleOf_at (y : FVec Ideal S1x256 .f32) (b : Fin 256) : scaleOf y (ix2 0 b) = scOf (y (ix2 0 b)) := by
  rw [scaleOf_apply]; simp only [pows_apply]; rfl
theorem invOf_at (y : FVec Ideal S1x256 .f32) (b : Fin 256) : invOf y (ix2 0 b) = inOf (y (ix2 0 b)) := by
  rw [invOf_apply]; simp only [pows_apply, invs_apply]; rfl
theorem scaleT_at (j : Fin 10) (b : Fin 256) : scaleT x j (ix2 0 b) = scaleV x (at' j b) := by
  unfold scaleT; rw [scaleOf_at, yOf_at]; rfl
theorem codesT_at (j : Fin 10) (d : Fin 128) (b : Fin 256) : codesT x j (ix2 d b) = codeV x d (at' j b) := by
  unfold codesT tileCodes; rw [codesOf_apply]; unfold codeV
  simp only [clipOf_apply, invOf_at, yOf_at, rot1_apply, rot2_apply, tileQ, tileCos, tileSin, rQ_emb, rC_emb]; rfl
theorem factor_at (j : Fin 10) (b : Fin 256) : factorOf (scaleT x j) (ix2 0 b) = facV x (at' j b) := by
  rw [factorOf_apply, scaleT_at]; rfl
theorem kcol_at (n : Fin 20) (b l : Fin 128) : kcolOf (BitVec.ofNat 32 kv.val) (chunkKs x n) (ix2 b l) = kcV x kv (atC n b) := by
  rw [kcolOf_apply]; simp only [chunkKs, rKs_emb]; rfl

end Values

/-! ## What memory holds -/

section Holds
variable (x : Ins Ideal) (kv : Fin 4) (i : grid0.Coords) (s s' : St Ideal)

/-- The key scales are in place; queries of tiles below `n` are prepared; their codes and scales stored;
    the scores of query tile `r` against key tiles below `n`; the outputs of tiles below `n`. -/
def HasK : Prop := ∀ k l, s.kcol (ix2 k l) = kcV x kv k
def HasQ (n : Nat) : Prop := ∀ j : Fin 10, j.val < n → ∀ b d, s.qt (ix2 d (at' j b)) = codeV x d (at' j b)
def HasC (n : Nat) : Prop := ∀ j : Fin 10, j.val < n → ∀ b d, s.codes (ix4 0 0 (at' j b) d) = codeV x d (at' j b)
def HasS (n : Nat) : Prop := ∀ j : Fin 10, j.val < n → ∀ b, s.scales (ix3 0 (headOf i) (at' j b)) = scaleV x (at' j b)
def HasT (r : Fin 10) (n : Nat) : Prop := ∀ m : Fin 10, m.val < n → ∀ a b, s.t (ix3 (slot r) (at' m a) b) = scV x kv (at' m a) (at' r b)
def HasO (n : Nat) : Prop := ∀ j : Fin 10, j.val < n → ∀ b d, s.out (ix3 0 (at' j b) d) = outV x kv d (at' j b)
/-- Rows of the scale block other than this head's are the same in both states. -/
def SameS : Prop := ∀ h p, h ≠ headOf i → s'.scales (ix3 0 h p) = s.scales (ix3 0 h p)

theorem at_inj {j j' : Fin 10} {b b' : Fin 256} (h : at' j b = at' j' b') : j = j' ∧ b = b' := by
  have := congrArg Fin.val h
  simp only [at'] at this
  exact ⟨Fin.ext (by omega), Fin.ext (by omega)⟩

end Holds

/-! ### Query tiles -/

section Prep
variable (x : Ins Ideal) (kv : Fin 4) (i : grid0.Coords) (s : St Ideal) (j : Fin 10)

theorem prep_qt_in (b : Fin 256) (d : Fin 128) : (prepSt x s i j).qt (ix2 d (at' j b)) = codeV x d (at' j b) := by
  simp only [prepSt, St.qt_putQt, St.qt_putCodes, St.qt_putScales]
  rw [← codesT_at, ← rQt_emb, Rect.overlay_emb]
  pointwise []
theorem prep_qt_out (j' : Fin 10) (hj : j' ≠ j) (b : Fin 256) (d : Fin 128) : (prepSt x s i j).qt (ix2 d (at' j' b)) = s.qt (ix2 d (at' j' b)) := by
  simp only [prepSt, St.qt_putQt, St.qt_putCodes, St.qt_putScales]
  refine overlay_off _ _ _ _ fun y hy => hj ?_
  have hy1 := congrArg Fin.val (congrFun hy 1)
  rw [Rect.emb_apply] at hy1
  have h1 : (y 1).val < 256 := (y 1).isLt
  change 256 * j.val + 1 * (y 1).val = 256 * j'.val + b.val at hy1
  exact Fin.ext (by omega)
theorem prep_codes_in (b : Fin 256) (d : Fin 128) : (prepSt x s i j).codes (ix4 0 0 (at' j b) d) = codeV x d (at' j b) := by
  simp only [prepSt, St.codes_putQt, St.codes_putCodes, St.codes_putScales]
  rw [← codesT_at, ← rQ_emb, Rect.overlay_emb]
  pointwise []
theorem prep_codes_out (j' : Fin 10) (hj : j' ≠ j) (b : Fin 256) (d : Fin 128) : (prepSt x s i j).codes (ix4 0 0 (at' j' b) d) = s.codes (ix4 0 0 (at' j' b) d) := by
  simp only [prepSt, St.codes_putQt, St.codes_putCodes, St.codes_putScales]
  refine overlay_off _ _ _ _ fun y hy => hj ?_
  have hy2 := congrArg Fin.val (congrFun hy 2)
  rw [Rect.emb_apply] at hy2
  have h2 : (y 2).val < 256 := (y 2).isLt
  change 256 * j.val + 1 * (y 2).val = 256 * j'.val + b.val at hy2
  exact Fin.ext (by omega)
theorem prep_scales_in (b : Fin 256) : (prepSt x s i j).scales (ix3 0 (headOf i) (at' j b)) = scaleV x (at' j b) := by
  simp only [prepSt, St.scales_putQt, St.scales_putCodes, St.scales_putScales]
  rw [← scaleT_at, ← rS_emb, Rect.overlay_emb]
  pointwise []
theorem prep_scales_out (j' : Fin 10) (hj : j' ≠ j) (h : Fin 28) (b : Fin 256) : (prepSt x s i j).scales (ix3 0 h (at' j' b)) = s.scales (ix3 0 h (at' j' b)) := by
  simp only [prepSt, St.scales_putQt, St.scales_putCodes, St.scales_putScales]
  refine overlay_off _ _ _ _ fun y hy => hj ?_
  have hy2 := congrArg Fin.val (congrFun hy 2)
  rw [Rect.emb_apply] at hy2
  have h2 : (y 2).val < 256 := (y 2).isLt
  change 256 * j.val + 1 * (y 2).val = 256 * j'.val + b.val at hy2
  exact Fin.ext (by omega)
theorem prep_scales_row (h : Fin 28) (hh : h ≠ headOf i) (p : Fin 2560) : (prepSt x s i j).scales (ix3 0 h p) = s.scales (ix3 0 h p) := by
  simp only [prepSt, St.scales_putQt, St.scales_putCodes, St.scales_putScales]
  refine overlay_off _ _ _ _ fun y hy => hh ?_
  have hy1 := congrArg Fin.val (congrFun hy 1)
  rw [Rect.emb_apply] at hy1
  have h1 : (y 1).val < 1 := (y 1).isLt
  have hw := headWord_toNat i
  change (Scalar.indexCast (headWord i) : BitVec 32).toNat + 1 * (y 1).val = h.val at hy1
  exact Fin.ext (by show h.val = 7 * (i 1).val + (i 2).val; omega)
@[simp] theorem prep_out : (prepSt x s i j).out = s.out := by
  simp only [prepSt, St.out_putQt, St.out_putCodes, St.out_putScales]
@[simp] theorem prep_kcol : (prepSt x s i j).kcol = s.kcol := by
  simp only [prepSt, St.kcol_putQt, St.kcol_putCodes, St.kcol_putScales]
@[simp] theorem prep_t : (prepSt x s i j).t = s.t := by
  simp only [prepSt, St.t_putQt, St.t_putCodes, St.t_putScales]

end Prep

/-! ### Score tiles -/

section Score
variable (x : Ins Ideal) (kv : Fin 4) (s : St Ideal) (r n : Fin 10)

theorem scoreL_at (hK : HasK x kv s) (hQ : ∀ b d, s.qt (ix2 d (at' r b)) = codeV x d (at' r b)) (a : Fin 256) (b : Fin 128) :
    scoreL x s r n (ix2 a b) = rawV x kv (at' n a) (at' r (lane 0 b)) := by
  unfold scoreL
  rw [left_apply, dotOf_apply]
  simp only [tileK, rQ_emb, rQt_emb, rKc_emb, hQ]
  rw [hK]
  simp only [rawV, lane, Fin.val_zero, Nat.mul_zero, Nat.zero_add]
theorem scoreR_at (hK : HasK x kv s) (hQ : ∀ b d, s.qt (ix2 d (at' r b)) = codeV x d (at' r b)) (a : Fin 256) (b : Fin 128) :
    scoreR x s r n (ix2 a b) = rawV x kv (at' n a) (at' r (lane 1 b)) := by
  unfold scoreR
  rw [right_apply, dotOf_apply]
  simp only [tileK, rQ_emb, rQt_emb, rKc_emb, hQ]
  rw [hK]
  simp only [rawV, lane, Fin.val_one, Nat.mul_one]

theorem score_t (fl fr : FVec Ideal S256x128 .f32 → FVec Ideal S256x128 .f32) (a : Fin 256) (b : Fin 128) :
    (scoreSt x s r n fl fr).t (ix3 (slot r) (at' n a) (lane 0 b)) = fl (scoreL x s r n) (ix2 a b)
    ∧ (scoreSt x s r n fl fr).t (ix3 (slot r) (at' n a) (lane 1 b)) = fr (scoreR x s r n) (ix2 a b) := by
  simp only [scoreSt, St.t_putT]
  constructor
  · rw [overlay_off (rT r n 1)]
    · rw [← rT_emb, Rect.overlay_emb]
      generalize fl (scoreL x s r n) = w
      pointwise []
    · intro y hy
      have hy2 := congrArg Fin.val (congrFun hy 2)
      rw [Rect.emb_apply] at hy2
      change 128 * 1 + 1 * (y 2).val = 128 * 0 + b.val at hy2
      omega
  · rw [← rT_emb, Rect.overlay_emb]
    generalize fr (scoreR x s r n) = w
    pointwise []
theorem score_t_out (fl fr : FVec Ideal S256x128 .f32 → FVec Ideal S256x128 .f32) (u : Fin 2) (m : Fin 10) (h : u ≠ slot r ∨ m ≠ n) (a b : Fin 256) :
    (scoreSt x s r n fl fr).t (ix3 u (at' m a) b) = s.t (ix3 u (at' m a) b) := by
  have off : ∀ (hh : Fin 2) (y : (rT r n hh).shape.Idx), (rT r n hh).emb y ≠ ix3 u (at' m a) b := by
    intro hh y hy
    have hy0 := congrArg Fin.val (congrFun hy 0)
    have hy1 := congrArg Fin.val (congrFun hy 1)
    rw [Rect.emb_apply] at hy0 hy1
    have h0 : (y 0).val < 1 := (y 0).isLt
    have h1 : (y 1).val < 256 := (y 1).isLt
    change r.val % 2 + 1 * (y 0).val = u.val at hy0
    change 256 * n.val + 1 * (y 1).val = 256 * m.val + a.val at hy1
    rcases h with h | h
    · exact h (Fin.ext (by show u.val = r.val % 2; omega))
    · exact h (Fin.ext (by omega))
  simp only [scoreSt, St.t_putT]
  rw [overlay_off _ _ _ _ (off 1), overlay_off _ _ _ _ (off 0)]
@[simp] theorem score_out (fl fr) : (scoreSt x s r n fl fr).out = s.out := by
  simp only [scoreSt, St.out_putT]
@[simp] theorem score_codes (fl fr) : (scoreSt x s r n fl fr).codes = s.codes := by
  simp only [scoreSt, St.codes_putT]
@[simp] theorem score_scales (fl fr) : (scoreSt x s r n fl fr).scales = s.scales := by
  simp only [scoreSt, St.scales_putT]
@[simp] theorem score_kcol (fl fr) : (scoreSt x s r n fl fr).kcol = s.kcol := by
  simp only [scoreSt, St.kcol_putT]
@[simp] theorem score_qt (fl fr) : (scoreSt x s r n fl fr).qt = s.qt := by
  simp only [scoreSt, St.qt_putT]

end Score

/-! ### Output tiles -/

section Out
variable (s : St Ideal) (r : Fin 10) (acc : FVec Ideal S128x256 .f32) (total : FVec Ideal S8x256 .f32)

def outSt : St Ideal := s.putOut (rO r) (shapeCast S1x256x128 (outOf acc total) shapeCasts_S256x128_S1x256x128)
theorem out_in (b : Fin 256) (d : Fin 128) :
    (outSt s r acc total).out (ix3 0 (at' r b) d) = acc (ix2 d b) * Ideal.div 1 (∑ g : Fin 8, total (ix2 g b)) := by
  simp only [outSt, St.out_putOut]
  rw [← rO_emb, Rect.overlay_emb, ← outOf_apply]
  generalize outOf acc total = w
  pointwise []
theorem out_out (j : Fin 10) (hj : j ≠ r) (b : Fin 256) (d : Fin 128) : (outSt s r acc total).out (ix3 0 (at' j b) d) = s.out (ix3 0 (at' j b) d) := by
  simp only [outSt, St.out_putOut]
  refine overlay_off _ _ _ _ fun y hy => hj ?_
  have hy1 := congrArg Fin.val (congrFun hy 1)
  rw [Rect.emb_apply] at hy1
  have h1 : (y 1).val < 256 := (y 1).isLt
  change 256 * r.val + 1 * (y 1).val = 256 * j.val + b.val at hy1
  exact Fin.ext (by omega)

end Out

end Cert.KernelIdeal.Attn
-- ==== Proof.AttnRun.lean ====
/-
  The attention kernel's body run from start to end: the contents of its output blocks are the values of
  `AttnTile`, position by position.
-/
module

public import proofs.«01_k».proof.Proof.AttnTile

@[expose] public section

set_option maxRecDepth 16384

noncomputable section

namespace Cert.KernelIdeal.Attn

open Idealize.ShloMosaic
open Idealize.SL.Sem (Prog)
open Cert.KernelIdeal Cert.KernelIdeal.Facts₀ Cert.KernelIdeal.Facts

variable [Cert.KernelIdeal.Facts]

/-! ## Sums and maxima over tiles -/

/-- The sum over the positions of the tiles below `n`, and the maximum. -/
def partS (f : Fin 2560 → EReal) (n : Nat) : EReal := ∑ m : Fin 10, if m.val < n then ∑ a, f (at' m a) else 0
def partM (f : Fin 2560 → EReal) (n : Nat) : EReal := Finset.univ.sup fun m : Fin 10 => if m.val < n then Finset.univ.sup fun a => f (at' m a) else ⊥

theorem partS_succ (f : Fin 2560 → EReal) (m : Fin 10) : partS f (m.val + 1) = partS f m.val + ∑ a, f (at' m a) := by
  have e : ∀ k : Fin 10, (if k.val < m.val + 1 then ∑ a, f (at' k a) else 0)
      = (if k.val < m.val then ∑ a, f (at' k a) else 0) + (if k = m then ∑ a, f (at' k a) else 0) := by
    intro k
    by_cases h : k = m
    · subst h; simp
    · have : k.val ≠ m.val := fun e => h (Fin.ext e)
      rw [if_neg h, add_zero]
      exact if_congr (by omega) rfl rfl
  unfold partS
  rw [Finset.sum_congr rfl fun k _ => e k, Finset.sum_add_distrib, Finset.sum_ite_eq' Finset.univ m]
  simp
theorem partS_one (f : Fin 2560 → EReal) : partS f 1 = ∑ a, f (at' 0 a) := by
  have h := partS_succ f 0
  rw [show ((0 : Fin 10).val) = 0 from rfl] at h
  rw [h]
  simp [partS]
theorem partM_succ (f : Fin 2560 → EReal) (m : Fin 10) : partM f (m.val + 1) = max (partM f m.val) (Finset.univ.sup fun a => f (at' m a)) := by
  have e : ∀ k : Fin 10, (if k.val < m.val + 1 then Finset.univ.sup fun a => f (at' k a) else ⊥)
      = (if k.val < m.val then Finset.univ.sup fun a => f (at' k a) else ⊥) ⊔ (if k = m then Finset.univ.sup fun a => f (at' k a) else ⊥) := by
    intro k
    by_cases h : k = m
    · subst h; simp
    · have : k.val ≠ m.val := fun e => h (Fin.ext e)
      rw [if_neg h, sup_bot_eq]
      exact if_congr (by omega) rfl rfl
  unfold partM
  refine (Finset.sup_congr rfl fun k _ => e k).trans (Finset.sup_sup.trans ?_)
  refine congrArg (max _) (le_antisymm (Finset.sup_le fun k _ => ?_) ?_)
  · split_ifs with h
    · subst h; exact le_rfl
    · exact bot_le
  · exact (le_of_eq (if_pos rfl).symm).trans (Finset.le_sup (f := fun k : Fin 10 => if k = m then Finset.univ.sup fun a => f (at' k a) else ⊥) (Finset.mem_univ m))
theorem partM_one (f : Fin 2560 → EReal) : partM f 1 = Finset.univ.sup fun a => f (at' 0 a) := by
  have h := partM_succ f 0
  rw [show ((0 : Fin 10).val) = 0 from rfl] at h
  rw [h]
  simp [partM]

/-- All tiles are all positions. -/
theorem sum_tiles (f : Fin 2560 → EReal) : ∑ k, f k = ∑ m : Fin 10, ∑ a, f (at' m a) := by
  rw [← Fintype.sum_prod_type']
  refine (Fintype.sum_equiv (finProdFinEquiv (m := 10) (n := 256)) _ _ fun p => ?_).symm
  refine congrArg f (Fin.ext ?_)
  simp only [at', finProdFinEquiv_apply_val]; omega
theorem partS_full (f : Fin 2560 → EReal) (n : Nat) (h : ∀ k : Fin 2560, 256 * n ≤ k.val → f k = 0) : partS f n = ∑ k, f k := by
  rw [sum_tiles]
  refine Finset.sum_congr rfl fun m _ => ?_
  split_ifs with hm
  · rfl
  · exact (Finset.sum_eq_zero fun a _ => h _ (by simp only [at']; omega)).symm
theorem partM_full (f : Fin 2560 → EReal) (n : Nat) (h : ∀ k : Fin 2560, 256 * n ≤ k.val → f k = ⊥) : partM f n = Finset.univ.sup f := by
  refine le_antisymm (Finset.sup_le fun m _ => ?_) (Finset.sup_le fun k _ => ?_)
  · split_ifs with hm
    · exact Finset.sup_le fun a _ => Finset.le_sup (Finset.mem_univ _)
    · exact bot_le
  · obtain ⟨m, a, rfl⟩ := exists_at k
    by_cases hm : m.val < n
    · refine .trans ?_ (Finset.le_sup (f := fun m : Fin 10 => if m.val < n then Finset.univ.sup fun a => f (at' m a) else ⊥) (Finset.mem_univ m))
      simp only [if_pos hm]
      exact Finset.le_sup (f := fun a => f (at' m a)) (Finset.mem_univ a)
    · rw [h _ (by simp only [at']; omega)]; exact bot_le

/-- Thirty-two groups of eight. -/
def grp (m : Fin 32) (g : Fin 8) : Fin 256 := ⟨m.val * 8 + g.val, by omega⟩
theorem sum_groups (f : Fin 256 → EReal) : ∑ g : Fin 8, ∑ m : Fin 32, f (grp m g) = ∑ a, f a := by
  rw [Finset.sum_comm, ← Fintype.sum_prod_type']
  refine Fintype.sum_equiv (finProdFinEquiv (m := 32) (n := 8)) _ _ fun p => congrArg f (Fin.ext ?_)
  simp only [grp, finProdFinEquiv_apply_val]; omega
theorem sup_groups (f : Fin 256 → EReal) : (Finset.univ.sup fun g : Fin 8 => Finset.univ.sup fun m : Fin 32 => f (grp m g)) = Finset.univ.sup f := by
  refine le_antisymm (Finset.sup_le fun g _ => Finset.sup_le fun m _ => Finset.le_sup (Finset.mem_univ _)) (Finset.sup_le fun a _ => ?_)
  have e : a = grp ⟨a.val / 8, by omega⟩ ⟨a.val % 8, by omega⟩ := Fin.ext (by simp only [grp]; omega)
  rw [e]
  exact .trans (Finset.le_sup (f := fun m : Fin 32 => f (grp m _)) (Finset.mem_univ _)) (Finset.le_sup (f := fun g : Fin 8 => Finset.univ.sup fun m : Fin 32 => f (grp m g)) (Finset.mem_univ _))

theorem topOf_sup (X Y : FVec Ideal S256x128 .f32) (f : Fin 256 → Fin 256 → EReal) (hX : ∀ a b, X (ix2 a b) = f a (lane 0 b)) (hY : ∀ a b, Y (ix2 a b) = f a (lane 1 b))
    (b : Fin 256) : (Finset.univ.sup fun g : Fin 8 => topOf X Y (ix2 g b)) = Finset.univ.sup fun a => f a b := by
  rw [← sup_groups]
  refine Finset.sup_congr rfl fun g _ => ?_
  rw [topOf_apply]
  refine Finset.sup_congr rfl fun m _ => ?_
  split_ifs with h
  · rw [hX]; exact congrArg (f _) (Fin.ext (by simp only [lane, Fin.val_zero]; omega))
  · rw [hY]; exact congrArg (f _) (Fin.ext (by simp only [lane, Fin.val_one]; omega))

theorem max_sup (u v : FVec Ideal S8x256 .f32) (b : Fin 256) :
    (Finset.univ.sup fun g : Fin 8 => maximumf u v (ix2 g b)) = max (Finset.univ.sup fun g : Fin 8 => u (ix2 g b)) (Finset.univ.sup fun g : Fin 8 => v (ix2 g b)) :=
  Finset.sup_sup

/-! ## The run -/

section Run
variable (c : Dev nD) (A : Mems) (x : Ins Ideal) (kv : Fin 4) (i : grid0.Coords) (s₀ : St Ideal)

/-- What holds between the pieces of the program: `nq` query tiles prepared, `no` output tiles stored. -/
structure Inv (nq no : Nat) (s : St Ideal) : Prop where
  hk : HasK x kv s
  hq : HasQ x s nq
  hc : HasC x s nq
  hs : HasS x i s nq
  ho : HasO x kv s no
  same : SameS i s₀ s

variable {x kv i s₀}

theorem prep_spec {s : St Ideal} {no : Nat} (j : Fin 10) (h : Inv x kv i s₀ j.val no s) :
    Inv x kv i s₀ (j.val + 1) no (prepSt x s i j) where
  hk := fun k l => by rw [prep_kcol]; exact h.hk k l
  hq := fun j' hj b d => by
    by_cases e : j' = j
    · subst e; exact prep_qt_in x i s j' b d
    · rw [prep_qt_out x i s j j' e]; exact h.hq j' (by have : j'.val ≠ j.val := fun h => e (Fin.ext h); omega) b d
  hc := fun j' hj b d => by
    by_cases e : j' = j
    · subst e; exact prep_codes_in x i s j' b d
    · rw [prep_codes_out x i s j j' e]; exact h.hc j' (by have : j'.val ≠ j.val := fun h => e (Fin.ext h); omega) b d
  hs := fun j' hj b => by
    by_cases e : j' = j
    · subst e; exact prep_scales_in x i s j' b
    · rw [prep_scales_out x i s j j' e]; exact h.hs j' (by have : j'.val ≠ j.val := fun h => e (Fin.ext h); omega) b
  ho := fun j' hj b d => by rw [prep_out]; exact h.ho j' hj b d
  same := fun h' p hne => by rw [prep_scales_row x i s j h' hne]; exact h.same h' p hne

theorem score_inv {s : St Ideal} {nq no : Nat} (r n : Fin 10) (fl fr) (h : Inv x kv i s₀ nq no s) : Inv x kv i s₀ nq no (scoreSt x s r n fl fr) where
  hk := fun k l => by rw [score_kcol]; exact h.hk k l
  hq := fun j hj b d => by rw [score_qt]; exact h.hq j hj b d
  hc := fun j hj b d => by rw [score_codes]; exact h.hc j hj b d
  hs := fun j hj b => by rw [score_scales]; exact h.hs j hj b
  ho := fun j hj b d => by rw [score_out]; exact h.ho j hj b d
  same := fun h' p hne => by rw [score_scales]; exact h.same h' p hne

/-- A row that holds its scores against the tiles below `n` holds them up to `n` after tile `n`, and the other row keeps its own. -/
theorem score_hasT {s : St Ideal} (r n : Fin 10) (fl fr) (h : HasT x kv s r n.val)
    (hl : ∀ a b, fl (scoreL x s r n) (ix2 a b) = scV x kv (at' n a) (at' r (lane 0 b)))
    (hr : ∀ a b, fr (scoreR x s r n) (ix2 a b) = scV x kv (at' n a) (at' r (lane 1 b))) : HasT x kv (scoreSt x s r n fl fr) r (n.val + 1) := by
  intro m hm a b
  by_cases e : m = n
  · subst e
    obtain ⟨h', b', rfl⟩ := exists_lane b
    fin_cases h'
    · exact (score_t x s r m fl fr a b').1.trans (hl a b')
    · exact (score_t x s r m fl fr a b').2.trans (hr a b')
  · rw [score_t_out x s r n fl fr _ m (.inr e)]
    exact h m (by have : m.val ≠ n.val := fun h => e (Fin.ext h); omega) a b
theorem score_keepT {s : St Ideal} (r r' n : Fin 10) (fl fr) (m : Nat) (hr : slot r' ≠ slot r) (h : HasT x kv s r' m) : HasT x kv (scoreSt x s r n fl fr) r' m := by
  intro m' hm a b
  rw [score_t_out x s r n fl fr _ m' (.inl hr)]
  exact h m' hm a b

/-- Below the diagonal the scores are unmasked; on it the two masks are the causal one. -/
theorem plain_at {s : St Ideal} {nq no : Nat} (h : Inv x kv i s₀ nq no s) (r n : Fin 10) (hr : r.val < nq) (hn : n.val < r.val) (a : Fin 256) (b : Fin 128) :
    id (scoreL x s r n) (ix2 a b) = scV x kv (at' n a) (at' r (lane 0 b)) ∧ id (scoreR x s r n) (ix2 a b) = scV x kv (at' n a) (at' r (lane 1 b)) := by
  constructor
  · rw [id, scoreL_at x kv s r n h.hk (h.hq r hr), scV, if_pos (by simp only [at', lane]; omega)]
  · rw [id, scoreR_at x kv s r n h.hk (h.hq r hr), scV, if_pos (by simp only [at', lane]; omega)]
theorem mask_at {s : St Ideal} {nq no : Nat} (h : Inv x kv i s₀ nq no s) (r : Fin 10) (hr : r.val < nq) (a : Fin 256) (b : Fin 128) :
    maskLeft (scoreL x s r r) (ix2 a b) = scV x kv (at' r a) (at' r (lane 0 b)) ∧ maskRight (scoreR x s r r) (ix2 a b) = scV x kv (at' r a) (at' r (lane 1 b)) := by
  constructor
  · rw [maskLeft_apply, scoreL_at x kv s r r h.hk (h.hq r hr), scV]
    exact if_congr (by simp only [at', lane, Fin.val_zero]; omega) rfl rfl
  · rw [maskRight_apply, scoreR_at x kv s r r h.hk (h.hq r hr), scV]
    exact if_congr (by simp only [at', lane, Fin.val_one]; omega) rfl rfl

/-- The top of a tile. -/
theorem top_tile {fl fr : FVec Ideal S256x128 .f32 → FVec Ideal S256x128 .f32} {s : St Ideal} {r n : Fin 10}
    (h : ∀ a b, fl (scoreL x s r n) (ix2 a b) = scV x kv (at' n a) (at' r (lane 0 b)) ∧ fr (scoreR x s r n) (ix2 a b) = scV x kv (at' n a) (at' r (lane 1 b)))
    (b : Fin 256) : (Finset.univ.sup fun g : Fin 8 => topOf (fl (scoreL x s r n)) (fr (scoreR x s r n)) (ix2 g b)) = Finset.univ.sup fun a => scV x kv (at' n a) (at' r b) :=
  topOf_sup _ _ (fun a b => scV x kv (at' n a) (at' r b)) (fun a b => (h a b).1) (fun a b => (h a b).2) b

/-- The factor and shift of a row. -/
def IsFac (x : Ins Ideal) (r : Fin 10) (f : FVec Ideal S1x256 .f32) : Prop := ∀ b, f (ix2 0 b) = facV x (at' r b)
def IsShift (x : Ins Ideal) (kv : Fin 4) (r : Fin 10) (f : FVec Ideal S1x256 .f32) : Prop := ∀ b, f (ix2 0 b) = topV x kv (at' r b) * facV x (at' r b)
def IsTop (x : Ins Ideal) (kv : Fin 4) (r : Fin 10) (v : FVec Ideal S8x256 .f32) : Prop := ∀ b, (Finset.univ.sup fun g : Fin 8 => v (ix2 g b)) = topV x kv (at' r b)
def TopTo (x : Ins Ideal) (kv : Fin 4) (r : Fin 10) (n : Nat) (v : FVec Ideal S8x256 .f32) : Prop :=
  ∀ b, (Finset.univ.sup fun g : Fin 8 => v (ix2 g b)) = partM (fun k => scV x kv k (at' r b)) n
def AccTo (x : Ins Ideal) (kv : Fin 4) (r : Fin 10) (n : Nat) (acc : FVec Ideal S128x256 .f32) (total : FVec Ideal S8x256 .f32) : Prop :=
  (∀ d b, acc (ix2 d b) = partS (fun k => x.v (ix4 0 0 d k) * wV x kv k (at' r b)) n)
  ∧ ∀ b, (∑ g : Fin 8, total (ix2 g b)) = partS (fun k => wV x kv k (at' r b)) n

theorem isShift_of {r : Fin 10} {top : FVec Ideal S8x256 .f32} {f : FVec Ideal S1x256 .f32} (ht : IsTop x kv r top) (hf : IsFac x r f) : IsShift x kv r (shiftOf top f) := by
  intro b; rw [shiftOf_apply, ht, hf]

theorem topTo_full {r : Fin 10} {v : FVec Ideal S8x256 .f32} (h : TopTo x kv r (r.val + 1) v) : IsTop x kv r v := by
  intro b
  rw [h, partM_full]; · rfl
  intro k hk
  exact if_neg (by simp only [at']; omega)

theorem weight_at {s : St Ideal} {r n : Fin 10} {m : Nat} (h : HasT x kv s r m) (hn : n.val < m) {f g : FVec Ideal S1x256 .f32} (hf : IsFac x r f) (hg : IsShift x kv r g)
    (a b : Fin 256) : weightT s r n f g (ix2 a b) = wV x kv (at' n a) (at' r b) := by
  unfold weightT
  rw [weights_apply, hf, hg]
  simp only [rTT_emb]
  rw [h n hn]; rfl

theorem weigh_at {s : St Ideal} {r n : Fin 10} {m : Nat} (h : HasT x kv s r m) (hn : n.val < m) {f g : FVec Ideal S1x256 .f32} (hf : IsFac x r f) (hg : IsShift x kv r g) :
    (∀ d b, accOf (tileV x n) (weightT s r n f g) (ix2 d b) = ∑ a, x.v (ix4 0 0 d (at' n a)) * wV x kv (at' n a) (at' r b))
    ∧ ∀ b, (∑ g' : Fin 8, totalOf (weightT s r n f g) (ix2 g' b)) = ∑ a, wV x kv (at' n a) (at' r b) := by
  constructor
  · intro d b
    rw [accOf_apply]
    refine Finset.sum_congr rfl fun a _ => ?_
    rw [weight_at h hn hf hg]
    simp only [tileV, rV_emb]
  · intro b
    simp only [totalOf_apply]
    rw [← sum_groups]
    exact Finset.sum_congr rfl fun g' _ => Finset.sum_congr rfl fun m' _ => weight_at h hn hf hg (grp m' g') b

theorem accTo_first {r : Fin 10} {acc total}
    (h : (∀ d b, acc (ix2 d b) = ∑ a, x.v (ix4 0 0 d (at' 0 a)) * wV x kv (at' 0 a) (at' r b)) ∧ ∀ b, (∑ g' : Fin 8, total (ix2 g' b)) = ∑ a, wV x kv (at' 0 a) (at' r b)) :
    AccTo x kv r 1 acc total :=
  ⟨fun d b => (h.1 d b).trans (partS_one fun k => x.v (ix4 0 0 d k) * wV x kv k (at' r b)).symm, fun b => (h.2 b).trans (partS_one fun k => wV x kv k (at' r b)).symm⟩
theorem accTo_next {r n : Fin 10} {acc acc' : FVec Ideal S128x256 .f32} {total total' : FVec Ideal S8x256 .f32} (h₀ : AccTo x kv r n.val acc total)
    (h : (∀ d b, acc' (ix2 d b) = ∑ a, x.v (ix4 0 0 d (at' n a)) * wV x kv (at' n a) (at' r b)) ∧ ∀ b, (∑ g' : Fin 8, total' (ix2 g' b)) = ∑ a, wV x kv (at' n a) (at' r b)) :
    AccTo x kv r (n.val + 1) (addf acc acc') (addf total total') := by
  constructor
  · intro d b
    rw [partS_succ, ← h₀.1, ← h.1]; rfl
  · intro b
    rw [partS_succ, ← h₀.2, ← h.2, ← Finset.sum_add_distrib]; rfl

theorem run_out (s : St Ideal) (r : Fin 10) (acc : FVec Ideal S128x256 .f32) (total : FVec Ideal S8x256 .f32) :
    Runs c (Own c A x s) (outTile A.out A.hout r acc total) ⟨⟩ (Own c A x (outSt s r acc total)) := run_outTile c A x s r acc total
theorem out_hasT (s : St Ideal) (r : Fin 10) (acc : FVec Ideal S128x256 .f32) (total : FVec Ideal S8x256 .f32) {r' : Fin 10} {m : Nat} (h : HasT x kv s r' m) :
    HasT x kv (outSt s r acc total) r' m := fun n hn a b => by rw [outSt, St.t_putOut]; exact h n hn a b

variable (hw : ∀ k s : Fin 2560, s.val < k.val → wV x kv k s = 0)
include hw

theorem out_val {r : Fin 10} {acc total} (h : AccTo x kv r (r.val + 1) acc total) (d : Fin 128) (b : Fin 256) :
    acc (ix2 d b) * Ideal.div 1 (∑ g : Fin 8, total (ix2 g b)) = outV x kv d (at' r b) := by
  rw [h.1, h.2, partS_full, partS_full]; · rfl
  · intro k hk; exact hw k _ (by simp only [at']; omega)
  · intro k hk
    show x.v (ix4 0 0 d k) * wV x kv k (at' r b) = 0
    rw [hw k _ (by simp only [at']; omega), mul_zero]
theorem out_inv {s : St Ideal} {nq : Nat} {r : Fin 10} {acc total} (h : Inv x kv i s₀ nq r.val s) (ha : AccTo x kv r (r.val + 1) acc total) :
    Inv x kv i s₀ nq (r.val + 1) (outSt s r acc total) where
  hk := fun k l => by rw [outSt, St.kcol_putOut]; exact h.hk k l
  hq := fun j hj b d => by rw [outSt, St.qt_putOut]; exact h.hq j hj b d
  hc := fun j hj b d => by rw [outSt, St.codes_putOut]; exact h.hc j hj b d
  hs := fun j hj b => by rw [outSt, St.scales_putOut]; exact h.hs j hj b
  ho := fun j hj b d => by
    by_cases e : j = r
    · subst e; rw [out_in]; exact out_val hw ha d b
    · rw [out_out s r acc total j e]; exact h.ho j (by have : j.val ≠ r.val := fun h => e (Fin.ext h); omega) b d
  same := fun h' p hne => by rw [outSt, St.scales_putOut]; exact h.same h' p hne

omit hw

theorem slot_ne {r r' : Fin 10} (h : r'.val = r.val + 1) : slot r ≠ slot r' := by
  intro e
  have := congrArg Fin.val e
  simp only [slot] at this
  omega

theorem rowLoop_spec {nq no : Nat} (r : Fin 10) (hr : r.val + 1 < 10) (hq : r.val + 1 < nq) {f g : FVec Ideal S1x256 .f32} (hf : IsFac x r f) (hg : IsShift x kv r g)
    {s : St Ideal} (h : Inv x kv i s₀ nq no s) (hT : HasT x kv s r (r.val + 1)) :
    ∀ (n : Nat) (hn : n ≤ r.val), ∃ v s', Runs c (Own c A x s) (rowLoop A.k A.v A.kcol A.qt A.t r hr f g n hn) v (Own c A x s')
      ∧ Inv x kv i s₀ nq no s' ∧ HasT x kv s' r (r.val + 1) ∧ HasT x kv s' ⟨r.val + 1, hr⟩ (n + 1) ∧ TopTo x kv ⟨r.val + 1, hr⟩ (n + 1) v.1 ∧ AccTo x kv r (n + 1) v.2.1 v.2.2 := by
  intro n
  induction n with
  | zero =>
    intro hn
    have hp := plain_at h ⟨r.val + 1, hr⟩ 0 hq (show (0 : Nat) < r.val + 1 by omega)
    have hT' := score_keepT (x := x) (kv := kv) ⟨r.val + 1, hr⟩ r 0 id id _ (slot_ne rfl) hT
    refine ⟨_, _, (run_scores c A x s _ _ id id).bind ((run_weigh c A x _ r 0 f g).bind (Runs.ret _)), score_inv _ _ _ _ h, hT', ?_, ?_, ?_⟩
    · exact score_hasT _ 0 id id (fun m hm => absurd hm (Nat.not_lt_zero _)) (fun a b => (hp a b).1) (fun a b => (hp a b).2)
    · intro b
      exact (top_tile hp b).trans (partM_one fun k => scV x kv k (at' ⟨r.val + 1, hr⟩ b)).symm
    · exact accTo_first (weigh_at hT' (Nat.succ_pos _) hf hg)
  | succ n ih =>
    intro hn
    obtain ⟨v, s₁, hrun, h₁, hT₁, hU₁, htop, hacc⟩ := ih (Nat.le_of_succ_le hn)
    have hp := plain_at h₁ ⟨r.val + 1, hr⟩ ⟨n + 1, Nat.lt_of_le_of_lt hn r.isLt⟩ hq (show n + 1 < r.val + 1 by omega)
    have hT' := score_keepT (x := x) (kv := kv) ⟨r.val + 1, hr⟩ r ⟨n + 1, Nat.lt_of_le_of_lt hn r.isLt⟩ id id _ (slot_ne rfl) hT₁
    refine ⟨_, _, hrun.bind ((run_scores c A x s₁ _ _ id id).bind ((run_weigh c A x _ r _ f g).bind (Runs.ret _))), score_inv _ _ _ _ h₁, hT', ?_, ?_, ?_⟩
    · exact score_hasT _ ⟨n + 1, _⟩ id id hU₁ (fun a b => (hp a b).1) (fun a b => (hp a b).2)
    · intro b
      have e := partM_succ (fun k => scV x kv k (at' ⟨r.val + 1, hr⟩ b)) ⟨n + 1, Nat.lt_of_le_of_lt hn r.isLt⟩
      refine Eq.trans ?_ e.symm
      refine (max_sup _ _ b).trans ?_
      rw [htop, top_tile hp]
    · exact accTo_next (n := ⟨n + 1, Nat.lt_of_le_of_lt hn r.isLt⟩) hacc (weigh_at hT' (Nat.succ_lt_succ (Nat.lt_of_succ_le hn)) hf hg)

include hw in
theorem rowBody_spec {nq : Nat} (r : Fin 10) (hr : r.val + 1 < 10) (hq : r.val + 1 < nq) {f g : FVec Ideal S1x256 .f32} (hf : IsFac x r f) (hg : IsShift x kv r g)
    {s : St Ideal} (h : Inv x kv i s₀ nq r.val s) (hT : HasT x kv s r (r.val + 1)) :
    ∃ v s', Runs c (Own c A x s) (rowBody A.k A.v A.out A.hout A.kcol A.qt A.t r hr f g) v (Own c A x s')
      ∧ Inv x kv i s₀ nq (r.val + 1) s' ∧ HasT x kv s' ⟨r.val + 1, hr⟩ (r.val + 2) ∧ IsTop x kv ⟨r.val + 1, hr⟩ v := by
  obtain ⟨v, s₁, hrun, h₁, hT₁, hU₁, htop, hacc⟩ := rowLoop_spec c A r hr hq hf hg h hT r.val le_rfl
  have hp := mask_at h₁ ⟨r.val + 1, hr⟩ hq
  refine ⟨_, _, hrun.bind ((run_scores c A x s₁ _ _ maskLeft maskRight).bind ((run_out c A _ r _ _).bind (Runs.ret _))), ?_, ?_, ?_⟩
  · exact out_inv hw (score_inv _ _ _ _ h₁) hacc
  · exact out_hasT _ _ _ _ (score_hasT _ ⟨r.val + 1, hr⟩ maskLeft maskRight hU₁ (fun a b => (hp a b).1) (fun a b => (hp a b).2))
  · refine topTo_full fun b => ?_
    have e := partM_succ (fun k => scV x kv k (at' ⟨r.val + 1, hr⟩ b)) ⟨r.val + 1, hr⟩
    refine Eq.trans ?_ e.symm
    refine (max_sup _ _ b).trans ?_
    rw [htop, top_tile hp]

include hw in
theorem rows_spec {s : St Ideal} (h : Inv x kv i s₀ 0 0 s) :
    ∀ (n : Nat) (hn : n ≤ 8), ∃ v s', Runs c (Own c A x s) (rows i A.q A.cos A.sin A.k A.v A.out A.hout A.codes A.hcodes A.scales A.kcol A.qt A.hqt A.t n hn) v (Own c A x s')
      ∧ Inv x kv i s₀ (n + 2) n s' ∧ HasT x kv s' ⟨n, by omega⟩ (n + 1) ∧ IsFac x ⟨n, by omega⟩ v.1 ∧ IsFac x ⟨n + 1, by omega⟩ v.2.1 ∧ IsTop x kv ⟨n, by omega⟩ v.2.2 := by
  intro n
  induction n with
  | zero =>
    intro hn
    have h₂ := prep_spec 1 (prep_spec (s := s) 0 h)
    have hp := mask_at h₂ 0 (show (0 : Nat) < 2 by omega)
    refine ⟨_, _, (run_prep c A x s i 0).bind ((run_prep c A x _ i 1).bind ((run_scores c A x _ 0 0 maskLeft maskRight).bind (Runs.ret _))), score_inv _ _ _ _ h₂, ?_, ?_, ?_, ?_⟩
    · exact score_hasT 0 0 maskLeft maskRight (fun m hm => absurd hm (Nat.not_lt_zero _)) (fun a b => (hp a b).1) (fun a b => (hp a b).2)
    · exact fun b => factor_at x 0 b
    · exact fun b => factor_at x 1 b
    · exact topTo_full (r := 0) fun b => (top_tile hp b).trans (partM_one fun k => scV x kv k (at' 0 b)).symm
  | succ n ih =>
    intro hn
    obtain ⟨v, s₁, hrun, h₁, hT₁, hf₁, hf₂, htop⟩ := ih (Nat.le_of_succ_le hn)
    have h₂ := prep_spec ⟨n + 2, by omega⟩ h₁
    have hT₂ : HasT x kv (prepSt x s₁ i ⟨n + 2, by omega⟩) ⟨n, by omega⟩ (n + 1) := fun m hm a b => by rw [prep_t]; exact hT₁ m hm a b
    obtain ⟨w, s₂, hrun₂, h₃, hT₃, htop₃⟩ := rowBody_spec c A hw ⟨n, by omega⟩ (by show n + 1 < 10; omega) (show n + 1 < n + 3 by omega) hf₁ (isShift_of htop hf₁) h₂ hT₂
    exact ⟨_, _, hrun.bind ((run_prep c A x _ i ⟨n + 2, by omega⟩).bind (hrun₂.bind (Runs.ret _))), h₃, hT₃, hf₂, fun b => factor_at x _ b, htop₃⟩

theorem lastLoop_spec {f g : FVec Ideal S1x256 .f32} (hf : IsFac x 9 f) (hg : IsShift x kv 9 g) {s : St Ideal} (hT : HasT x kv s 9 10) :
    ∀ (n : Nat) (hn : n ≤ 9), ∃ v, Runs c (Own c A x s) (lastLoop A.v A.t f g n hn) v (Own c A x s) ∧ AccTo x kv 9 (n + 1) v.1 v.2 := by
  intro n
  induction n with
  | zero =>
    intro hn
    exact ⟨_, run_weigh c A x s 9 0 f g, accTo_first (weigh_at hT (by decide) hf hg)⟩
  | succ n ih =>
    intro hn
    obtain ⟨v, hrun, hacc⟩ := ih (Nat.le_of_succ_le hn)
    exact ⟨_, hrun.bind ((run_weigh c A x s 9 ⟨n + 1, Nat.lt_succ_of_le hn⟩ f g).bind (Runs.ret _)), accTo_next (n := ⟨n + 1, Nat.lt_succ_of_le hn⟩) hacc (weigh_at hT (Nat.lt_succ_of_le hn) hf hg)⟩

include hw in
theorem afterFill_spec {s : St Ideal} (h : HasK x kv s) :
    ∃ s', Runs c (Own c A x s) (afterFill i A.q A.cos A.sin A.k A.v A.out A.hout A.codes A.hcodes A.scales A.kcol A.qt A.hqt A.t) ⟨⟩ (Own c A x s') ∧ Inv x kv i s 10 10 s' := by
  have h₀ : Inv x kv i s 0 0 s :=
    ⟨h, fun j hj => absurd hj (Nat.not_lt_zero _), fun j hj => absurd hj (Nat.not_lt_zero _), fun j hj => absurd hj (Nat.not_lt_zero _), fun j hj => absurd hj (Nat.not_lt_zero _), fun _ _ _ => rfl⟩
  obtain ⟨v, s₁, hrun, h₁, hT₁, hf₁, hf₂, htop⟩ := rows_spec c A hw h₀ 8 le_rfl
  have h₁' : Inv x kv i s 10 (8 : Fin 10).val s₁ := h₁
  have hT₁' : HasT x kv s₁ 8 ((8 : Fin 10).val + 1) := hT₁
  obtain ⟨top, s₂, hrun₂, h₂, hT₂, htop₂⟩ := rowBody_spec c A hw 8 (by decide) (by decide) hf₁ (isShift_of htop hf₁) h₁' hT₁'
  have hf₉ : IsFac x 9 v.2.1 := hf₂
  have hT₉ : HasT x kv s₂ 9 10 := hT₂
  have htop₉ : IsTop x kv 9 top := htop₂
  have h₉ : Inv x kv i s 10 (9 : Fin 10).val s₂ := h₂
  obtain ⟨w, hrun₃, hacc⟩ := lastLoop_spec c A hf₉ (isShift_of htop₉ hf₉) hT₉ 9 le_rfl
  have hacc' : AccTo x kv 9 ((9 : Fin 10).val + 1) w.1 w.2 := hacc
  have hout := out_inv hw h₉ hacc'
  refine ⟨outSt s₂ 9 w.1 w.2, ?_, hout⟩
  unfold afterFill
  exact hrun.bind (hrun₂.bind (hrun₃.bind (run_out c A s₂ 9 _ _)))

/-- Filling the key scales. -/
theorem kcolFill_spec (hkv : kv.val = (i 1).val) (s : St Ideal) :
    ∀ (n : Nat) (hn : n ≤ 20), ∃ s', Runs c (Own c A x s) (kcolFill i A.ks A.kcol n hn) ⟨⟩ (Own c A x s')
      ∧ (∀ m : Fin 20, m.val < n → ∀ b l, s'.kcol (ix2 (atC m b) l) = kcV x kv (atC m b)) ∧ s'.scales = s.scales := by
  intro n
  induction n with
  | zero => intro hn; exact ⟨s, Runs.ret _, fun m hm => absurd hm (Nat.not_lt_zero _), rfl⟩
  | succ n ih =>
    intro hn
    obtain ⟨s₁, hrun, h₁, hs⟩ := ih (Nat.le_of_succ_le hn)
    refine ⟨_, hrun.bind (run_kcolChunk c A x s₁ i ⟨n, hn⟩), ?_, by rw [St.scales_putKcol]; exact hs⟩
    intro m hm b l
    rw [St.kcol_putKcol, ← hkv]
    by_cases e : m = ⟨n, hn⟩
    · subst e
      rw [← kcol_at x kv _ b l, ← rKcol_emb, Rect.overlay_emb]
    · rw [overlay_off]
      · exact h₁ m (by have : m.val ≠ n := fun h => e (Fin.ext h); omega) b l
      · intro y hy
        have hy0 := congrArg Fin.val (congrFun hy 0)
        rw [Rect.emb_apply] at hy0
        have h0 : (y 0).val < 128 := (y 0).isLt
        change 128 * n + 1 * (y 0).val = 128 * m.val + b.val at hy0
        exact e (Fin.ext (by show m.val = n; omega))

/-- A point that fills the key scales first. -/
def fromFill (i : grid0.Coords) (A : Mems) : Prog (TpuEff nD τ sig (Elt Ideal) Λ₀ .tc) PUnit := do
  kcolFill i A.ks A.kcol 20 (Nat.le_refl _)
  afterFill i A.q A.cos A.sin A.k A.v A.out A.hout A.codes A.hcodes A.scales A.kcol A.qt A.hqt A.t

theorem Inv.of_scales {s₁ s s' : St Ideal} {nq no : Nat} (h : Inv x kv i s₁ nq no s') (hs : s₁.scales = s.scales) : Inv x kv i s nq no s' where
  hk := h.hk
  hq := h.hq
  hc := h.hc
  hs := h.hs
  ho := h.ho
  same := fun h' p hne => (h.same h' p hne).trans (by rw [hs])

attribute [local irreducible] kcolFill in
include hw in
theorem first_spec (hkv : kv.val = (i 1).val) (s : St Ideal) :
    ∃ s', Runs c (Own c A x s) (fromFill i A) ⟨⟩ (Own c A x s') ∧ Inv x kv i s 10 10 s' := by
  have hfill := kcolFill_spec c A (x := x) (i := i) (kv := kv) hkv s 20 (Nat.le_refl _)
  cases hfill with
  | intro s₁ hfill =>
    have hK : HasK x kv s₁ := fun k l => by obtain ⟨m, b, rfl⟩ := exists_atC k; exact hfill.2.1 m m.isLt b l
    cases afterFill_spec c A hw (i := i) hK with
    | intro s₂ h₂ =>
      refine ⟨s₂, ?_, h₂.2.of_scales hfill.2.2⟩
      unfold fromFill
      exact hfill.1.bind h₂.1

end Run

end Cert.KernelIdeal.Attn
-- ==== Proof.AttnData.lean ====
/-
  The attention kernel's launch: what its three output arrays hold when it has run, position by position.
-/
module

public import proofs.«01_k».proof.Proof.AttnRun
public import proofs.«01_k».proof.Proof.Gen.KernelIdeal.Frame
public import Idealize.ShloMosaic.Lib.Pipeline.DatRel
public import Idealize.ShloMosaic.Lib.Pipeline.ArrRel
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Facts₀ Cert.KernelIdeal.Facts Cert.KernelIdeal.Gen

variable (m : (ℓ : Loc nD τ sig) → Buf (Elt Ideal) ℓ) (ρ : Dev nD → PrngReg)

/-! ## The points -/

/-- The input blocks of a point, and its batch, KV head and query head. -/
def insAt (c : Dev nD) (t : Fin cfg0.N) : Ins Ideal := ⟨iblk m c 0 t, iblk m c 1 t, iblk m c 2 t, iblk m c 3 t, iblk m c 4 t, iblk m c 5 t⟩
def batAt (t : Fin cfg0.N) : Fin 12 := ⟨(grid0.coords t 0).val, (grid0.coords t 0).isLt⟩
def kvAt (t : Fin cfg0.N) : Fin 4 := ⟨(grid0.coords t 1).val, (grid0.coords t 1).isLt⟩
def headAt (t : Fin cfg0.N) : Fin 28 := headOf (grid0.coords t)

theorem lt_N (t : Fin cfg0.N) : t.val < 336 := lt_of_lt_of_eq t.isLt N_0
theorem coord0 (t : Fin cfg0.N) : (grid0.coords t 0).val = t.val / 28 := by
  have e : (grid0.coords t 0).val = t.val / 28 % 12 := Pipeline.Grid.coords_val t 0 (by decide) rfl
  have := lt_N t; omega
theorem coord1 (t : Fin cfg0.N) : (grid0.coords t 1).val = t.val / 7 % 4 := Pipeline.Grid.coords_val t 1 (by decide) rfl
theorem coord2 (t : Fin cfg0.N) : (grid0.coords t 2).val = t.val % 7 := by
  have e : (grid0.coords t 2).val = t.val / 1 % 7 := Pipeline.Grid.coords_val t 2 (by decide) rfl
  rw [e, Nat.div_one]
theorem batAt_val (t : Fin cfg0.N) : (batAt t).val = t.val / 28 := coord0 t
theorem kvAt_val (t : Fin cfg0.N) : (kvAt t).val = t.val / 7 % 4 := coord1 t
theorem headAt_val (t : Fin cfg0.N) : (headAt t).val = t.val % 28 := by
  have h1 := coord1 t; have h2 := coord2 t
  show 7 * (grid0.coords t 1).val + (grid0.coords t 2).val = _
  omega
theorem first_iff (t : Fin cfg0.N) : firstWord (grid0.coords t) = 1#1 ↔ t.val % 7 = 0 := by
  have ht := lt_N t
  unfold firstWord
  simp only [coord2]
  word_cmp

/-- Where each point's blocks lie in the arrays. -/
theorem idx0 : ∀ t, win0_0.index t = ![(grid0.coords t 0).val, 7 * (grid0.coords t 1).val + (grid0.coords t 2).val, 0, 0] := by decide +kernel
theorem idx1 : ∀ t, win0_1.index t = ![(grid0.coords t 0).val, 0, 0] := by decide +kernel
theorem idx2 : ∀ t, win0_2.index t = ![(grid0.coords t 0).val, 0, 0] := by decide +kernel
theorem idx3 : ∀ t, win0_3.index t = ![(grid0.coords t 0).val, (grid0.coords t 1).val, 0, 0] := by decide +kernel
theorem idx4 : ∀ t, win0_4.index t = ![(grid0.coords t 0).val, 0, 0] := by decide +kernel
theorem idx5 : ∀ t, win0_5.index t = ![(grid0.coords t 0).val, (grid0.coords t 1).val, 0, 0] := by decide +kernel
theorem idx6 : ∀ t, win0_6.index t = ![(grid0.coords t 0).val, 0, 7 * (grid0.coords t 1).val + (grid0.coords t 2).val] := by decide +kernel
theorem idx7 : ∀ t, win0_7.index t = ![(grid0.coords t 0).val, 7 * (grid0.coords t 1).val + (grid0.coords t 2).val, 0, 0] := by decide +kernel
theorem idx8 : ∀ t, win0_8.index t = ![(grid0.coords t 0).val, 0, 0] := by decide +kernel

theorem q_at (c : Dev nD) (t : Fin cfg0.N) (s : Fin 2560) (d : Fin 128) :
    (insAt m c t).q (ix4 0 0 s d) = m ((c.tc : Thread nD τ).loc main_arg0) (ix4 (batAt t) (headAt t) s d) := by
  simp only [insAt, batAt, headAt, headOf]; blk_ext [iblk, V, idx0 t]
theorem cos_at (c : Dev nD) (t : Fin cfg0.N) (d : Fin 64) (s : Fin 2560) :
    (insAt m c t).cos (ix3 0 d s) = m ((c.tc : Thread nD τ).loc main_arg1) (ix3 (batAt t) d s) := by
  simp only [insAt, batAt]; blk_ext [iblk, V, idx1 t]
theorem sin_at (c : Dev nD) (t : Fin cfg0.N) (d : Fin 64) (s : Fin 2560) :
    (insAt m c t).sin (ix3 0 d s) = m ((c.tc : Thread nD τ).loc main_arg2) (ix3 (batAt t) d s) := by
  simp only [insAt, batAt]; blk_ext [iblk, V, idx2 t]
theorem k_at (c : Dev nD) (t : Fin cfg0.N) (s : Fin 2560) (d : Fin 128) :
    (insAt m c t).k (ix4 0 0 s d) = m ((c.tc : Thread nD τ).loc main_arg3) (ix4 (batAt t) (kvAt t) s d) := by
  simp only [insAt, batAt, kvAt]; blk_ext [iblk, V, idx3 t]
theorem ks_at (c : Dev nD) (t : Fin cfg0.N) (h : Fin 4) (s : Fin 2560) :
    (insAt m c t).ks (ix3 0 h s) = m ((c.tc : Thread nD τ).loc main_arg4) (ix3 (batAt t) h s) := by
  simp only [insAt, batAt]; blk_ext [iblk, V, idx4 t]
theorem v_at (c : Dev nD) (t : Fin cfg0.N) (d : Fin 128) (s : Fin 2560) :
    (insAt m c t).v (ix4 0 0 d s) = m ((c.tc : Thread nD τ).loc main_arg5) (ix4 (batAt t) (kvAt t) d s) := by
  simp only [insAt, batAt, kvAt]; blk_ext [iblk, V, idx5 t]

end Cert.KernelIdeal.Attn
-- ==== Proof.AttnMath.lean ====
/-
  The values of `AttnTile` as extended real numbers: scales and factors are positive, a masked key weighs nothing.
-/
module

public import proofs.«01_k».proof.Proof.AttnTile

@[expose] public section

set_option maxRecDepth 16384

noncomputable section

namespace Cert.KernelIdeal.Attn

open Idealize.ShloMosaic

/-- A positive normal word is a positive real number. -/
theorem ofBits_pos (w : BitVec 32) (n f : Nat) (h0 : n ≠ 0) (h1 : n ≠ 255) (e : (w.extractLsb' 23 8).toNat = n)
    (hf : (w.extractLsb' 0 23).toNat = f) (g : (w.extractLsb' 31 1 == 1#1) = false) : ∃ r : ℝ, 0 < r ∧ Ideal.ofBits .f32 w = (r : EReal) := by
  have h : Ideal.ofBits .f32 w = Ideal.ieee 8 23 w := rfl
  rw [h]
  unfold Ideal.ieee
  simp only [e, hf, g, Nat.reduceAdd, Nat.reducePow, Nat.reduceSub]
  rw [if_neg h1, if_neg h0]
  refine ⟨_, ?_, rfl⟩
  simp only [Bool.false_eq_true, if_false, one_mul]
  positivity

theorem headScale_pos : ∃ r : ℝ, 0 < r ∧ Ideal.ofBits .f32 0x3DB504F3#32 = (r : EReal) :=
  ofBits_pos _ 123 3474675 (by decide) (by decide) (by decide) (by decide) (by decide)
theorem step_pos : ∃ r : ℝ, 0 < r ∧ Ideal.ofBits .f32 0x3B124925#32 = (r : EReal) :=
  ofBits_pos _ 118 1198373 (by decide) (by decide) (by decide) (by decide) (by decide)
theorem largest_eq : Ideal.ofBits .f32 0x7C800000#32 = (((2:ℝ) ^ (122 : ℤ) : ℝ) : EReal) :=
  ofBits_exponent _ 249 (by decide) (by decide) (by decide) (by decide) (by decide)
theorem smallest_eq : Ideal.ofBits .f32 0x02800000#32 = (((2:ℝ) ^ (-122 : ℤ) : ℝ) : EReal) :=
  ofBits_exponent _ 5 (by decide) (by decide) (by decide) (by decide) (by decide)
theorem log2e_eq : Named.named (F := Ideal) (φ := .f32) κ "log2e" 0x3FB8AA3B#32 = (((Real.log 2)⁻¹ : ℝ) : EReal) := rfl
theorem log2e_pos : 0 < (Real.log 2)⁻¹ := inv_pos.mpr (Real.log_pos (by norm_num))

/-- The scale is a positive real number, and the kernel's second table holds its reciprocal. -/
theorem scOf_inOf (y : EReal) : ∃ r : ℝ, 0 < r ∧ scOf y = (r : EReal) ∧ inOf y = ((r⁻¹ : ℝ) : EReal) := by
  by_cases hy : y = 0
  · exact ⟨1, one_pos, by rw [scOf, if_pos hy]; rfl, by rw [inOf, if_pos hy, inv_one]; rfl⟩
  · let a : Fin 248 → ℝ := fun r => if y < (((2:ℝ) ^ ((r.val : ℤ) - 126) : ℝ) : EReal) then (2:ℝ) ^ ((r.val : ℤ) - 126) else (2:ℝ) ^ (122 : ℤ)
    have ha : ∀ r, 0 < a r := fun r => by simp only [a]; split_ifs <;> positivity
    have h1 : scOf y = Finset.univ.inf fun r => ((a r : ℝ) : EReal) := by
      rw [scOf, if_neg hy]
      refine Finset.inf_congr rfl fun r _ => ?_
      simp only [a]
      split_ifs
      · rfl
      · exact largest_eq
    have h2 : inOf y = Finset.univ.sup fun r => (((a r)⁻¹ : ℝ) : EReal) := by
      rw [inOf, if_neg hy]
      refine Finset.sup_congr rfl fun r _ => ?_
      simp only [a]
      split_ifs
      · rw [← zpow_neg, neg_sub]
      · rw [← zpow_neg]; exact smallest_eq
    obtain ⟨r₀, -, h⟩ := Finset.exists_mem_eq_inf Finset.univ ⟨(0 : Fin 248), Finset.mem_univ _⟩ fun r => ((a r : ℝ) : EReal)
    refine ⟨a r₀, ha r₀, h1.trans h, h2.trans (le_antisymm (Finset.sup_le fun r _ => ?_) (Finset.le_sup (f := fun r => (((a r)⁻¹ : ℝ) : EReal)) (Finset.mem_univ r₀)))⟩
    have hle : ((a r₀ : ℝ) : EReal) ≤ ((a r : ℝ) : EReal) := by rw [← h]; exact Finset.inf_le (Finset.mem_univ r)
    exact EReal.coe_le_coe_iff.mpr (inv_anti₀ (ha r₀) (EReal.coe_le_coe_iff.mp hle))

variable (x : Ins Ideal) (kv : Fin 4)

theorem facV_real (s : Fin 2560) : ∃ r g : ℝ, 0 < r ∧ 0 < g ∧ scaleV x s = (r : EReal) ∧ scaleV x s * Ideal.ofBits .f32 0x3DB504F3#32 = (g : EReal)
    ∧ facV x s = (g : EReal) * (((Real.log 2)⁻¹ : ℝ) : EReal) := by
  obtain ⟨r, hr, hs, -⟩ := scOf_inOf (yq x s)
  obtain ⟨c, hc, he⟩ := headScale_pos
  have hg : scaleV x s * Ideal.ofBits .f32 0x3DB504F3#32 = ((r * c : ℝ) : EReal) := by rw [scaleV, hs, he, EReal.coe_mul]
  exact ⟨r, r * c, hr, mul_pos hr hc, hs, hg, by rw [facV, hg, log2e_eq]⟩
theorem facV_pos (s : Fin 2560) : ∃ f : ℝ, 0 < f ∧ facV x s = (f : EReal) := by
  obtain ⟨r, g, -, hg, -, -, h⟩ := facV_real x s
  exact ⟨g * (Real.log 2)⁻¹, mul_pos hg log2e_pos, by rw [h, EReal.coe_mul]⟩

theorem exp2_bot : Ideal.exp2 (⊥ : EReal) = 0 := rfl
/-- A key above the query weighs nothing. -/
theorem wV_masked (k s : Fin 2560) (h : s.val < k.val) : wV x kv k s = 0 := by
  obtain ⟨f, hf, e⟩ := facV_pos x s
  rw [wV, scV, if_neg (by omega), e, EReal.bot_mul_coe_of_pos hf, sub_eq_add_neg, EReal.bot_add, exp2_bot]

end Cert.KernelIdeal.Attn
-- ==== Proof.AttnBody.lean ====
/-
  The attention kernel's body at one grid point, as the pipeline calls it.
-/
module

public import proofs.«01_k».proof.Proof.AttnData
public import proofs.«01_k».proof.Proof.AttnMath

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Facts₀ Cert.KernelIdeal.Facts Cert.KernelIdeal.Gen

variable (m : (ℓ : Loc nD τ sig) → Buf (Elt Ideal) ℓ) (ρ : Dev nD → PrngReg)

/-! ## The buffers of a point -/

/-- The scratch arrays: the key scales, the query codes, the scores. -/
abbrev scrK : Memref sig .tc .vmem S2560x128 .f32 := Memref.whole cc0_scratch0
abbrev scrQ : Memref sig .tc .vmem S128x2560 .fp8e4m3 := Memref.whole cc0_scratch1
abbrev scrT : Memref sig .tc .vmem S2x2560x256 .f32 := Memref.whole cc0_scratch2

/-- The memrefs that the body gets at a point. -/
def memsAt (t : Fin cfg0.N) : Mems where
  q := win0_0.stage (cfg0.slots t 0)
  cos := win0_1.stage (cfg0.slots t 1)
  sin := win0_2.stage (cfg0.slots t 2)
  k := win0_3.stage (cfg0.slots t 3)
  ks := win0_4.stage (cfg0.slots t 4)
  v := win0_5.stage (cfg0.slots t 5)
  out := win0_6.stage (cfg0.slots t 6)
  hout := Gen.hstage0_6 ((cfg0.slots t 6).cast Gen.nbuf0_6)
  codes := win0_7.stage (cfg0.slots t 7)
  hcodes := Gen.hstage0_7 ((cfg0.slots t 7).cast Gen.nbuf0_7)
  scales := win0_8.stage (cfg0.slots t 8)
  kcol := scrK
  qt := scrQ
  hqt := Memref.isWhole_whole _
  t := scrT

/-- The key scales that the scratch array holds after a point. -/
def KOk (c : Dev nD) (t : Fin cfg0.N) (e : Vec Ideal S2560x128 .f32) : Prop := ∀ k l, e (ix2 k l) = kcV (insAt m c t) (kvAt t) k

/-- Within a group of seven points the key scales stay the same. -/
theorem kcV_prev (c : Dev nD) (t u : Fin cfg0.N) (h : u.val + 1 = t.val) (h7 : t.val % 7 ≠ 0) (k : Fin 2560) :
    kcV (insAt m c t) (kvAt t) k = kcV (insAt m c u) (kvAt u) k := by
  have ht := lt_N t
  have hb : batAt t = batAt u := Fin.ext (by rw [batAt_val, batAt_val]; omega)
  have hv : kvAt t = kvAt u := Fin.ext (by rw [kvAt_val, kvAt_val]; omega)
  unfold kcV
  simp only [ks_at, hb, hv]

/-- The body at a point: the scratch array of key scales is filled at the first point of seven, and found filled at the others. -/
theorem body_spec (c : Dev nD) (t : Fin cfg0.N) (s : St Ideal) (h : t.val % 7 ≠ 0 → KOk m c t s.kcol) :
    ∃ s', Runs c (Own c (memsAt t) (insAt m c t) s) (bodyAt0 (F := Ideal) t) ⟨⟩ (Own c (memsAt t) (insAt m c t) s')
      ∧ Inv (insAt m c t) (kvAt t) (grid0.coords t) s 10 10 s' := by
  by_cases h7 : t.val % 7 = 0
  · have hs := first_spec (x := insAt m c t) (kv := kvAt t) (i := grid0.coords t) c (memsAt t) (wV_masked _ _) rfl s
    unfold bodyAt0
    rw [attention_eq_first _ _ _ _ _ _ _ _ _ _ _ _ _ _ _ _ _ _ _ _ _ _ _ _ _ ((first_iff t).mpr h7)]
    exact hs
  · have hs := afterFill_spec (x := insAt m c t) (kv := kvAt t) (i := grid0.coords t) (s := s) c (memsAt t) (wV_masked _ _) (h h7)
    unfold bodyAt0
    rw [attention_eq_later _ _ _ _ _ _ _ _ _ _ _ _ _ _ _ _ _ _ _ _ _ _ _ _ _ fun e => h7 ((first_iff t).mp e)]
    exact hs

/-! ## What the points leave -/

/-- The outputs' blocks after a point. The block of scales is kept over a batch, and has the rows of the points so far. -/
def OutOk (c : Dev nD) (t : Fin cfg0.N) (X : Vec Ideal S1x2560x128 .bf16) : Prop := ∀ s d, X (ix3 0 s d) = outV (insAt m c t) (kvAt t) d s
def CodesOk (c : Dev nD) (t : Fin cfg0.N) (X : Vec Ideal S1x1x2560x128 .fp8e4m3) : Prop := ∀ s d, X (ix4 0 0 s d) = codeV (insAt m c t) d s
def ScalesOk (c : Dev nD) (t : Fin cfg0.N) (X : Vec Ideal S1x28x2560 .f32) : Prop :=
  ∀ u : Fin cfg0.N, u.val / 28 = t.val / 28 → u.val ≤ t.val → ∀ s, X (ix3 0 (headAt u) s) = scaleV (insAt m c u) s

theorem OutOk.of_inv {c : Dev nD} {t : Fin cfg0.N} {s s' : St Ideal} (h : Inv (insAt m c t) (kvAt t) (grid0.coords t) s 10 10 s') : OutOk m c t s'.out := by
  intro p d; obtain ⟨j, b, rfl⟩ := exists_at p; exact h.ho j j.isLt b d
theorem CodesOk.of_inv {c : Dev nD} {t : Fin cfg0.N} {s s' : St Ideal} (h : Inv (insAt m c t) (kvAt t) (grid0.coords t) s 10 10 s') : CodesOk m c t s'.codes := by
  intro p d; obtain ⟨j, b, rfl⟩ := exists_at p; exact h.hc j j.isLt b d
theorem ScalesOk.of_inv {c : Dev nD} {t : Fin cfg0.N} {s s' : St Ideal} (h : Inv (insAt m c t) (kvAt t) (grid0.coords t) s 10 10 s')
    (hp : ∀ u : Fin cfg0.N, u.val + 1 = t.val → t.val % 28 ≠ 0 → ScalesOk m c u s.scales) : ScalesOk m c t s'.scales := by
  intro u hu hle p
  have ht := lt_N t
  rcases Nat.eq_or_lt_of_le hle with e | hlt
  · obtain rfl : u = t := Fin.ext e
    obtain ⟨j, b, rfl⟩ := exists_at p
    exact h.hs j j.isLt b
  · have hne : headAt u ≠ headOf (grid0.coords t) := fun e => by
      have h1 : (headAt u).val = (headAt t).val := congrArg Fin.val e
      rw [headAt_val, headAt_val] at h1; omega
    rw [h.same _ p hne]
    exact hp ⟨t.val - 1, by omega⟩ (by show t.val - 1 + 1 = t.val; omega) (by omega) u (by show u.val / 28 = (t.val - 1) / 28; omega) (by show u.val ≤ t.val - 1; omega) p

/-! ## The proof data -/

/-- The windows whose contents are held to a predicate: the three outputs. -/
def marks : Fin cfg0.W → Bool := fun w => w.val == 6 || w.val == 7 || w.val == 8

def Rl (c : Dev nD) (w : Fin cfg0.W) (t : Fin cfg0.N) : ((cfg0.win w).block.Idx → Elt Ideal (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun X => OutOk m c t X
  | ⟨7, _⟩ => fun X => CodesOk m c t X
  | ⟨8, _⟩ => fun X => ScalesOk m c t X

/-- The scratch arrays and the generator register, the key scales held to a predicate. -/
def Scr (c : Dev nD) (P : Vec Ideal S2560x128 .f32 → Prop) : Asn Ideal :=
  iprop(iprop((∃ d, ⌜P d⌝ ∗ owns (c : Thread nD τ) scrK fullShare d) ∗ (∃ d, owns (c : Thread nD τ) scrQ fullShare d)
    ∗ (∃ d, owns (c : Thread nD τ) scrT fullShare d)) ∗ (∃ r, prngReg c r))

theorem PhiA_eq (c : Dev nD) : (Pipeline.ΦA spec0 c : Asn Ideal)
    = iprop(iprop((∃ d, owns (c : Thread nD τ) scrK fullShare d) ∗ (∃ d, owns (c : Thread nD τ) scrQ fullShare d)
      ∗ (∃ d, owns (c : Thread nD τ) scrT fullShare d)) ∗ (∃ r, prngReg c r)) := by
  unfold Pipeline.ΦA; rw [scopedRest0_eq]; simp only [scrK, scrQ, scrT, owns_whole]; try rfl

theorem Scr_of_PhiA (c : Dev nD) (P : Vec Ideal S2560x128 .f32 → Prop) (hP : ∀ d, P d) : (Pipeline.ΦA spec0 c : Asn Ideal) ⊢ Scr c P := by
  rw [PhiA_eq]; unfold Scr
  iintro ⟨⟨⟨%d, H0⟩, H1, H2⟩, Hg⟩
  isplitl [H0 H1 H2]
  · isplitl [H0]
    · iexists d; isplitr
      · ipureintro; exact hP d
      · iexact H0
    isplitl [H1]; · iexact H1
    iexact H2
  iexact Hg
theorem Scr_out (c : Dev nD) (P : Vec Ideal S2560x128 .f32 → Prop) : Scr c P ⊢ (Pipeline.ΦA spec0 c : Asn Ideal) := by
  rw [PhiA_eq]; unfold Scr
  iintro ⟨⟨⟨%d, %hd, H0⟩, H1, H2⟩, Hg⟩
  isplitl [H0 H1 H2]
  · isplitl [H0]
    · iexists d; iexact H0
    isplitl [H1]; · iexact H1
    iexact H2
  iexact Hg
theorem Scr_mono (c : Dev nD) (P Q : Vec Ideal S2560x128 .f32 → Prop) (h : ∀ d, P d → Q d) : Scr c P ⊢ Scr c Q := by
  unfold Scr
  iintro ⟨⟨⟨%d, %hd, H0⟩, H1, H2⟩, Hg⟩
  isplitl [H0 H1 H2]
  · isplitl [H0]
    · iexists d; isplitr
      · ipureintro; exact h d hd
      · iexact H0
    isplitl [H1]; · iexact H1
    iexact H2
  iexact Hg

/-- The invariant before position `n`: after a point, the key scales of that point. -/
def PhiV (c : Dev nD) : (n : ℕ) → n ≤ cfg0.N → Asn Ideal
  | 0, _ => Pipeline.ΦA spec0 c
  | n + 1, hn => Scr c (KOk m c ⟨n, hn⟩)

/-- Before a point: the key scales are those of the point unless it is the first of seven. -/
theorem PhiV_before (c : Dev nD) (t : Fin cfg0.N) : PhiV m c t.val (Nat.le_of_lt t.isLt) ⊢ Scr c (fun e => t.val % 7 ≠ 0 → KOk m c t e) := by
  obtain ⟨n, hn⟩ := t
  cases n with
  | zero => exact Scr_of_PhiA c _ fun d h => absurd rfl h
  | succ n => exact Scr_mono c _ _ fun d hd h7 k l => (hd k l).trans (kcV_prev m c ⟨n + 1, hn⟩ ⟨n, Nat.lt_of_succ_lt hn⟩ rfl h7 k).symm

/-- The proof data: the inputs' blocks, the invariant above, nothing owed. -/
def dats (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := PhiV m c t.val (Nat.le_of_lt_succ t.isLt)
  q _ := fullShare
  owed _ := 0

abbrev rdat (c : Dev nD) : Pipeline.RDat τ (Elt Ideal) Unit ℕ (UR sig nD τ) ℕ cfg0 c := (dats m c).toRRel marks (Rl m c)

theorem A_eq (c : Dev nD) (w : Fin cfg0.W) : (dats m c).A w = V m c (Pipeline.arrRef spec0 w) := by
  dsimp only [dats]
theorem Phi_castSucc (c : Dev nD) (t : Fin cfg0.N) : (dats m c).Φ t.castSucc = PhiV m c t.val (Nat.le_of_lt t.isLt) := by
  dsimp only [dats]; exact Pipeline.Dat.Φ_castSucc (PhiV m c) t
theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = iblk m c 2 t := by dsimp only [dats]
theorem after_3 (c : Dev nD) (t : Fin cfg0.N) : (dats m c).after 3 t = iblk m c 3 t := by dsimp only [dats]
theorem after_4 (c : Dev nD) (t : Fin cfg0.N) : (dats m c).after 4 t = iblk m c 4 t := by dsimp only [dats]
theorem after_5 (c : Dev nD) (t : Fin cfg0.N) : (dats m c).after 5 t = iblk m c 5 t := by dsimp only [dats]
theorem before_0 (c : Dev nD) (t : Fin cfg0.N) (d) : (dats m c).before 0 t d = iblk m c 0 t := before0_0_of m (dats m c) (A_eq m c 0) (after_0 m c) t d
theorem before_1 (c : Dev nD) (t : Fin cfg0.N) (d) : (dats m c).before 1 t d = iblk m c 1 t := before0_1_of m (dats m c) (A_eq m c 1) (after_1 m c) t d
theorem before_2 (c : Dev nD) (t : Fin cfg0.N) (d) : (dats m c).before 2 t d = iblk m c 2 t := before0_2_of m (dats m c) (A_eq m c 2) (after_2 m c) t d
theorem before_3 (c : Dev nD) (t : Fin cfg0.N) (d) : (dats m c).before 3 t d = iblk m c 3 t := before0_3_of m (dats m c) (A_eq m c 3) (after_3 m c) t d
theorem before_4 (c : Dev nD) (t : Fin cfg0.N) (d) : (dats m c).before 4 t d = iblk m c 4 t := before0_4_of m (dats m c) (A_eq m c 4) (after_4 m c) t d
theorem before_5 (c : Dev nD) (t : Fin cfg0.N) (d) : (dats m c).before 5 t d = iblk m c 5 t := before0_5_of m (dats m c) (A_eq m c 5) (after_5 m c) t d

theorem no_fetch_8 : ∀ t : Fin cfg0.N, (cfg0.win 8).fetch t = false := by decide +kernel

/-- The block of scales that a point finds has the rows of the earlier points of its batch. -/
theorem finds_8 (c : Dev nD) (t : Fin cfg0.N) (Y : Vec Ideal S1x28x2560 .f32) (h : (rdat m c).Finds 8 t Y) (u : Fin cfg0.N) (hu : u.val + 1 = t.val)
    (h28 : t.val % 28 ≠ 0) : ScalesOk m c u Y := by
  have hz : t.val ≠ 0 := by omega
  have e : (⟨t.val - 1, Nat.lt_of_le_of_lt (Nat.sub_le _ _) t.isLt⟩ : Fin cfg0.N) = u := Fin.ext (by show t.val - 1 = u.val; omega)
  have h' := ((rdat m c).finds_of_pos (no_fetch_8 t) hz Y).mp h
  rw [e] at h'
  rcases h' with hf | hl
  · have := (flush0_8 u).mp hf; omega
  · exact (dats m c).toRRel_leaves (fgt := marks) (Rl := Rl m c) (w := 8) rfl hl

/-! ## The body obligation -/

def bodyPre (c : Dev nD) (t : Fin cfg0.N) : Asn Ideal :=
  iprop((dats m c).Φ t.castSucc ∗ (dats m c).owesAt () t.castSucc
    ∗ (∃ d, owns (c : Thread nD τ) (win0_0.stage (cfg0.slots t 0)) fullShare ((dats m c).before 0 t d))
    ∗ (∃ d, owns (c : Thread nD τ) (win0_1.stage (cfg0.slots t 1)) fullShare ((dats m c).before 1 t d))
    ∗ (∃ d, owns (c : Thread nD τ) (win0_2.stage (cfg0.slots t 2)) fullShare ((dats m c).before 2 t d))
    ∗ (∃ d, owns (c : Thread nD τ) (win0_3.stage (cfg0.slots t 3)) fullShare ((dats m c).before 3 t d))
    ∗ (∃ d, owns (c : Thread nD τ) (win0_4.stage (cfg0.slots t 4)) fullShare ((dats m c).before 4 t d))
    ∗ (∃ d, owns (c : Thread nD τ) (win0_5.stage (cfg0.slots t 5)) fullShare ((dats m c).before 5 t d))
    ∗ (∃ Y, ⌜(rdat m c).Finds 6 t Y⌝ ∗ owns (c : Thread nD τ) (win0_6.stage (cfg0.slots t 6)) fullShare Y)
    ∗ (∃ Y, ⌜(rdat m c).Finds 7 t Y⌝ ∗ owns (c : Thread nD τ) (win0_7.stage (cfg0.slots t 7)) fullShare Y)
    ∗ (∃ Y, ⌜(rdat m c).Finds 8 t Y⌝ ∗ owns (c : Thread nD τ) (win0_8.stage (cfg0.slots t 8)) fullShare Y))

def bodyPost (c : Dev nD) (t : Fin cfg0.N) : Asn Ideal :=
  iprop((dats m c).Φ t.succ ∗ (dats m c).owesAt () t.succ
    ∗ owns (c : Thread nD τ) (win0_0.stage (cfg0.slots t 0)) fullShare ((dats m c).after 0 t)
    ∗ owns (c : Thread nD τ) (win0_1.stage (cfg0.slots t 1)) fullShare ((dats m c).after 1 t)
    ∗ owns (c : Thread nD τ) (win0_2.stage (cfg0.slots t 2)) fullShare ((dats m c).after 2 t)
    ∗ owns (c : Thread nD τ) (win0_3.stage (cfg0.slots t 3)) fullShare ((dats m c).after 3 t)
    ∗ owns (c : Thread nD τ) (win0_4.stage (cfg0.slots t 4)) fullShare ((dats m c).after 4 t)
    ∗ owns (c : Thread nD τ) (win0_5.stage (cfg0.slots t 5)) fullShare ((dats m c).after 5 t)
    ∗ (∃ X, ⌜Rl m c 6 t X⌝ ∗ owns (c : Thread nD τ) (win0_6.stage (cfg0.slots t 6)) fullShare X)
    ∗ (∃ X, ⌜Rl m c 7 t X⌝ ∗ owns (c : Thread nD τ) (win0_7.stage (cfg0.slots t 7)) fullShare X)
    ∗ (∃ X, ⌜Rl m c 8 t X⌝ ∗ owns (c : Thread nD τ) (win0_8.stage (cfg0.slots t 8)) fullShare X))

theorem sound_body (c : Dev nD) (t : Fin cfg0.N) :
    bodyPre m c t ⊢ wp frame (wpE (defs₀ (F := Ideal)) Variants.none c none) Set.univ (bodyAt0 t) (fun _ => bodyPost m c t) := by
  unfold bodyPre
  simp only [before_0, before_1, before_2, before_3, before_4, before_5]
  refine (sep_mono_left ((Phi_castSucc m c t ▸ PhiV_before m c t))).trans ?_
  unfold Scr
  iintro ⟨⟨⟨⟨%eK, %hK, HS0⟩, ⟨%eQ, HS1⟩, ⟨%eT, HS2⟩⟩, Hg⟩, Ho, ⟨%d0, H0⟩, ⟨%d1, H1⟩, ⟨%d2, H2⟩, ⟨%d3, H3⟩, ⟨%d4, H4⟩, ⟨%d5, H5⟩, ⟨%Y6, %h6, H6⟩, ⟨%Y7, %h7, H7⟩, ⟨%Y8, %h8, H8⟩⟩
  obtain ⟨s', hrun, hinv⟩ := body_spec m c t ⟨Y6, Y7, Y8, eK, eQ, eT⟩ hK
  have r6 : Rl m c 6 t s'.out := OutOk.of_inv m hinv
  have r7 : Rl m c 7 t s'.codes := CodesOk.of_inv m hinv
  have r8 : Rl m c 8 t s'.scales := ScalesOk.of_inv m hinv fun u hu h28 => finds_8 m c t Y8 h8 u hu h28
  have rk : KOk m c t s'.kcol := hinv.hk
  iapply (hrun Set.univ _)
  isplitl [H0 H1 H2 H3 H4 H5 H6 H7 H8 HS0 HS1 HS2]
  · unfold Own
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iexact HS2
  unfold Own bodyPost
  rw [show (dats m c).owesAt () t.succ = (dats m c).owesAt () t.castSucc from rfl, show (dats m c).Φ t.succ = Scr c (KOk m c t) from rfl,
    after_0, after_1, after_2, after_3, after_4, after_5]
  unfold Scr
  iintro ⟨H0, H1, H2, H3, H4, H5, H6, H7, H8, HS0, HS1, HS2⟩
  isplitl [HS0 HS1 HS2 Hg]
  · isplitl [HS0 HS1 HS2]
    · isplitl [HS0]
      · iexists _; isplitr
        swap; · iexact HS0
        ipureintro; exact rk
      isplitl [HS1]
      · iexists _; iexact HS1
      iexists _; iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; exact r6
  isplitl [H7]
  · iexists _; isplitr
    swap; · iexact H7
    ipureintro; exact r7
  iexists _; isplitr
  swap; · iexact H8
  ipureintro; exact r8

theorem defs₀_row (t : Fin cfg0.N) : defs₀ (F := Ideal) .tc cfg0.body (cfg0.bodyArgs t (cfg0.slots t)) = bodyAt0 t := by
  unfold defs₀; rw [Defs.onTc_tc]

theorem body_obligation (c : Dev nD) : Pipeline.BodyObligationRel (dats m c) (defs₀ (F := Ideal)) Variants.none () Set.univ marks (Rl m c) := fun t => by
  rw [bigSep_W0, bigSep_W0, defs₀_row]
  exact triple_restated (sound_body m c t) rfl .rfl fun _ => .rfl

end Cert.KernelIdeal.Attn
-- ==== Proof.AttnLaunch.lean ====
/-
  The run of the attention kernel: what its three result arrays hold at the end, and that its arguments stay.
-/
module

public import proofs.«01_k».proof.Proof.AttnBody

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Facts₀ Cert.KernelIdeal.Facts Cert.KernelIdeal.Gen

variable (m : (ℓ : Loc nD τ sig) → Buf (Elt Ideal) ℓ) (ρ : Dev nD → PrngReg)

/-! ## The run -/

theorem launch_in (c : Dev nD) : (Pipeline.ΦA spec0 c : Asn Ideal) ⊢ (rdat m c).Φ 0 := by
  rw [show (rdat m c).Φ 0 = Pipeline.ΦA spec0 c from rfl]
theorem PhiV_out (c : Dev nD) (n : ℕ) (hn : n ≤ cfg0.N) (h : n ≠ 0) : PhiV m c n hn ⊢ (Pipeline.ΦA spec0 c : Asn Ideal) := by
  cases n with
  | zero => exact absurd rfl h
  | succ n => exact Scr_out c _
theorem launch_out (c : Dev nD) : (rdat m c).Φ (Fin.last cfg0.N) ⊢ (Pipeline.ΦA spec0 c : Asn Ideal) := by
  rw [show (rdat m c).Φ (Fin.last cfg0.N) = PhiV m c (Fin.last cfg0.N).val (Nat.le_of_lt_succ (Fin.last cfg0.N).isLt) from rfl]
  exact PhiV_out m c _ _ (by rw [Fin.val_last]; have : cfg0.N = 336 := N_0; omega)

set_option backward.isDefEq.respectTransparency.types false in
/-- The launch: every array at the end as the proof data say, and every counter zero. -/
theorem run_launch : θ_run defs (onTc (τ := τ) (main (F := Ideal))) (s₀ m ρ) (fun r => RDat.FramePost (cfgs 0) (rdat m) (V m) r ∧ r.2.sem = fun _ => 0) :=
  RDat.θ_run_frame_track (Q' := _) cfgs (0 : Fin 1) launch0 defs₀ Variants.none (rdat m) m ρ main
    (hbody := fun c => (body_obligation m c).toRRel) (hshare := fun c => (dats m c).share_full fun _ => rfl)
    (howed := fun _ _ => rfl) (V := V m) (hmain := hmain m Variants.none) (hA := A_eq m) (hin := launch_in m) (hout := launch_out m)

/-! ## The result arrays -/

/-- The point of a query head of a batch entry. -/
def pointOf (b : Fin 12) (h : Fin 28) : Fin cfg0.N := ⟨28 * b.val + h.val, by have : cfg0.N = 336 := N_0; omega⟩
theorem batAt_pointOf (b : Fin 12) (h : Fin 28) : batAt (pointOf b h) = b := Fin.ext (by rw [batAt_val]; show (28 * b.val + h.val) / 28 = b.val; omega)
theorem headAt_pointOf (b : Fin 12) (h : Fin 28) : headAt (pointOf b h) = h := Fin.ext (by rw [headAt_val]; show (28 * b.val + h.val) % 28 = h.val; omega)
theorem kvAt_pointOf (b : Fin 12) (h : Fin 28) : (kvAt (pointOf b h)).val = h.val / 7 := by rw [kvAt_val]; show (28 * b.val + h.val) / 7 % 4 = h.val / 7; omega
theorem pointOf_at (t : Fin cfg0.N) : pointOf (batAt t) (headAt t) = t := Fin.ext (by
  show 28 * (batAt t).val + (headAt t).val = t.val
  rw [batAt_val, headAt_val]; omega)

/-- The column of the attention output of an entry of a head. -/
abbrev colOf (h : Fin 28) (d : Fin 128) : Fin 3584 := ⟨128 * h.val + d.val, by omega⟩

/-- The scales are written back once the last head of a batch entry is done. -/
theorem flush_8 : ∀ t : Fin cfg0.N, (cfg0.win 8).flush t = true → t.val % 28 = 27 := by decide +kernel

variable {m}
variable {after : (w : Fin cfg0.W) → Fin cfg0.N → (cfg0.win w).block.Idx → Elt Ideal (cfg0.win w).elt} {c : Dev nD}
  (hL : ∀ (w : Fin cfg0.W) (u : Fin cfg0.N), (cfg0.win w).flush u = true → (rdat m c).Leaves w u (after w u))
include hL

theorem out_at (b : Fin 12) (s : Fin 2560) (h : Fin 28) (d : Fin 128) :
    ((rdat m c).withAfter after).arrAt 6 cfg0.N (ix3 b s (colOf h d)) = outV (insAt m c (pointOf b h)) (kvAt (pointOf b h)) d s := by
  refine ((rdat m c).withAfter after).arrAt_forall_of_covers 6
    (fun i v => ∀ b s h d, i = ix3 b s (colOf h d) → v = outV (insAt m c (pointOf b h)) (kvAt (pointOf b h)) d s)
    (by decide +kernel) (fun t hf y => ?_) (ix3 b s (colOf h d)) (Memref.isWhole_whole _) b s h d rfl
  have hX : OutOk m c t (after 6 t) := (dats m c).toRRel_leaves (w := 6) rfl (hL 6 t hf)
  intro b s h d e
  have e0 := congrArg Fin.val (congrFun e 0)
  have e1 := congrArg Fin.val (congrFun e 1)
  have e2 := congrArg Fin.val (congrFun e 2)
  blk_simp [idx6 t] at e0 e1 e2
  blk_simp
  have y0 : (y 0).val < 1 := (y 0).isLt
  have y2 : (y 2).val < 128 := (y 2).isLt
  have g : (7 * (grid0.coords t 1).val + (grid0.coords t 2).val) * 128 + (y 2).val = 128 * h.val + d.val := e2
  have hb : batAt t = b := Fin.ext e0
  have hh : headAt t = h := Fin.ext (by show 7 * (grid0.coords t 1).val + (grid0.coords t 2).val = h.val; omega)
  have ht : pointOf b h = t := by rw [← hb, ← hh, pointOf_at]
  rw [ht, ← hX s d]
  show after 6 t y = after 6 t (ix3 0 s d)
  congr 1
  funext a
  fin_cases a <;> apply Fin.ext
  · show (y 0).val = 0; omega
  · exact e1
  · show (y 2).val = d.val; omega

theorem codes_at (b : Fin 12) (h : Fin 28) (s : Fin 2560) (d : Fin 128) :
    ((rdat m c).withAfter after).arrAt 7 cfg0.N (ix4 b h s d) = codeV (insAt m c (pointOf b h)) d s := by
  refine ((rdat m c).withAfter after).arrAt_forall_of_covers 7
    (fun i v => ∀ b h s d, i = ix4 b h s d → v = codeV (insAt m c (pointOf b h)) d s)
    (by decide +kernel) (fun t hf y => ?_) (ix4 b h s d) (Memref.isWhole_whole _) b h s d rfl
  have hX : CodesOk m c t (after 7 t) := (dats m c).toRRel_leaves (w := 7) rfl (hL 7 t hf)
  intro b h s d e
  have e0 := congrArg Fin.val (congrFun e 0)
  have e1 := congrArg Fin.val (congrFun e 1)
  have e2 := congrArg Fin.val (congrFun e 2)
  have e3 := congrArg Fin.val (congrFun e 3)
  blk_simp [idx7 t] at e0 e1 e2 e3
  blk_simp
  have y0 : (y 0).val < 1 := (y 0).isLt
  have y1 : (y 1).val < 1 := (y 1).isLt
  have hb : batAt t = b := Fin.ext e0
  have hh : headAt t = h := Fin.ext e1
  have ht : pointOf b h = t := by rw [← hb, ← hh, pointOf_at]
  rw [ht, ← hX s d]
  show after 7 t y = after 7 t (ix4 0 0 s d)
  congr 1
  funext a
  fin_cases a <;> apply Fin.ext
  · show (y 0).val = 0; omega
  · show (y 1).val = 0; omega
  · exact e2
  · exact e3

theorem scales_at (b : Fin 12) (h : Fin 28) (s : Fin 2560) :
    ((rdat m c).withAfter after).arrAt 8 cfg0.N (ix3 b h s) = scaleV (insAt m c (pointOf b h)) s := by
  refine ((rdat m c).withAfter after).arrAt_forall_of_covers 8
    (fun i v => ∀ b h s, i = ix3 b h s → v = scaleV (insAt m c (pointOf b h)) s)
    (by decide +kernel) (fun t hf y => ?_) (ix3 b h s) (Memref.isWhole_whole _) b h s rfl
  have hX : ScalesOk m c t (after 8 t) := (dats m c).toRRel_leaves (w := 8) rfl (hL 8 t hf)
  have hlast : t.val % 28 = 27 := flush_8 t hf
  intro b h s e
  have e0 := congrArg Fin.val (congrFun e 0)
  have e1 := congrArg Fin.val (congrFun e 1)
  have e2 := congrArg Fin.val (congrFun e 2)
  blk_simp [idx8 t] at e0 e1 e2
  blk_simp
  have y0 : (y 0).val < 1 := (y 0).isLt
  have hb : t.val / 28 = b.val := (batAt_val t).symm.trans e0
  have hu : (pointOf b h).val = 28 * b.val + h.val := rfl
  rw [← hX (pointOf b h) (by omega) (by omega) s, headAt_pointOf]
  show after 8 t y = after 8 t (ix3 0 h s)
  congr 1
  funext a
  fin_cases a <;> apply Fin.ext
  · show (y 0).val = 0; omega
  · exact e1
  · exact e2

omit hL

/-! ## What a run ends with -/

/-- The three results of the kernel and its unchanged arguments, on every device; every counter zero. -/
theorem run : θ_run defs (onTc (τ := τ) (main (F := Ideal))) ⟨m, fun _ => 0, ρ⟩ (fun r => (∀ c : Dev nD,
      ((∀ b s h d, r.2.mem ((c.tc : Thread nD τ).loc main_v0_0) (ix3 b s (colOf h d)) = outV (insAt m c (pointOf b h)) (kvAt (pointOf b h)) d s)
      ∧ (∀ b h s d, r.2.mem ((c.tc : Thread nD τ).loc main_v0_1) (ix4 b h s d) = codeV (insAt m c (pointOf b h)) d s)
      ∧ (∀ b h s, r.2.mem ((c.tc : Thread nD τ).loc main_v0_2) (ix3 b h s) = scaleV (insAt m c (pointOf b h)) s))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r h => ⟨fun c => ⟨?_, ?_⟩, h.2⟩) (run_launch m ρ)
  · obtain ⟨after, hL, hA⟩ := RDat.FramePost.exists_exact h.1 c
    exact ⟨fun b s hd d => (congrFun (hA 6) _).trans (out_at hL b s hd d), fun b hd s d => (congrFun (hA 7) _).trans (codes_at hL b hd s d),
      fun b hd s => (congrFun (hA 8) _).trans (scales_at hL b hd s)⟩
  · have a := fun w hw => RDat.FramePost.arr_in h.1 c w hw
    exact ⟨(a 0 rfl).trans ((A_eq m c 0).trans (V_main_arg0 m c)), (a 1 rfl).trans ((A_eq m c 1).trans (V_main_arg1 m c)),
      (a 2 rfl).trans ((A_eq m c 2).trans (V_main_arg2 m c)), (a 3 rfl).trans ((A_eq m c 3).trans (V_main_arg3 m c)),
      (a 4 rfl).trans ((A_eq m c 4).trans (V_main_arg4 m c)), (a 5 rfl).trans ((A_eq m c 5).trans (V_main_arg5 m c))⟩

end Cert.KernelIdeal.Attn
-- ==== Proof.AttnEReal.lean ====
/-
  The arithmetic of the extended reals that the attention kernel's rearrangements rest on.
-/
module

public import proofs.«01_k».proof.Proof.AttnMath

@[expose] public section

noncomputable section

namespace Cert.KernelIdeal.Attn

open Idealize.ShloMosaic

/-- A nonnegative finite factor moves out of a difference. -/
theorem sub_mul_real (a b : EReal) {L : ℝ} (hL : 0 < L) : a * (L : EReal) - b * (L : EReal) = (a - b) * (L : EReal) := by
  rw [sub_eq_add_neg, sub_eq_add_neg, ← EReal.neg_mul,
    EReal.right_distrib_of_nonneg_of_ne_top (EReal.coe_nonneg.mpr hL.le) (EReal.coe_ne_top L)]

/-- A power of two of a logarithm's multiple is an exponential. -/
theorem exp2_log2e (u : EReal) : Ideal.exp2 (u * (((Real.log 2)⁻¹ : ℝ) : EReal)) = Ideal.exp u := by
  induction u with
  | bot => rw [EReal.bot_mul_coe_of_pos log2e_pos]; rfl
  | top => rw [EReal.top_mul_coe_of_pos log2e_pos]; rfl
  | coe r =>
    rw [← EReal.coe_mul]
    show ((Real.rpow 2 (r * (Real.log 2)⁻¹) : ℝ) : EReal) = (Real.exp r : EReal)
    congr 1
    show (2:ℝ) ^ (r * (Real.log 2)⁻¹) = Real.exp r
    have h : Real.log 2 ≠ 0 := (Real.log_pos (by norm_num)).ne'
    rw [Real.rpow_def_of_pos (by norm_num)]
    congr 1
    field_simp

theorem weight_eq (a b : EReal) {g : ℝ} :
    Ideal.exp2 (a * ((g : EReal) * (((Real.log 2)⁻¹ : ℝ) : EReal)) - b * ((g : EReal) * (((Real.log 2)⁻¹ : ℝ) : EReal)))
      = Ideal.exp (a * (g : EReal) - b * (g : EReal)) := by
  rw [← mul_assoc, ← mul_assoc, sub_mul_real _ _ log2e_pos, exp2_log2e]

theorem exp_nonneg (u : EReal) : 0 ≤ Ideal.exp u := by
  induction u with
  | bot => exact le_refl _
  | top => exact le_top
  | coe r => exact EReal.coe_nonneg.mpr (Real.exp_pos r).le

/-- A positive factor moves out of a largest entry. -/
theorem sup_mul_real {ι : Type} (S : Finset ι) (a : ι → EReal) {g : ℝ} (hg : 0 < g) : S.sup a * (g : EReal) = S.sup fun i => a i * (g : EReal) := by
  refine Finset.comp_sup_eq_sup_comp_of_is_total (fun u : EReal => u * (g : EReal)) (fun u v h => ?_) (EReal.bot_mul_coe_of_pos hg)
  exact mul_le_mul_of_nonneg_right h (EReal.coe_nonneg.mpr hg.le)

theorem sum_mul_of_nonneg {ι : Type} (S : Finset ι) (a : ι → EReal) {r : EReal} (h0 : 0 ≤ r) (h1 : r ≠ ⊤) : (∑ i ∈ S, a i) * r = ∑ i ∈ S, a i * r := by
  classical
  induction S using Finset.induction_on with
  | empty => simp
  | insert i S hi ih => rw [Finset.sum_insert hi, Finset.sum_insert hi, EReal.right_distrib_of_nonneg_of_ne_top h0 h1, ih]

/-- A weighted sum may be normalised before or after it is taken. -/
theorem normalised {ι : Type} [Fintype ι] (v w : ι → EReal) (hw : ∀ i, 0 ≤ w i) :
    (∑ i, v i * w i) * Ideal.div 1 (∑ i, w i) = ∑ i, w i * Ideal.div 1 (∑ i, w i) * v i := by
  by_cases hl : ∑ i, w i = 0
  · have hz : ∀ i, w i = 0 := fun i => (Finset.sum_eq_zero_iff_of_nonneg fun i _ => hw i).mp hl i (Finset.mem_univ i)
    simp [hz]
  · have hp : 0 ≤ ∑ i, w i := Finset.sum_nonneg fun i _ => hw i
    have hd : Ideal.div 1 (∑ i, w i) = (∑ i, w i)⁻¹ := by rw [Ideal.div, if_neg hl, one_mul]
    rw [hd, sum_mul_of_nonneg _ _ (EReal.inv_nonneg_of_nonneg hp)]
    · exact Finset.sum_congr rfl fun i _ => by rw [mul_comm (v i), mul_right_comm]
    · generalize (∑ i, w i) = l at hl hp
      induction l with
      | bot => simp
      | top => simp
      | coe r => rw [← EReal.coe_inv]; exact EReal.coe_ne_top _

theorem div_real (a : EReal) {r : ℝ} (hr : 0 < r) : Ideal.div a (r : EReal) = a * ((r⁻¹ : ℝ) : EReal) := by
  rw [Ideal.div, if_neg (EReal.coe_ne_zero.mpr hr.ne'), EReal.coe_inv]
theorem mul_real_eq_zero (a : EReal) {r : ℝ} (hr : 0 < r) : a * (r : EReal) = 0 ↔ a = 0 := by
  rw [mul_eq_zero]
  exact or_iff_left (EReal.coe_ne_zero.mpr hr.ne')

theorem ofBits_126 (w : BitVec 32) (e : (w.extractLsb' 23 8).toNat = 133) (f : (w.extractLsb' 0 23).toNat = 8126464)
    (g : (w.extractLsb' 31 1 == 1#1) = false) : Ideal.ofBits .f32 w = ((126 : ℝ) : EReal) := by
  show Ideal.ieee 8 23 w = _
  unfold Ideal.ieee
  simp only [e, f, g, Nat.reduceAdd, Nat.reducePow, Nat.reduceSub]
  rw [if_neg (by decide), if_neg (by decide)]
  congr 1
  norm_num
theorem exponent_bias : Ideal.ofBits .f32 0x42FC0000#32 = ((126 : ℝ) : EReal) := ofBits_126 _ (by decide) (by decide) (by decide)
theorem power_eq (r : Fin 248) : Ideal.exp2 (FloatOps.sitofp (F := Ideal) .f32 (BitVec.ofNat 32 r.val) - Ideal.ofBits .f32 0x42FC0000#32)
    = (((2:ℝ) ^ ((r.val : ℤ) - 126) : ℝ) : EReal) := by
  have hr := r.isLt
  have h1 : (BitVec.ofNat 32 r.val).toInt = (r.val : ℤ) := by
    rw [BitVec.toInt_ofNat']
    simp only [Int.bmod_def]
    split_ifs <;> omega
  have h2 : FloatOps.sitofp (F := Ideal) .f32 (BitVec.ofNat 32 r.val) = (((r.val : ℤ) : ℝ) : EReal) := by
    show ((((BitVec.ofNat 32 r.val).toInt : ℤ) : ℝ) : EReal) = _
    rw [h1]
  rw [h2, exponent_bias, ← EReal.coe_sub]
  show ((Real.rpow 2 (((r.val : ℤ) : ℝ) - 126) : ℝ) : EReal) = _
  congr 1
  show (2:ℝ) ^ (((r.val : ℤ) : ℝ) - 126) = _
  rw [← Real.rpow_intCast]
  congr 1
  push_cast
  ring

end Cert.KernelIdeal.Attn
-- ==== Proof.RefPay.lean ====
/-
  The reference's stored values read at an index, on the extended reals.
-/
module

public import proofs.«01_k».proof.Proof.Gen.ReferenceIdeal.Value
public import Idealize.ShloMosaic.Lib.Pointwise

@[expose] public section

set_option maxRecDepth 16384

noncomputable section

namespace Cert.ReferenceIdeal.Attn

open Idealize.ShloMosaic
open Cert.ReferenceIdeal Cert.ReferenceIdeal.Gen

theorem ofBits_ninf : Ideal.ofBits .f32 0xFF800000#32 = ⊥ := by simp [Ideal.ofBits, Ideal.ieee]
theorem ofBits_inf : Ideal.ofBits .f32 0x7F800000#32 = ⊤ := by simp [Ideal.ofBits, Ideal.ieee]
theorem select_ite {α : Type} (b : Bool) (x y : α) : Scalar.select (BitVec.ofBool b) x y = if b = true then x else y := by
  cases b <;> rfl
theorem cmpf_at {F : FTy → Type} [FloatOps F] {s : Shape} {φ : FTy} (p : CmpFPredicate) (x y : FVec F s φ) (i : s.Idx) :
    cmpf p x y i = FloatOps.cmpf p (x i) (y i) := rfl
theorem cmp_zero (a : EReal) : FloatOps.cmpf (F := Ideal) (φ := .f32) .oeq a (Scalar.ofBits .f32 0x00000000#32) = BitVec.ofBool (decide (a = 0)) := by
  have h : (Scalar.ofBits .f32 0x00000000#32 : Ideal .f32) = (0 : EReal) := by simp [Scalar.ofBits, FloatOps.ofBits, Ideal.ofBits, Ideal.ieee]
  rw [h]
  rfl
theorem sle_positions {a b : Fin 2560} : (BitVec.ofNat 32 a.val).sle (BitVec.ofNat 32 b.val) = decide (a.val ≤ b.val) := by
  have ha := a.isLt; have hb := b.isLt
  rw [BitVec.sle_eq_decide, BitVec.toInt_ofNat', BitVec.toInt_ofNat']
  simp only [Int.bmod_def]
  congr 1
  apply propext
  constructor <;> intro h <;> first | omega | (split_ifs at h ⊢ <;> omega) | skip
  all_goals (split_ifs <;> omega)

variable (q : Vec Ideal S12x28x2560x128 .bf16) (cos sin : Vec Ideal S12x64x2560 .f32) (k : Vec Ideal S12x4x2560x128 .fp8e4m3)
  (ks : Vec Ideal S12x4x2560 .f32) (v : Vec Ideal S12x4x128x2560 .bf16)

/-- The KV head of a query head. -/
abbrev kvOf (h : Fin 28) : Fin 4 := ⟨h.val / 7, by omega⟩

/-- The rotated query. -/
theorem rotated_apply (b : Fin 12) (h : Fin 28) (s : Fin 2560) (d : Fin 128) :
    k0_pay2 q cos sin (ix4 b h s d) =
      (q (ix4 b h s d) * if h : d.val < 64 then cos (ix3 b ⟨d.val, h⟩ s) else cos (ix3 b ⟨d.val - 64, by omega⟩ s))
        + (if g : d.val < 64 then 0 - q (ix4 b h s ⟨64 + d.val, by omega⟩) else q (ix4 b h s ⟨d.val - 64, by omega⟩))
          * (if h : d.val < 64 then sin (ix3 b ⟨d.val, h⟩ s) else sin (ix3 b ⟨d.val - 64, by omega⟩ s)) := by
  pointwise [k0_pay2]

/-- The largest magnitude. -/
theorem largest_apply (b : Fin 12) (h : Fin 28) (s : Fin 2560) :
    k0_pay3 q cos sin (ix4 b h s 0) = Finset.univ.sup fun d : Fin 128 => max (k0_pay2 q cos sin (ix4 b h s d)) (-k0_pay2 q cos sin (ix4 b h s d)) := by
  pointwise [k0_pay3]
  simp only [ofBits_ninf, Ideal.absf_def]
  rfl

/-- The powers of two that a scale is taken from. -/
abbrev powers : FVec Ideal S1x1x1x248 .f32 :=
  exp2 (subf (sitofp (F := Ideal) .f32 (iota .tc S1x1x1x248 32 [3] Gen.iota_S1x1x1x248_d3_w32)) (broadcast S1x1x1x248 (Scalar.ofBits .f32 0x42FC0000#32)))

theorem powers_raw (r : Fin 248) :
    powers (ix4 0 0 0 r) = Ideal.exp2 (FloatOps.sitofp (F := Ideal) .f32 (BitVec.ofNat 32 r.val) - Ideal.ofBits .f32 0x42FC0000#32) := by
  pointwise [id]
  rfl

theorem least_apply (X : FVec Ideal S12x28x2560x248 .f32) (b : Fin 12) (h : Fin 28) (s : Fin 2560) :
    shapeCast S12x28x2560x1 (multiReduction .minimumf [3] S12x28x2560 X 0x7F800000#32 Gen.reduces_S12x28x2560x248_S12x28x2560 (.inl rfl) rfl)
      Gen.shapeCasts_S12x28x2560_S12x28x2560x1 (ix4 b h s 0) = Finset.univ.inf fun r : Fin 248 => X (ix4 b h s r) := by
  pointwise [id]
  rw [ofBits_inf]
  rfl

/-- The powers above a magnitude. -/
abbrev above (P : FVec Ideal S1x1x1x248 .f32) (a : FVec Ideal S12x28x2560x1 .f32) : FVec Ideal S12x28x2560x248 .f32 :=
  select
    (cmpf .olt
      (broadcastTo S12x28x2560x248 (mulf a (broadcast S12x28x2560x1 (Scalar.ofBits .f32 0x3B124925#32))) Gen.broadcasts_S12x28x2560x1_S12x28x2560x248)
      (broadcastTo S12x28x2560x248 P Gen.broadcasts_S1x1x1x248_S12x28x2560x248))
    (broadcastTo S12x28x2560x248 (shapeCast S1x1x1x248 P Gen.shapeCasts_S1x1x1x248_S1x1x1x248) Gen.broadcasts_S1x1x1x248_S12x28x2560x248)
    (broadcast S12x28x2560x248 (Scalar.ofBits .f32 0x7C800000#32))
theorem above_apply (P : FVec Ideal S1x1x1x248 .f32) (a : FVec Ideal S12x28x2560x1 .f32) (b : Fin 12) (h : Fin 28) (s : Fin 2560) (r : Fin 248) :
    above P a (ix4 b h s r) = if a (ix4 b h s 0) * Ideal.ofBits .f32 0x3B124925#32 < P (ix4 0 0 0 r) then P (ix4 0 0 0 r) else Ideal.ofBits .f32 0x7C800000#32 := by
  pointwise [id]

theorem leastAbove_apply (b : Fin 12) (h : Fin 28) (s : Fin 2560) :
    k0_pay4 q cos sin (ix4 b h s 0) = Finset.univ.inf fun r : Fin 248 =>
      if k0_pay3 q cos sin (ix4 b h s 0) * Ideal.ofBits .f32 0x3B124925#32 < powers (ix4 0 0 0 r) then powers (ix4 0 0 0 r) else Ideal.ofBits .f32 0x7C800000#32 := by
  delta k0_pay4
  generalize k0_pay3 q cos sin = a
  refine (least_apply (above powers a) b h s).trans ?_
  simp only [above_apply]
theorem isZero_apply (b : Fin 12) (h : Fin 28) (s : Fin 2560) :
    k0_pay5 q cos sin (ix4 b h s 0) = BitVec.ofBool (decide (k0_pay3 q cos sin (ix4 b h s 0) = 0)) := by
  rw [← cmp_zero]
  delta k0_pay5
  generalize k0_pay3 q cos sin = a
  rw [cmpf_at]
  congr 1

section
variable (v21 : FVec Ideal S12x28x2560x128 .f32) (v40 : FVec Ideal S12x28x2560x1 .f32) (v42 : IVec S12x28x2560x1 1)
theorem scale_apply (b : Fin 12) (h : Fin 28) (s : Fin 2560) :
    k0_pay6 v40 v42 (ix4 b h s 0) = Scalar.select (v42 (ix4 b h s 0)) 1 (v40 (ix4 b h s 0)) := by
  pointwise [k0_pay6]
theorem codes_apply (b : Fin 12) (h : Fin 28) (s : Fin 2560) (d : Fin 128) :
    k0_pay7 v21 v40 v42 (ix4 b h s d) = min (Ideal.ofBits .f32 0x43E00000#32)
      (max (Ideal.ofBits .f32 0xC3E00000#32) (Ideal.div (v21 (ix4 b h s d)) (k0_pay6 v40 v42 (ix4 b h s 0)))) := by
  pointwise [k0_pay7]
theorem scales_apply (b : Fin 12) (h : Fin 28) (s : Fin 2560) : k0_pay8 v40 v42 (ix3 b h s) = k0_pay6 v40 v42 (ix4 b h s 0) := by
  pointwise [k0_pay8]
theorem scores_apply (b : Fin 12) (h : Fin 28) (s t : Fin 2560) :
    k0_pay9 v21 v40 v42 k ks (ix4 b h s t) = if t.val ≤ s.val then
      (∑ d : Fin 128, k0_pay7 v21 v40 v42 (ix4 b h s d) * k (ix4 b (kvOf h) t d)) * (k0_pay6 v40 v42 (ix4 b h s 0) * Ideal.ofBits .f32 0x3DB504F3#32)
        * ks (ix3 b (kvOf h) t) else ⊥ := by
  pointwise [k0_pay9]
  rw [IntOp.cmpi, select_ite, sle_positions, ofBits_ninf]
  simp only [decide_eq_true_eq]
theorem top_apply (b : Fin 12) (h : Fin 28) (s : Fin 2560) :
    k0_pay10 v21 v40 v42 k ks (ix4 b h s 0) = Finset.univ.sup fun t : Fin 2560 => k0_pay9 v21 v40 v42 k ks (ix4 b h s t) := by
  pointwise [k0_pay10]
  rw [ofBits_ninf]
  rfl
end

theorem out_apply (v77 : FVec Ideal S12x28x2560x2560 .f32) (v79 : FVec Ideal S12x28x2560x1 .f32) (b : Fin 12) (s : Fin 2560) (h : Fin 28) (d : Fin 128) (n : Fin 3584)
    (hn : n.val = 128 * h.val + d.val) :
    k0_pay1 v77 v79 v (ix3 b s n) = ∑ t : Fin 2560, Ideal.exp (v77 (ix4 b h s t) - v79 (ix4 b h s 0))
      * Ideal.div 1 (∑ t' : Fin 2560, Ideal.exp (v77 (ix4 b h s t') - v79 (ix4 b h s 0))) * v (ix4 b (kvOf h) d t) := by
  pointwise [k0_pay1]
  have e1 : (⟨n.val / 128, by omega⟩ : Fin 28) = h := Fin.ext (by show n.val / 128 = h.val; omega)
  have e2 : (⟨n.val % 128, by omega⟩ : Fin 128) = d := Fin.ext (by show n.val % 128 = d.val; omega)
  have e3 : (⟨n.val / 128 / 7, by omega⟩ : Fin 4) = kvOf h := Fin.ext (by show n.val / 128 / 7 = h.val / 7; omega)
  simp only [e1, e2, e3]

end Cert.ReferenceIdeal.Attn
-- ==== Proof.AttnEq.lean ====
/-
  The reference's values and the kernel's are equal at every index.
-/
module

public import proofs.«01_k».proof.Proof.AttnEReal
public import proofs.«01_k».proof.Proof.RefPay

@[expose] public section

set_option maxRecDepth 16384

noncomputable section

namespace Cert.KernelIdeal.Attn

open Idealize.ShloMosaic
open Cert.ReferenceIdeal.Gen (k0_pay1 k0_pay2 k0_pay3 k0_pay4 k0_pay5 k0_pay6 k0_pay7 k0_pay8 k0_pay9 k0_pay10)
open Cert.ReferenceIdeal.Attn

/-- Blocks `x` of KV head `kv` hold what the arrays hold of batch entry `b` and query head `h`. -/
structure Reads (x : Ins Ideal) (kv : Fin 4) (q : Vec Ideal S12x28x2560x128 .bf16) (cos sin : Vec Ideal S12x64x2560 .f32)
    (k : Vec Ideal S12x4x2560x128 .fp8e4m3) (ks : Vec Ideal S12x4x2560 .f32) (v : Vec Ideal S12x4x128x2560 .bf16) (b : Fin 12) (h : Fin 28) : Prop where
  kv_eq : kv = kvOf h
  q_eq : ∀ s d, x.q (ix4 0 0 s d) = q (ix4 b h s d)
  cos_eq : ∀ d s, x.cos (ix3 0 d s) = cos (ix3 b d s)
  sin_eq : ∀ d s, x.sin (ix3 0 d s) = sin (ix3 b d s)
  k_eq : ∀ s d, x.k (ix4 0 0 s d) = k (ix4 b (kvOf h) s d)
  ks_eq : ∀ g s, x.ks (ix3 0 g s) = ks (ix3 b g s)
  v_eq : ∀ d s, x.v (ix4 0 0 d s) = v (ix4 b (kvOf h) d s)

/-- An entry of the rotated query. -/
def rotV (x : Ins Ideal) (d : Fin 128) (s : Fin 2560) : EReal := if h : d.val < 64 then rotA x ⟨d.val, h⟩ s else rotB x ⟨d.val - 64, by omega⟩ s

theorem codeV_eq (x : Ins Ideal) (d : Fin 128) (s : Fin 2560) : codeV x d s = clipV (rotV x d s) (inOf (yq x s)) := by
  unfold codeV rotV; split_ifs <;> rfl

theorem sup_halves (f : Fin 128 → EReal) :
    (Finset.univ.sup fun d : Fin 64 => max (f ⟨d.val, by omega⟩) (f ⟨64 + d.val, by omega⟩)) = Finset.univ.sup f := by
  refine le_antisymm (Finset.sup_le fun d _ => max_le (Finset.le_sup (Finset.mem_univ _)) (Finset.le_sup (Finset.mem_univ _))) (Finset.sup_le fun d _ => ?_)
  by_cases h : d.val < 64
  · exact (le_max_left (f d) _).trans (Finset.le_sup (f := fun d : Fin 64 => max (f ⟨d.val, by omega⟩) (f ⟨64 + d.val, by omega⟩)) (Finset.mem_univ ⟨d.val, h⟩))
  · have l : ∀ a : Fin 64, f ⟨64 + a.val, by omega⟩ ≤ Finset.univ.sup fun d : Fin 64 => max (f ⟨d.val, by omega⟩) (f ⟨64 + d.val, by omega⟩) := fun a =>
      (le_max_right (f ⟨a.val, by omega⟩) _).trans (Finset.le_sup (f := fun d : Fin 64 => max (f ⟨d.val, by omega⟩) (f ⟨64 + d.val, by omega⟩)) (Finset.mem_univ a))
    refine le_trans (le_of_eq (congrArg f ?_)) (l ⟨d.val - 64, by omega⟩)
    exact Fin.ext (by show d.val = 64 + (d.val - 64); omega)

theorem yq_eq (x : Ins Ideal) (s : Fin 2560) :
    yq x s = (Finset.univ.sup fun d : Fin 128 => max (rotV x d s) (-rotV x d s)) * Ideal.ofBits .f32 0x3B124925#32 := by
  rw [yq, ← sup_halves fun d => max (rotV x d s) (-rotV x d s)]
  refine congrArg (fun u : EReal => u * Ideal.ofBits .f32 0x3B124925#32) (Finset.sup_congr rfl fun d _ => ?_)
  have h1 : rotV x ⟨d.val, by omega⟩ s = rotA x d s := dif_pos d.isLt
  have h2 : rotV x ⟨64 + d.val, by omega⟩ s = rotB x d s := by
    unfold rotV
    rw [dif_neg (by show ¬64 + d.val < 64; omega)]
    congr 1
    exact Fin.ext (by show 64 + d.val - 64 = d.val; omega)
  rw [h1, h2]

variable {x : Ins Ideal} {kv : Fin 4} {q : Vec Ideal S12x28x2560x128 .bf16} {cos sin : Vec Ideal S12x64x2560 .f32}
  {k : Vec Ideal S12x4x2560x128 .fp8e4m3} {ks : Vec Ideal S12x4x2560 .f32} {v : Vec Ideal S12x4x128x2560 .bf16} {b : Fin 12} {h : Fin 28}
  (H : Reads x kv q cos sin k ks v b h)
include H

theorem rotated_eq (s : Fin 2560) (d : Fin 128) : k0_pay2 q cos sin (ix4 b h s d) = rotV x d s := by
  rw [rotated_apply]
  unfold rotV
  by_cases g : d.val < 64
  · simp only [dif_pos g, rotA, H.q_eq, H.cos_eq, H.sin_eq]
    rw [sub_eq_add_neg (0 : EReal), zero_add, EReal.neg_mul, ← sub_eq_add_neg]
  · simp only [dif_neg g, rotB, H.q_eq, H.cos_eq, H.sin_eq]
    have e : (⟨64 + (d.val - 64), by omega⟩ : Fin 128) = d := Fin.ext (by show 64 + (d.val - 64) = d.val; omega)
    rw [e]

theorem largest_eq_sup (s : Fin 2560) : k0_pay3 q cos sin (ix4 b h s 0) * Ideal.ofBits .f32 0x3B124925#32 = yq x s := by
  rw [largest_apply, yq_eq]
  simp only [rotated_eq H]

/-- The scales agree. -/
theorem scale_eq (s : Fin 2560) : k0_pay6 (k0_pay4 q cos sin) (k0_pay5 q cos sin) (ix4 b h s 0) = scaleV x s := by
  obtain ⟨c, hc, he⟩ := step_pos
  have hz : k0_pay3 q cos sin (ix4 b h s 0) = 0 ↔ yq x s = 0 := by rw [← largest_eq_sup H, he, mul_real_eq_zero _ hc]
  rw [scale_apply, isZero_apply, select_ite, leastAbove_apply, largest_eq_sup H, scaleV, scOf]
  simp only [powers_raw, power_eq, decide_eq_true_eq, hz]

theorem code_eq (s : Fin 2560) (d : Fin 128) :
    k0_pay7 (k0_pay2 q cos sin) (k0_pay4 q cos sin) (k0_pay5 q cos sin) (ix4 b h s d) = codeV x d s := by
  obtain ⟨r, hr, hs, hi⟩ := scOf_inOf (yq x s)
  rw [codes_apply, scale_eq H, rotated_eq H, codeV_eq, clipV, scaleV, hs, hi, div_real _ hr]

/-- The scale of a key, selected among the four by a largest entry, for scales that are not negative. -/
theorem kcV_eq (hk : ∀ i, 0 ≤ ks i) (t : Fin 2560) : kcV x kv t = ks (ix3 b (kvOf h) t) := by
  have hb := kv.isLt
  refine le_antisymm (Finset.sup_le fun g _ => ?_) ?_
  · split_ifs with e
    · have hg := g.isLt
      have e' := congrArg BitVec.toNat e
      rw [BitVec.toNat_ofNat, BitVec.toNat_ofNat] at e'
      have : g = kvOf h := by rw [← H.kv_eq]; exact Fin.ext (by omega)
      rw [H.ks_eq, this]
    · exact hk _
  · refine le_trans (le_of_eq ?_) (Finset.le_sup (Finset.mem_univ kv))
    rw [if_pos rfl, H.ks_eq, H.kv_eq]

/-- The reference's score is the kernel's times the query's factor. -/
theorem score_eq (hk : ∀ i, 0 ≤ ks i) (s t : Fin 2560) {g : ℝ} (hg : 0 < g) (he : scaleV x s * Ideal.ofBits .f32 0x3DB504F3#32 = (g : EReal)) :
    k0_pay9 (k0_pay2 q cos sin) (k0_pay4 q cos sin) (k0_pay5 q cos sin) k ks (ix4 b h s t) = scV x kv t s * (g : EReal) := by
  rw [scores_apply, scale_eq H, he, scV]
  by_cases hts : t.val ≤ s.val
  · have e : (∑ d : Fin 128, k0_pay7 (k0_pay2 q cos sin) (k0_pay4 q cos sin) (k0_pay5 q cos sin) (ix4 b h s d) * k (ix4 b (kvOf h) t d))
        = ∑ d : Fin 128, x.k (ix4 0 0 t d) * codeV x d s := Finset.sum_congr rfl fun d _ => by rw [code_eq H, H.k_eq, mul_comm]
    rw [if_pos hts, if_pos hts, rawV, kcV_eq H hk, e, mul_right_comm]
  · rw [if_neg hts, if_neg hts, EReal.bot_mul_coe_of_pos hg]

theorem out_eq (hk : ∀ i, 0 ≤ ks i) (s : Fin 2560) (d : Fin 128) (n : Fin 3584) (hn : n.val = 128 * h.val + d.val) :
    k0_pay1 (k0_pay9 (k0_pay2 q cos sin) (k0_pay4 q cos sin) (k0_pay5 q cos sin) k ks) (k0_pay10 (k0_pay2 q cos sin) (k0_pay4 q cos sin) (k0_pay5 q cos sin) k ks) v
      (ix3 b s n) = outV x kv d s := by
  obtain ⟨r, g, hr, hg, hs, he, hf⟩ := facV_real x s
  have hw : ∀ t, Ideal.exp (k0_pay9 (k0_pay2 q cos sin) (k0_pay4 q cos sin) (k0_pay5 q cos sin) k ks (ix4 b h s t)
      - k0_pay10 (k0_pay2 q cos sin) (k0_pay4 q cos sin) (k0_pay5 q cos sin) k ks (ix4 b h s 0)) = wV x kv t s := fun t => by
    rw [top_apply]
    simp only [score_eq H hk s _ hg he]
    rw [← sup_mul_real _ _ hg, wV, hf, weight_eq, topV]
  rw [out_apply v _ _ b s h d n hn, outV]
  simp only [hw]
  rw [normalised _ _ fun t => by rw [← hw t]; exact exp_nonneg _]
  refine Finset.sum_congr rfl fun t _ => ?_
  rw [H.v_eq]

end Cert.KernelIdeal.Attn
-- ==== Proof.AttnClaims.lean ====
/-
  The claims: every program runs and leaves its arguments unchanged, and the idealized kernel's three results
  are the reference's wherever no key scale is negative.
-/
module

public import proofs.«01_k».proof.Defs
public import proofs.«01_k».proof.Proof.AttnLaunch
public import proofs.«01_k».proof.Proof.AttnEq
public import Idealize.ShloMosaic.Lib.ReduceAll
public import Idealize.ShloMosaic.Lib.Quiescent

@[expose] public section

set_option maxRecDepth 16384

noncomputable section

open Idealize.ShloMosaic Idealize.ShloMosaic.TcCoe Idealize.SL.Sem

namespace Cert.KernelIdeal.Attn

open Cert.KernelIdeal Cert.KernelIdeal.Gen
open Cert.ReferenceIdeal.Value (G6 G7 G8)

/-! ## The precondition -/

theorem scales_nonneg [Cert.Pre_scales_not_negative.Facts] {a0 : Vec Ideal S12x28x2560x128 .bf16} {a1 a2 : Vec Ideal S12x64x2560 .f32}
    {a3 : Vec Ideal S12x4x2560x128 .fp8e4m3} {ks : Vec Ideal S12x4x2560 .f32} {a5 : Vec Ideal S12x4x128x2560 .bf16}
    (h : Cert.Pre_scales_not_negative.fn (F := Ideal) a0 a1 a2 a3 ks a5 = fun _ => 1#1) (i : S12x4x2560.Idx) : 0 ≤ ks i := by
  haveI : Subsingleton Cert.Pre_scales_not_negative.S_.Idx := ⟨fun a b => funext fun x => x.elim0⟩
  have e := Host.reduce_andi_all _ _ _ _ ((fun a => a.elim0 : Cert.Pre_scales_not_negative.S_.Idx)) (congrFun h _) i
  have e' : BitVec.ofBool (decide (Ideal.ofBits .f32 0x00000000#32 ≤ ks i)) = 1#1 := e
  have hz : Ideal.ofBits .f32 0x00000000#32 = 0 := by simp [Ideal.ofBits, Ideal.ieee]
  rw [hz] at e'
  by_contra hn
  rw [decide_eq_false hn] at e'
  exact absurd e' (by decide)

/-! ## The results -/

variable (m : (ℓ : Loc nD τ sig) → Buf (Elt Ideal) ℓ)

/-- The argument arrays. -/
abbrev argQ (c : Dev nD) : Vec Ideal S12x28x2560x128 .bf16 := m ((c.tc : Thread nD τ).loc main_arg0)
abbrev argCos (c : Dev nD) : Vec Ideal S12x64x2560 .f32 := m ((c.tc : Thread nD τ).loc main_arg1)
abbrev argSin (c : Dev nD) : Vec Ideal S12x64x2560 .f32 := m ((c.tc : Thread nD τ).loc main_arg2)
abbrev argK (c : Dev nD) : Vec Ideal S12x4x2560x128 .fp8e4m3 := m ((c.tc : Thread nD τ).loc main_arg3)
abbrev argKs (c : Dev nD) : Vec Ideal S12x4x2560 .f32 := m ((c.tc : Thread nD τ).loc main_arg4)
abbrev argV (c : Dev nD) : Vec Ideal S12x4x128x2560 .bf16 := m ((c.tc : Thread nD τ).loc main_arg5)

theorem reads (c : Dev nD) (b : Fin 12) (h : Fin 28) :
    Reads (insAt m c (pointOf b h)) (kvAt (pointOf b h)) (argQ m c) (argCos m c) (argSin m c) (argK m c) (argKs m c) (argV m c) b h := by
  have hb := batAt_pointOf b h
  have hh := headAt_pointOf b h
  have hk : kvAt (pointOf b h) = Cert.ReferenceIdeal.Attn.kvOf h := Fin.ext (kvAt_pointOf b h)
  exact ⟨hk, fun s d => (q_at m c _ s d).trans (by rw [hb, hh]), fun d s => (cos_at m c _ d s).trans (by rw [hb]),
    fun d s => (sin_at m c _ d s).trans (by rw [hb]), fun s d => (k_at m c _ s d).trans (by rw [hb, hk]),
    fun g s => (ks_at m c _ g s).trans (by rw [hb]), fun d s => (v_at m c _ d s).trans (by rw [hb, hk])⟩

/-- The values that the reference stores before its results read the arguments whole. -/
theorem stored_eq (a0 : Vec Ideal S12x28x2560x128 .bf16) (a1 a2 : Vec Ideal S12x64x2560 .f32) (a3 : Vec Ideal S12x4x2560x128 .fp8e4m3)
    (a4 : Vec Ideal S12x4x2560 .f32) (a5 : Vec Ideal S12x4x128x2560 .bf16) :
    Cert.ReferenceIdeal.Gen.k0_pay11 a0 a1 a2 a3 a4 a5 = Cert.ReferenceIdeal.Gen.k0_pay2 a0 a1 a2
    ∧ Cert.ReferenceIdeal.Gen.k0_pay12 a0 a1 a2 a3 a4 a5 = Cert.ReferenceIdeal.Gen.k0_pay4 a0 a1 a2
    ∧ Cert.ReferenceIdeal.Gen.k0_pay13 a0 a1 a2 a3 a4 a5 = Cert.ReferenceIdeal.Gen.k0_pay5 a0 a1 a2 := by
  unfold Cert.ReferenceIdeal.Gen.k0_pay11 Cert.ReferenceIdeal.Gen.k0_pay12 Cert.ReferenceIdeal.Gen.k0_pay13
  rw [View.ld_unit_zero (S := S12x28x2560x128) Cert.ReferenceIdeal.Value.hz0 _ a0, View.ld_unit_zero (S := S12x64x2560) Cert.ReferenceIdeal.Value.hz1 _ a1,
    View.ld_unit_zero (S := S12x64x2560) Cert.ReferenceIdeal.Value.hz1 _ a2]
  exact ⟨rfl, rfl, rfl⟩

section
variable (c : Dev nD) (hk : ∀ i, 0 ≤ argKs m c i)
include hk
theorem out_result (X : Vec Ideal S12x2560x3584 .bf16)
    (hX : ∀ b s h d, X (ix3 b s (colOf h d)) = outV (insAt m c (pointOf b h)) (kvAt (pointOf b h)) d s) :
    X = G6 (argQ m c) (argCos m c) (argSin m c) (argK m c) (argKs m c) (argV m c) := by
  funext i
  obtain ⟨b, s, n, rfl⟩ : ∃ b s n, i = ix3 b s n := ⟨i 0, i 1, i 2, by funext a; fin_cases a <;> rfl⟩
  obtain ⟨h, d, rfl⟩ : ∃ h d, n = colOf h d :=
    ⟨⟨n.val / 128, by omega⟩, ⟨n.val % 128, by omega⟩, Fin.ext (by show n.val = 128 * (n.val / 128) + n.val % 128; omega)⟩
  obtain ⟨e1, e2, e3⟩ := stored_eq (argQ m c) (argCos m c) (argSin m c) (argK m c) (argKs m c) (argV m c)
  rw [hX, G6, e1, e2, e3, out_eq (reads m c b h) hk s d _ rfl]
omit hk
theorem codes_result (X : Vec Ideal S12x28x2560x128 .fp8e4m3) (hX : ∀ b h s d, X (ix4 b h s d) = codeV (insAt m c (pointOf b h)) d s) :
    X = G7 (argQ m c) (argCos m c) (argSin m c) (argK m c) (argKs m c) (argV m c) := by
  funext i
  obtain ⟨b, h, s, d, rfl⟩ : ∃ b h s d, i = ix4 b h s d := ⟨i 0, i 1, i 2, i 3, by funext a; fin_cases a <;> rfl⟩
  obtain ⟨e1, e2, e3⟩ := stored_eq (argQ m c) (argCos m c) (argSin m c) (argK m c) (argKs m c) (argV m c)
  rw [hX, G7, e1, e2, e3, code_eq (reads m c b h)]
theorem scales_result (X : Vec Ideal S12x28x2560 .f32) (hX : ∀ b h s, X (ix3 b h s) = scaleV (insAt m c (pointOf b h)) s) :
    X = G8 (argQ m c) (argCos m c) (argSin m c) (argK m c) (argKs m c) (argV m c) := by
  funext i
  obtain ⟨b, h, s, rfl⟩ : ∃ b h s, i = ix3 b h s := ⟨i 0, i 1, i 2, by funext a; fin_cases a <;> rfl⟩
  obtain ⟨e1, e2, e3⟩ := stored_eq (argQ m c) (argCos m c) (argSin m c) (argK m c) (argKs m c) (argV m c)
  rw [hX, G8, e2, e3, Cert.ReferenceIdeal.Attn.scales_apply, scale_eq (reads m c b h)]
end

end Cert.KernelIdeal.Attn

/-! ## The claims -/

namespace Cert.Proof.AttnClaims

open Cert.KernelIdeal.Attn

theorem frame_pi : Cert.quiescent_KernelIdeal := fun m ρ _ =>
  (θ_run Cert.KernelIdeal.defs _ _).mono (fun r h => ⟨fun c => (h.1 c).2, h.2⟩) (Cert.KernelIdeal.Attn.run (m := m) ρ)
theorem frame_ri : Cert.quiescent_ReferenceIdeal := fun m ρ _ => Cert.ReferenceIdeal.Gen.frame m ρ

theorem preserves : Cert.preserves_Kernel_KernelIdeal := IdealRules.named_const.statement Cert.KernelIdeal.κ "log2e" .f32 0x3FB8AA3B#32 _ rfl

theorem algebraic [Cert.Pre_scales_not_negative.Facts] : Cert.algebraic_KernelIdeal_ReferenceIdeal_pre_scales_not_negative := fun m g m' g' pre hargs => by
  refine ⟨fun c => Cert.ReferenceIdeal.Value.G6 (argQ m c) (argCos m c) (argSin m c) (argK m c) (argKs m c) (argV m c),
    fun c => Cert.ReferenceIdeal.Value.G7 (argQ m c) (argCos m c) (argSin m c) (argK m c) (argKs m c) (argV m c),
    fun c => Cert.ReferenceIdeal.Value.G8 (argQ m c) (argCos m c) (argSin m c) (argK m c) (argKs m c) (argV m c), ?_, ?_⟩
  · refine (θ_run Cert.KernelIdeal.defs _ _).mono (fun r h c => ?_) (Cert.KernelIdeal.Attn.run (m := m) g)
    obtain ⟨⟨h0, h1, h2⟩, ha⟩ := h.1 c
    exact ⟨out_result m c (scales_nonneg (pre c)) _ h0, codes_result m c _ h1, scales_result m c _ h2, ha⟩
  · refine (θ_run Cert.ReferenceIdeal.defs _ _).mono (fun r h c => ?_) (Cert.ReferenceIdeal.Value.run (F := Ideal) m' g')
    obtain ⟨e0, e1, e2, e3, e4, e5⟩ := hargs c
    obtain ⟨h0, h1, h2, ha⟩ := h c
    refine ⟨h0.trans ?_, h1.trans ?_, h2.trans ?_, ha⟩ <;> rw [e0, e1, e2, e3, e4, e5]

end Cert.Proof.AttnClaims
-- ==== Proof.KeysPay.lean ====
/-
  The key preparation's stored values, in one vocabulary for its four heads, and read at an index.
-/
module

public import proofs.«01_k».proof.Proof.Gen.KeysIdeal.Frame
public import proofs.«01_k».proof.Proof.AttnEReal
public import Idealize.ShloMosaic.Lib.Pointwise

@[expose] public section

set_option maxRecDepth 16384

noncomputable section

namespace Cert.KeysIdeal.Keys

open Idealize.ShloMosaic
open Cert.KeysIdeal Cert.KeysIdeal.Gen
open Cert.KernelIdeal.Attn (powWord invWord powWord_val invWord_val ofBits_ninf ofBits_inf select_ite scOf inOf clipV)

/-! ## The vocabulary -/

/-- The rows of one parity: a head of a pair. -/
def halfOf (p : Fin 2) (raw : Vec Ideal S512x2x128 .bf16) : FVec Ideal S512x128 .bf16 :=
  shapeCast S512x128 (rowsOfParity p S512x1x128 raw bitcasts_S512x2x128_w16_S512x1x128_w32) shapeCasts_S512x1x128_S512x128
/-- A head's rows rotated. -/
def rotOf (C S : FVec Ideal S512x128 .f32) (k : FVec Ideal S512x128 .bf16) : FVec Ideal S512x128 .f32 :=
  addf (mulf (extf .f32 k bitsLt_bf16_f32) C) (mulf (dynamicRotate 1 64#32 none (extf (F := Ideal) .f32 k bitsLt_bf16_f32) rotates_S512x128_d1) S)
/-- The largest magnitude of each row over 448, as one row. -/
def yOf (r : FVec Ideal S512x128 .f32) : FVec Ideal S1x512 .f32 :=
  mulf (extractStridedSlice S1x512 ![0, 0] (transpose S128x512 [1, 0] (broadcastTo S512x128 (shapeCast S512x1 (shapeCast S512x1
    (multiReduction .maximumf [1] S512 (absf r) 0xFF800000#32 reduces_S512x128_S512 (.inl rfl) rfl) shapeCasts_S512_S512x1) shapeCasts_S512x1_S512x1)
    broadcasts_S512x1_S512x128) transposes_S512x128_p1_0_S128x512) slices_S128x512_o0_0_S1x512) (broadcast S1x512 (Scalar.ofBits .f32 0x3B124925#32))
/-- The powers of two, and their reciprocals. -/
def pows : FVec Ideal S248x512 .f32 :=
  bitcastToFloat .f32 (shli (addi (iota .tc S248x512 32 [0] iota_S248x512_d0_w32) (broadcast S248x512 1#32)) (broadcast S248x512 23#32))
def invs : FVec Ideal S248x512 .f32 :=
  bitcastToFloat .f32 (shli (subi (broadcast S248x512 253#32) (iota .tc S248x512 32 [0] iota_S248x512_d0_w32)) (broadcast S248x512 23#32))
def aboveOf (y : FVec Ideal S1x512 .f32) : IVec S248x512 1 :=
  cmpf .olt (broadcastTo S248x512 (shapeCast S1x512 y shapeCasts_S1x512_S1x512) broadcasts_S1x512_S248x512) pows
def zeroOf (y : FVec Ideal S1x512 .f32) : IVec S1x512 1 := cmpf .oeq y (broadcast S1x512 (Scalar.ofBits .f32 0x00000000#32))
/-- The scales, and their reciprocals. -/
def scaleOf (y : FVec Ideal S1x512 .f32) : FVec Ideal S1x512 .f32 :=
  select (zeroOf y) (broadcast S1x512 (Scalar.ofBits .f32 0x3F800000#32)) (shapeCast S1x512
    (multiReduction .minimumf [0] S512 (select (aboveOf y) pows (broadcast S248x512 (Scalar.ofBits .f32 0x7C800000#32))) 0x7F800000#32 reduces_S248x512_S512 (.inl rfl) rfl) shapeCasts_S512_S1x512)
def invOf (y : FVec Ideal S1x512 .f32) : FVec Ideal S1x512 .f32 :=
  select (zeroOf y) (broadcast S1x512 (Scalar.ofBits .f32 0x3F800000#32)) (shapeCast S1x512
    (multiReduction .maximumf [0] S512 (select (aboveOf y) invs (broadcast S248x512 (Scalar.ofBits .f32 0x02800000#32))) 0xFF800000#32 reduces_S248x512_S512 (.inl rfl) rfl) shapeCasts_S512_S1x512)
/-- A row spread over the entries of a head. -/
def spread (x : FVec Ideal S1x512 .f32) : FVec Ideal S512x128 .f32 :=
  transpose S512x128 [1, 0] (broadcastTo S128x512 (shapeCast S1x512 x shapeCasts_S1x512_S1x512) broadcasts_S1x512_S128x512) transposes_S128x512_p1_0_S512x128
/-- What is stored of a head: its scales, its codes twice, its values. -/
def scaleBlk (y : FVec Ideal S1x512 .f32) : FVec Ideal S1x1x512 .f32 :=
  shapeCast S1x1x512 (extractStridedSlice S1x512 ![0, 0] (transpose S128x512 [1, 0] (spread (scaleOf y)) transposes_S512x128_p1_0_S128x512) slices_S128x512_o0_0_S1x512) shapeCasts_S1x512_S1x1x512
def codesOf (r : FVec Ideal S512x128 .f32) (y : FVec Ideal S1x512 .f32) : FVec Ideal S512x128 .f32 :=
  minimumf (broadcast S512x128 (Scalar.ofBits .f32 0x43E00000#32)) (maximumf (broadcast S512x128 (Scalar.ofBits .f32 0xC3E00000#32)) (mulf r (spread (invOf y))))
def codeBlk (r : FVec Ideal S512x128 .f32) (y : FVec Ideal S1x512 .f32) : FVec Ideal S1x1x512x128 .fp8e4m3 :=
  shapeCast S1x1x512x128 (truncf (F := Ideal) .fp8e4m3 (codesOf r y) bitsLt_fp8e4m3_f32) shapeCasts_S512x128_S1x1x512x128
def codeRows (r : FVec Ideal S512x128 .f32) (y : FVec Ideal S1x512 .f32) : FVec Ideal S512x128 .f32 :=
  shapeCast S512x128 (codesOf r y) shapeCasts_S512x128_S512x128
def valueBlk (v : FVec Ideal S512x128 .bf16) : FVec Ideal S1x1x128x512 .bf16 :=
  shapeCast S1x1x128x512 (transpose S128x512 [1, 0] (truncf (F := Ideal) .bf16 (extf .f32 v bitsLt_bf16_f32) bitsLt_bf16_f32) transposes_S512x128_p1_0_S128x512) shapeCasts_S128x512_S1x1x128x512

section Bridges
variable (C S : FVec Ideal S512x128 .f32) (raw : Vec Ideal S512x2x128 .bf16)

theorem scale0 : k0_pay18 k0_pay14 (k0_pay16 C S raw) (k0_pay17 C S raw) (Scalar.ofBits .f32 0x7C800000#32) = scaleBlk (yOf (rotOf C S (halfOf 0 raw))) := rfl
theorem code0 : k0_pay20 (k0_pay12 C S raw) k0_pay15 (k0_pay16 C S raw) (k0_pay17 C S raw) = codeBlk (rotOf C S (halfOf 0 raw)) (yOf (rotOf C S (halfOf 0 raw))) := rfl
theorem rows0 : k0_pay21 (k0_pay12 C S raw) k0_pay15 (k0_pay16 C S raw) (k0_pay17 C S raw) = codeRows (rotOf C S (halfOf 0 raw)) (yOf (rotOf C S (halfOf 0 raw))) := rfl
theorem scale1 : k0_pay32 (k0_pay31 S (k0_pay23 C (k0_pay11 raw)) (k0_pay24 (k0_pay11 raw))) = scaleBlk (yOf (rotOf C S (halfOf 1 raw))) := rfl
theorem code1 : k0_pay34 (k0_pay25 S (k0_pay23 C (k0_pay11 raw)) (k0_pay24 (k0_pay11 raw))) (k0_pay30 S (k0_pay23 C (k0_pay11 raw)) (k0_pay24 (k0_pay11 raw)))
    = codeBlk (rotOf C S (halfOf 1 raw)) (yOf (rotOf C S (halfOf 1 raw))) := rfl
theorem rows1 : k0_pay35 (k0_pay25 S (k0_pay23 C (k0_pay11 raw)) (k0_pay24 (k0_pay11 raw))) (k0_pay30 S (k0_pay23 C (k0_pay11 raw)) (k0_pay24 (k0_pay11 raw)))
    = codeRows (rotOf C S (halfOf 1 raw)) (yOf (rotOf C S (halfOf 1 raw))) := rfl
theorem scale2 : k0_pay43 (k0_pay38 C S raw) k0_pay39 = scaleBlk (yOf (rotOf C S (halfOf 0 raw))) := rfl
theorem code2 : k0_pay46 (k0_pay45 (k0_pay37 C S raw) (k0_pay38 C S raw) (iota .tc S248x512 32 [0] iota_S248x512_d0_w32) k0_pay39)
    = codeBlk (rotOf C S (halfOf 0 raw)) (yOf (rotOf C S (halfOf 0 raw))) := rfl
theorem rows2 : k0_pay47 (k0_pay44 (k0_pay37 C S raw) (k0_pay38 C S raw) (iota .tc S248x512 32 [0] iota_S248x512_d0_w32) k0_pay39)
    = codeRows (rotOf C S (halfOf 0 raw)) (yOf (rotOf C S (halfOf 0 raw))) := rfl
theorem scale3 : k0_pay56 (k0_pay54 C S (k0_pay36 raw)) = scaleBlk (yOf (rotOf C S (halfOf 1 raw))) := rfl
theorem code3 : k0_pay58 (k0_pay48 C S (k0_pay36 raw)) k0_pay51 (k0_pay52 C S (k0_pay36 raw)) (k0_pay53 C S (k0_pay36 raw)) k0_pay55
    = codeBlk (rotOf C S (halfOf 1 raw)) (yOf (rotOf C S (halfOf 1 raw))) := rfl
theorem rows3 : k0_pay59 (k0_pay48 C S (k0_pay36 raw)) k0_pay51 (k0_pay52 C S (k0_pay36 raw)) (k0_pay53 C S (k0_pay36 raw)) k0_pay55
    = codeRows (rotOf C S (halfOf 1 raw)) (yOf (rotOf C S (halfOf 1 raw))) := rfl
theorem value0 : k0_pay63 raw = valueBlk (halfOf 0 raw) := rfl
theorem value1 : k0_pay64 raw = valueBlk (halfOf 1 raw) := rfl
theorem value2 : k0_pay1 (k0_pay66 raw) = valueBlk (halfOf 0 raw) := rfl
theorem value3 : k0_pay2 (k0_pay65 raw) = valueBlk (halfOf 1 raw) := rfl
end Bridges

/-! ## Read at an index -/

theorem halfOf_apply (p : Fin 2) (raw : Vec Ideal S512x2x128 .bf16) (s : Fin 512) (d : Fin 128) : halfOf p raw (ix2 s d) = raw (ix3 s p d) := by
  unfold halfOf
  fin_cases p
  · pointwise [id]
  · pointwise [id]
theorem rotOf_apply (C S : FVec Ideal S512x128 .f32) (k : FVec Ideal S512x128 .bf16) (s : Fin 512) (d : Fin 128) :
    rotOf C S k (ix2 s d) = k (ix2 s d) * C (ix2 s d) + k (ix2 s ⟨(d.val + 64) % 128, Nat.mod_lt _ (by decide)⟩) * S (ix2 s d) := by
  have h : (⟨(d.val + 64) % 128, Nat.mod_lt _ (by decide)⟩ : Fin 128) = ⟨(d.val + 128 - 64) % 128, Nat.mod_lt _ (by decide)⟩ := by
    apply Fin.ext; show (d.val + 64) % 128 = (d.val + 128 - 64) % 128; omega
  rw [h]
  pointwise [rotOf]
theorem yOf_apply (r : FVec Ideal S512x128 .f32) (s : Fin 512) :
    yOf r (ix2 0 s) = (Finset.univ.sup fun d : Fin 128 => max (r (ix2 s d)) (-r (ix2 s d))) * Ideal.ofBits .f32 0x3B124925#32 := by
  pointwise [yOf]
  simp only [ofBits_ninf, Ideal.absf_def]
  rfl
theorem pows_apply (r : Fin 248) (j : Fin 512) : pows (ix2 r j) = (((2:ℝ) ^ ((r.val : ℤ) - 126) : ℝ) : EReal) := by
  have h := powWord_val r
  unfold powWord at h
  pointwise [pows]
  exact h
theorem invs_apply (r : Fin 248) (j : Fin 512) : invs (ix2 r j) = (((2:ℝ) ^ (126 - (r.val : ℤ)) : ℝ) : EReal) := by
  have h := invWord_val r
  unfold invWord at h
  pointwise [invs]
  exact h
theorem scaleOf_raw (y : FVec Ideal S1x512 .f32) (j : Fin 512) :
    scaleOf y (ix2 0 j) = if y (ix2 0 j) = 0 then 1 else
      Finset.univ.inf fun r : Fin 248 => if y (ix2 0 j) < pows (ix2 r j) then pows (ix2 r j) else Ideal.ofBits .f32 0x7C800000#32 := by
  pointwise [scaleOf, zeroOf, aboveOf]
  rw [ofBits_inf]
  rfl
theorem invOf_raw (y : FVec Ideal S1x512 .f32) (j : Fin 512) :
    invOf y (ix2 0 j) = if y (ix2 0 j) = 0 then 1 else
      Finset.univ.sup fun r : Fin 248 => if y (ix2 0 j) < pows (ix2 r j) then invs (ix2 r j) else Ideal.ofBits .f32 0x02800000#32 := by
  pointwise [invOf, zeroOf, aboveOf]
  rw [ofBits_ninf]
  rfl
theorem scaleOf_apply (y : FVec Ideal S1x512 .f32) (j : Fin 512) : scaleOf y (ix2 0 j) = scOf (y (ix2 0 j)) := by
  rw [scaleOf_raw]; simp only [pows_apply]; rfl
theorem invOf_apply (y : FVec Ideal S1x512 .f32) (j : Fin 512) : invOf y (ix2 0 j) = inOf (y (ix2 0 j)) := by
  rw [invOf_raw]; simp only [pows_apply, invs_apply]; rfl
theorem spread_apply (x : FVec Ideal S1x512 .f32) (s : Fin 512) (d : Fin 128) : spread x (ix2 s d) = x (ix2 0 s) := by
  pointwise [spread]
theorem scaleBlk_apply (y : FVec Ideal S1x512 .f32) (s : Fin 512) : scaleBlk y (ix3 0 0 s) = scOf (y (ix2 0 s)) := by
  rw [← scaleOf_apply, ← spread_apply (scaleOf y) s 0]
  pointwise [scaleBlk]
theorem codesOf_apply (r : FVec Ideal S512x128 .f32) (y : FVec Ideal S1x512 .f32) (s : Fin 512) (d : Fin 128) :
    codesOf r y (ix2 s d) = clipV (r (ix2 s d)) (inOf (y (ix2 0 s))) := by
  rw [← invOf_apply, ← spread_apply (invOf y) s d]
  pointwise [codesOf]
  rfl
theorem codeBlk_apply (r : FVec Ideal S512x128 .f32) (y : FVec Ideal S1x512 .f32) (s : Fin 512) (d : Fin 128) :
    codeBlk r y (ix4 0 0 s d) = codesOf r y (ix2 s d) := by
  pointwise [codeBlk]
theorem codeRows_apply (r : FVec Ideal S512x128 .f32) (y : FVec Ideal S1x512 .f32) (s : Fin 512) (d : Fin 128) :
    codeRows r y (ix2 s d) = codesOf r y (ix2 s d) := by
  pointwise [codeRows]
theorem valueBlk_apply (v : FVec Ideal S512x128 .bf16) (s : Fin 512) (d : Fin 128) : valueBlk v (ix4 0 0 d s) = v (ix2 s d) := by
  pointwise [valueBlk]

/-- The kept pairs: row `s` of pair `w` holds the block's row `2 s + w`. -/
theorem pairs_apply (K : Vec Ideal S1x2048x128 .bf16) (s : Fin 1024) (w : Fin 2) (d : Fin 128) :
    k0_pay10 K (ix3 s w d) = K (ix3 0 ⟨2 * s.val + w.val, by omega⟩ d) := by
  fin_cases w
  · pointwise [k0_pay10]
  · pointwise [k0_pay10]
theorem pairsV (K : Vec Ideal S1x2048x128 .bf16) : k0_pay62 (k0_pay61 (F := Ideal) K) = k0_pay10 K := rfl

section Tables
variable (p0 p1 p2 : Vec Ideal S1x1x512 .i32) (fr : Vec Ideal S64x1 .f32)

theorem angle_apply (d : Fin 64) (s : Fin 512) : k0_pay3 p0 p1 p2 fr (ix2 d s) =
    (if d.val < 16 then FloatOps.sitofp (F := Ideal) .f32 (p0 (ix3 0 0 s)) else if d.val < 40 then FloatOps.sitofp (F := Ideal) .f32 (p1 (ix3 0 0 s)) else FloatOps.sitofp (F := Ideal) .f32 (p2 (ix3 0 0 s))) * fr (ix2 d 0) := by
  pointwise [k0_pay3]
  congr 1
  by_cases h : d.val < 16
  · rw [dif_pos h, if_pos h]
  · rw [dif_neg h, if_neg h]
    by_cases h' : d.val < 40
    · rw [dif_pos (by omega), if_pos h']
    · rw [dif_neg (by omega), if_neg h']
theorem cos_apply (d : Fin 64) (s : Fin 512) : k0_pay4 p0 p1 p2 fr (ix2 d s) = FloatOps.cos (k0_pay3 p0 p1 p2 fr (ix2 d s)) := rfl
theorem sin_apply (d : Fin 64) (s : Fin 512) : k0_pay5 p0 p1 p2 fr (ix2 d s) = FloatOps.sin (k0_pay3 p0 p1 p2 fr (ix2 d s)) := rfl
theorem cosBlk_apply (d : Fin 64) (s : Fin 512) : k0_pay6 p0 p1 p2 fr (ix3 0 d s) = k0_pay4 p0 p1 p2 fr (ix2 d s) := by
  pointwise [k0_pay6]
theorem sinBlk_apply (d : Fin 64) (s : Fin 512) : k0_pay7 p0 p1 p2 fr (ix3 0 d s) = k0_pay5 p0 p1 p2 fr (ix2 d s) := by
  pointwise [k0_pay7]
theorem cosRows_apply (s : Fin 512) (d : Fin 128) : k0_pay8 p0 p1 p2 fr (ix2 s d) =
    if h : d.val < 64 then k0_pay4 p0 p1 p2 fr (ix2 ⟨d.val, h⟩ s) else k0_pay4 p0 p1 p2 fr (ix2 ⟨d.val - 64, by omega⟩ s) := by
  pointwise [k0_pay8]
theorem sinRows_apply (s : Fin 512) (d : Fin 128) : k0_pay9 p0 p1 p2 fr (ix2 s d) =
    if h : d.val < 64 then 0 - k0_pay5 p0 p1 p2 fr (ix2 ⟨d.val, h⟩ s) else k0_pay5 p0 p1 p2 fr (ix2 ⟨d.val - 64, by omega⟩ s) := by
  pointwise [k0_pay9]
end Tables

end Cert.KeysIdeal.Keys
end
-- ==== Proof.KeysRefPay.lean ====
/-
  The values of the key preparation as functions of its four arrays, and the reference's stored values read at
  an index: they are those functions.
-/
module

public import proofs.«01_k».proof.Proof.Gen.KeysReferenceIdeal.Frame
public import proofs.«01_k».proof.Proof.AttnEReal
public import proofs.«01_k».proof.Proof.RefPay
public import Idealize.ShloMosaic.Lib.Pointwise

@[expose] public section

set_option maxRecDepth 16384

noncomputable section

namespace Cert.KeysReferenceIdeal.Keys

open Idealize.ShloMosaic
open Cert.KeysReferenceIdeal Cert.KeysReferenceIdeal.Gen
open Cert.KernelIdeal.Attn (scOf inOf clipV scOf_inOf power_eq step_pos mul_real_eq_zero div_real)
open Cert.ReferenceIdeal.Attn (ofBits_ninf ofBits_inf select_ite cmpf_at cmp_zero)

variable (a0 : Vec Ideal S3x12x2560 .i32) (a1 : Vec Ideal S64x128 .f32) (a2 : Vec Ideal S12x10240x128 .bf16)

/-! ## The values -/

/-- The row of position `s` and head `h`. -/
abbrev rowAt (s : Fin 2560) (h : Fin 4) : Fin 10240 := ⟨s.val * 4 + h.val, by omega⟩

/-- The rotation's angle: of the first 16 frequencies with the first coordinate of the position, of the next
    24 with the second, of the last 24 with the third. -/
def angS (b : Fin 12) (d : Fin 64) (s : Fin 2560) : EReal :=
  (if d.val < 16 then FloatOps.sitofp (F := Ideal) .f32 (a0 (ix3 0 b s)) else if d.val < 40 then FloatOps.sitofp (F := Ideal) .f32 (a0 (ix3 1 b s))
    else FloatOps.sitofp (F := Ideal) .f32 (a0 (ix3 2 b s))) * a1 (ix2 d 0)
def cosS (b : Fin 12) (d : Fin 64) (s : Fin 2560) : EReal := FloatOps.cos (F := Ideal) (φ := .f32) (angS a0 a1 b d s)
def sinS (b : Fin 12) (d : Fin 64) (s : Fin 2560) : EReal := FloatOps.sin (F := Ideal) (φ := .f32) (angS a0 a1 b d s)
/-- The rotated key. -/
def rotS (b : Fin 12) (h : Fin 4) (s : Fin 2560) (d : Fin 128) : EReal :=
  a2 (ix3 b (rowAt s h) d) * (if g : d.val < 64 then cosS a0 a1 b ⟨d.val, g⟩ s else cosS a0 a1 b ⟨d.val - 64, by omega⟩ s)
    + a2 (ix3 b (rowAt s h) ⟨(d.val + 64) % 128, Nat.mod_lt _ (by decide)⟩)
      * (if g : d.val < 64 then 0 - sinS a0 a1 b ⟨d.val, g⟩ s else sinS a0 a1 b ⟨d.val - 64, by omega⟩ s)
/-- A head's largest magnitude over 448, its scale and its codes. -/
def yS (b : Fin 12) (h : Fin 4) (s : Fin 2560) : EReal :=
  (Finset.univ.sup fun d : Fin 128 => max (rotS a0 a1 a2 b h s d) (-rotS a0 a1 a2 b h s d)) * Ideal.ofBits .f32 0x3B124925#32
def scaleS (b : Fin 12) (h : Fin 4) (s : Fin 2560) : EReal := scOf (yS a0 a1 a2 b h s)
def codeS (b : Fin 12) (h : Fin 4) (s : Fin 2560) (d : Fin 128) : EReal := clipV (rotS a0 a1 a2 b h s d) (inOf (yS a0 a1 a2 b h s))

/-! ## The reference's stored values -/

theorem angle_apply (b : Fin 12) (d : Fin 64) (s : Fin 2560) : k0_pay2 a0 a1 (ix3 b d s) = angS a0 a1 b d s := by
  pointwise [k0_pay2]
  unfold angS
  congr 1
  by_cases h : d.val < 16
  · rw [dif_pos h, if_pos h]
  · rw [dif_neg h, if_neg h]
    by_cases h' : d.val < 40
    · rw [dif_pos (by omega), if_pos h']
    · rw [dif_neg (by omega), if_neg h']
theorem cos_apply (b : Fin 12) (d : Fin 64) (s : Fin 2560) : k0_pay3 a0 a1 (ix3 b d s) = cosS a0 a1 b d s := by
  unfold cosS; rw [← angle_apply]; rfl
theorem sin_apply (b : Fin 12) (d : Fin 64) (s : Fin 2560) : k0_pay4 a0 a1 (ix3 b d s) = sinS a0 a1 b d s := by
  unfold sinS; rw [← angle_apply]; rfl
theorem key_apply (b : Fin 12) (s : Fin 2560) (h : Fin 4) (d : Fin 128) : k0_pay5 a2 (ix4 b s h d) = a2 (ix3 b (rowAt s h) d) := by
  pointwise [k0_pay5]
theorem turned_apply (b : Fin 12) (s : Fin 2560) (h : Fin 4) (d : Fin 128) : k0_pay6 a2 (ix4 b s h d) =
    if g : d.val < 64 then 0 - k0_pay5 a2 (ix4 b s h ⟨64 + d.val, by omega⟩) else k0_pay5 a2 (ix4 b s h ⟨d.val - 64, by omega⟩) := by
  delta k0_pay6
  generalize k0_pay5 a2 = K
  pointwise [id]
theorem keyCos_apply (b : Fin 12) (s : Fin 2560) (h : Fin 4) (d : Fin 128) : k0_pay7 a0 a1 a2 (ix4 b s h d) =
    k0_pay5 a2 (ix4 b s h d) * if g : d.val < 64 then k0_pay3 a0 a1 (ix3 b ⟨d.val, g⟩ s) else k0_pay3 a0 a1 (ix3 b ⟨d.val - 64, by omega⟩ s) := by
  delta k0_pay7
  generalize k0_pay5 a2 = K
  generalize k0_pay3 a0 a1 = C
  pointwise [id]
theorem sines_apply (b : Fin 12) (d : Fin 128) (s : Fin 2560) : k0_pay8 a0 a1 (ix3 b d s) =
    if g : d.val < 64 then k0_pay4 a0 a1 (ix3 b ⟨d.val, g⟩ s) else k0_pay4 a0 a1 (ix3 b ⟨d.val - 64, by omega⟩ s) := by
  delta k0_pay8
  generalize k0_pay4 a0 a1 = C
  pointwise [id]

section
variable (u v : FVec Ideal S12x2560x4x128 .f32) (w : FVec Ideal S12x128x2560 .f32)
theorem rotated_apply (b : Fin 12) (s : Fin 2560) (h : Fin 4) (d : Fin 128) :
    k0_pay9 u v w (ix4 b s h d) = v (ix4 b s h d) + u (ix4 b s h d) * w (ix3 b d s) := by
  pointwise [k0_pay9]

/-- The largest magnitude. -/
def largest : FVec Ideal S12x2560x4x1 .f32 :=
  shapeCast S12x2560x4x1 (multiReduction .maximumf [3] S12x2560x4 (absf (k0_pay9 u v w)) 0xFF800000#32 Gen.reduces_S12x2560x4x128_S12x2560x4 (.inl rfl) rfl)
    Gen.shapeCasts_S12x2560x4_S12x2560x4x1
theorem largest_apply (b : Fin 12) (s : Fin 2560) (h : Fin 4) :
    largest u v w (ix4 b s h 0) = Finset.univ.sup fun d : Fin 128 => max (k0_pay9 u v w (ix4 b s h d)) (-k0_pay9 u v w (ix4 b s h d)) := by
  delta largest
  generalize k0_pay9 u v w = r
  pointwise [id]
  simp only [ofBits_ninf, Ideal.absf_def]
  rfl

/-- The powers of two that a scale is taken from. -/
abbrev powers : FVec Ideal S1x1x1x248 .f32 :=
  exp2 (subf (sitofp (F := Ideal) .f32 (iota .tc S1x1x1x248 32 [3] Gen.iota_S1x1x1x248_d3_w32)) (broadcast S1x1x1x248 (Scalar.ofBits .f32 0x42FC0000#32)))
theorem powers_raw (r : Fin 248) :
    powers (ix4 0 0 0 r) = Ideal.exp2 (FloatOps.sitofp (F := Ideal) .f32 (BitVec.ofNat 32 r.val) - Ideal.ofBits .f32 0x42FC0000#32) := by
  pointwise [id]
  rfl
theorem least_apply (X : FVec Ideal S12x2560x4x248 .f32) (b : Fin 12) (s : Fin 2560) (h : Fin 4) :
    shapeCast S12x2560x4x1 (multiReduction .minimumf [3] S12x2560x4 X 0x7F800000#32 Gen.reduces_S12x2560x4x248_S12x2560x4 (.inl rfl) rfl)
      Gen.shapeCasts_S12x2560x4_S12x2560x4x1 (ix4 b s h 0) = Finset.univ.inf fun r : Fin 248 => X (ix4 b s h r) := by
  pointwise [id]
  rw [ofBits_inf]
  rfl
/-- The powers above a magnitude. -/
abbrev above (P : FVec Ideal S1x1x1x248 .f32) (a : FVec Ideal S12x2560x4x1 .f32) : FVec Ideal S12x2560x4x248 .f32 :=
  select
    (cmpf .olt
      (broadcastTo S12x2560x4x248 (mulf a (broadcast S12x2560x4x1 (Scalar.ofBits .f32 0x3B124925#32))) Gen.broadcasts_S12x2560x4x1_S12x2560x4x248)
      (broadcastTo S12x2560x4x248 P Gen.broadcasts_S1x1x1x248_S12x2560x4x248))
    (broadcastTo S12x2560x4x248 (shapeCast S1x1x1x248 P Gen.shapeCasts_S1x1x1x248_S1x1x1x248) Gen.broadcasts_S1x1x1x248_S12x2560x4x248)
    (broadcast S12x2560x4x248 (Scalar.ofBits .f32 0x7C800000#32))
theorem above_apply (P : FVec Ideal S1x1x1x248 .f32) (a : FVec Ideal S12x2560x4x1 .f32) (b : Fin 12) (s : Fin 2560) (h : Fin 4) (r : Fin 248) :
    above P a (ix4 b s h r) = if a (ix4 b s h 0) * Ideal.ofBits .f32 0x3B124925#32 < P (ix4 0 0 0 r) then P (ix4 0 0 0 r) else Ideal.ofBits .f32 0x7C800000#32 := by
  pointwise [id]
/-- The scale of a largest magnitude. -/
abbrev scaleFrom (a : FVec Ideal S12x2560x4x1 .f32) : FVec Ideal S12x2560x4x1 .f32 :=
  select (cmpf .oeq a (broadcast S12x2560x4x1 (Scalar.ofBits .f32 0x00000000#32))) (broadcast S12x2560x4x1 (Scalar.ofBits .f32 0x3F800000#32))
    (shapeCast S12x2560x4x1 (multiReduction .minimumf [3] S12x2560x4 (above powers a) 0x7F800000#32 Gen.reduces_S12x2560x4x248_S12x2560x4 (.inl rfl) rfl)
      Gen.shapeCasts_S12x2560x4_S12x2560x4x1)
theorem chosen_apply (a l : FVec Ideal S12x2560x4x1 .f32) (b : Fin 12) (s : Fin 2560) (h : Fin 4) :
    select (cmpf .oeq a (broadcast S12x2560x4x1 (Scalar.ofBits .f32 0x00000000#32))) (broadcast S12x2560x4x1 (Scalar.ofBits .f32 0x3F800000#32)) l (ix4 b s h 0)
      = if a (ix4 b s h 0) = 0 then 1 else l (ix4 b s h 0) := by
  pointwise [id]
theorem scaleFrom_eq : k0_pay10 u v w = scaleFrom (largest u v w) := rfl
theorem scale_apply (b : Fin 12) (s : Fin 2560) (h : Fin 4) :
    k0_pay10 u v w (ix4 b s h 0) = scOf (largest u v w (ix4 b s h 0) * Ideal.ofBits .f32 0x3B124925#32) := by
  obtain ⟨c, hc, he⟩ := step_pos
  rw [scaleFrom_eq]
  generalize largest u v w = a
  have hz : a (ix4 b s h 0) = 0 ↔ a (ix4 b s h 0) * Ideal.ofBits .f32 0x3B124925#32 = 0 := by rw [he, mul_real_eq_zero _ hc]
  refine (chosen_apply a _ b s h).trans ?_
  rw [least_apply, scOf]
  simp only [above_apply, powers_raw, power_eq, hz]
/-- The codes of rotated keys under their scales. -/
def codesFrom (r : FVec Ideal S12x2560x4x128 .f32) (c : FVec Ideal S12x2560x4x1 .f32) : FVec Ideal S12x2560x4x128 .fp8e4m3 :=
  truncf .fp8e4m3 (minimumf (broadcast S12x2560x4x128 (Scalar.ofBits .f32 0x43E00000#32)) (maximumf (broadcast S12x2560x4x128 (Scalar.ofBits .f32 0xC3E00000#32))
    (divf r (broadcastTo S12x2560x4x128 c Gen.broadcasts_S12x2560x4x1_S12x2560x4x128)))) Gen.bitsLt_fp8e4m3_f32
theorem codesFrom_apply (r : FVec Ideal S12x2560x4x128 .f32) (c : FVec Ideal S12x2560x4x1 .f32) (b : Fin 12) (s : Fin 2560) (h : Fin 4) (d : Fin 128) :
    codesFrom r c (ix4 b s h d) = min (Ideal.ofBits .f32 0x43E00000#32)
      (max (Ideal.ofBits .f32 0xC3E00000#32) (Ideal.div (r (ix4 b s h d)) (c (ix4 b s h 0)))) := by
  pointwise [codesFrom]
theorem codesFrom_eq : k0_pay11 u v w = codesFrom (k0_pay9 u v w) (k0_pay10 u v w) := rfl
theorem codes_apply (b : Fin 12) (s : Fin 2560) (h : Fin 4) (d : Fin 128) :
    k0_pay11 u v w (ix4 b s h d) = min (Ideal.ofBits .f32 0x43E00000#32)
      (max (Ideal.ofBits .f32 0xC3E00000#32) (Ideal.div (k0_pay9 u v w (ix4 b s h d)) (k0_pay10 u v w (ix4 b s h 0)))) :=
  (congrFun (codesFrom_eq u v w) _).trans (codesFrom_apply _ _ b s h d)
theorem codesRows_apply (b : Fin 12) (s : Fin 2560) (h : Fin 4) (d : Fin 128) : k0_pay12 u v w (ix3 b (rowAt s h) d) = k0_pay11 u v w (ix4 b s h d) := by
  delta k0_pay12
  generalize k0_pay11 u v w = c
  have e1 : (⟨(s.val * 4 + h.val) / 4, by omega⟩ : Fin 2560) = s := Fin.ext (by show (s.val * 4 + h.val) / 4 = s.val; omega)
  have e2 : (⟨(s.val * 4 + h.val) % 4, by omega⟩ : Fin 4) = h := Fin.ext (by show (s.val * 4 + h.val) % 4 = h.val; omega)
  pointwise [id]
  simp only [e1, e2]
theorem heads_apply (b : Fin 12) (h : Fin 4) (s : Fin 2560) (d : Fin 128) : k0_pay13 u v w (ix4 b h s d) = k0_pay11 u v w (ix4 b s h d) := by
  delta k0_pay13
  generalize k0_pay11 u v w = c
  pointwise [id]
theorem scales_apply (b : Fin 12) (h : Fin 4) (s : Fin 2560) : k0_pay14 u v w (ix3 b h s) = k0_pay10 u v w (ix4 b s h 0) := by
  delta k0_pay14
  generalize k0_pay10 u v w = c
  pointwise [id]
end
theorem values_apply (a3 : Vec Ideal S12x10240x128 .bf16) (b : Fin 12) (h : Fin 4) (d : Fin 128) (s : Fin 2560) :
    k0_pay1 a3 (ix4 b h d s) = a3 (ix3 b (rowAt s h) d) := by
  pointwise [k0_pay1]

/-! ## They are the values -/

theorem rotated_eq (b : Fin 12) (h : Fin 4) (s : Fin 2560) (d : Fin 128) :
    k0_pay9 (k0_pay6 a2) (k0_pay7 a0 a1 a2) (k0_pay8 a0 a1) (ix4 b s h d) = rotS a0 a1 a2 b h s d := by
  rw [rotated_apply, keyCos_apply, turned_apply, sines_apply]
  simp only [key_apply, cos_apply, sin_apply]
  unfold rotS
  congr 1
  by_cases g : d.val < 64
  · have e : (⟨(d.val + 64) % 128, Nat.mod_lt _ (by decide)⟩ : Fin 128) = ⟨64 + d.val, by omega⟩ := Fin.ext (by show (d.val + 64) % 128 = 64 + d.val; omega)
    simp only [dif_pos g, e]
    rw [sub_eq_add_neg (0 : EReal), zero_add, sub_eq_add_neg (0 : EReal), zero_add, neg_mul, mul_neg]
  · have e : (⟨(d.val + 64) % 128, Nat.mod_lt _ (by decide)⟩ : Fin 128) = ⟨d.val - 64, by omega⟩ := Fin.ext (by show (d.val + 64) % 128 = d.val - 64; omega)
    simp only [dif_neg g, e]
theorem y_eq (b : Fin 12) (h : Fin 4) (s : Fin 2560) :
    largest (k0_pay6 a2) (k0_pay7 a0 a1 a2) (k0_pay8 a0 a1) (ix4 b s h 0) * Ideal.ofBits .f32 0x3B124925#32 = yS a0 a1 a2 b h s := by
  rw [largest_apply]
  simp only [rotated_eq]
  rfl
theorem scale_eq (b : Fin 12) (h : Fin 4) (s : Fin 2560) :
    k0_pay10 (k0_pay6 a2) (k0_pay7 a0 a1 a2) (k0_pay8 a0 a1) (ix4 b s h 0) = scaleS a0 a1 a2 b h s := by
  rw [scale_apply, y_eq]
  rfl
theorem code_eq (b : Fin 12) (h : Fin 4) (s : Fin 2560) (d : Fin 128) :
    k0_pay11 (k0_pay6 a2) (k0_pay7 a0 a1 a2) (k0_pay8 a0 a1) (ix4 b s h d) = codeS a0 a1 a2 b h s d := by
  obtain ⟨r, hr, hs, hi⟩ := scOf_inOf (yS a0 a1 a2 b h s)
  rw [codes_apply, scale_eq, rotated_eq, codeS, clipV, scaleS, hs, hi, div_real _ hr]

end Cert.KeysReferenceIdeal.Keys
end
-- ==== Proof.KeysBlock.lean ====
/-
  What the key preparation leaves in its result blocks at a grid point, from the values its input blocks hold.
-/
module

public import proofs.«01_k».proof.Proof.KeysPay
public import proofs.«01_k».proof.Proof.KeysRefPay
public import Idealize.ShloMosaic.Lib.Pipeline.ValueKit
public import Idealize.ShloMosaic.Lib.Bf16PairInverse

@[expose] public section

set_option maxRecDepth 16384

noncomputable section

namespace Cert.KeysIdeal.Keys

open Idealize.ShloMosaic Idealize.ShloMosaic.TcCoe Idealize.SL.Sem
open Cert.KeysIdeal Cert.KeysIdeal.Gen
open Cert.KernelIdeal.Attn (scOf inOf clipV)
open Cert.KeysReferenceIdeal.Keys (rowAt angS cosS sinS rotS yS scaleS codeS)

/-! ## The pairs kept and the heads read of them -/

/-- Every other pair, from pair `o`. -/
def pairsAt (X : Vec Ideal S1024x2x128 .bf16) (o : Fin 2) : Vec Ideal S512x2x128 .bf16 :=
  fun j => X (ix3 ⟨2 * (j 0).val + o.val, by have : (j 0).val < 512 := (j 0).isLt; omega⟩ (j 1) (j 2))
theorem hz3 : (![0, 0, 0] : Fin 3 → Nat) = fun _ => 0 := funext fun a => by fin_cases a <;> rfl
theorem hz2 : (![0, 0] : Fin 2 → Nat) = fun _ => 0 := funext fun a => by fin_cases a <;> rfl
/-- The two strided loads of the pairs kept. -/
def loadA (L : List (View.Piece (Elt Ideal) S1024x2x128 .bf16)) : Vec Ideal S512x2x128 .bf16 := (View.whole cc0_scratch0).readCov L
  { off := ![0, 0, 0], size := ![512, 2, 128], stride := ![2, 1, 1], inb := inb_S1024x2x128_S512x2x128_0_0_0_s_2_1_1 }
def loadB (L : List (View.Piece (Elt Ideal) S1024x2x128 .bf16)) : Vec Ideal S512x2x128 .bf16 := (View.whole cc0_scratch0).readCov L
  { off := ![1, 0, 0], size := ![512, 2, 128], stride := ![2, 1, 1], inb := inb_S1024x2x128_S512x2x128_1_0_0_s_2_1_1 }
/-- A store of all pairs. -/
def kept (X : Vec Ideal S1024x2x128 .bf16) : View.Piece (Elt Ideal) S1024x2x128 .bf16 :=
  ⟨Rect.unit ![0, 0, 0] ![1024, 2, 128] inb_S1024x2x128_S1024x2x128_0_0_0, X⟩
theorem load_first (X : Vec Ideal S1024x2x128 .bf16) (L : List (View.Piece (Elt Ideal) S1024x2x128 .bf16)) : loadA (kept X :: L) = pairsAt X 0 := by
  unfold loadA kept
  rw [View.readCov_eq_canon']
  funext j
  refine (congrFun (View.canon_cons_unit_zero (S := S1024x2x128) hz3 inb_S1024x2x128_S1024x2x128_0_0_0 X L) _).trans ?_
  unfold pairsAt
  refine congrArg X ?_
  funext a; apply Fin.ext
  fin_cases a
  · show 0 + 2 * (j 0).val = 2 * (j 0).val + 0; omega
  · show 0 + 1 * (j 1).val = (j 1).val; omega
  · show 0 + 1 * (j 2).val = (j 2).val; omega
theorem load_second (X : Vec Ideal S1024x2x128 .bf16) (L : List (View.Piece (Elt Ideal) S1024x2x128 .bf16)) : loadB (kept X :: L) = pairsAt X 1 := by
  unfold loadB kept
  rw [View.readCov_eq_canon']
  funext j
  refine (congrFun (View.canon_cons_unit_zero (S := S1024x2x128) hz3 inb_S1024x2x128_S1024x2x128_0_0_0 X L) _).trans ?_
  unfold pairsAt
  refine congrArg X ?_
  funext a; apply Fin.ext
  fin_cases a
  · show 1 + 2 * (j 0).val = 2 * (j 0).val + 1; omega
  · show 0 + 1 * (j 1).val = (j 1).val; omega
  · show 0 + 1 * (j 2).val = (j 2).val; omega

/-- The rows of one head. -/
def headOf (K : Vec Ideal S1x2048x128 .bf16) (o e : Fin 2) : FVec Ideal S512x128 .bf16 := halfOf e (pairsAt (k0_pay10 K) o)
theorem headOf_apply (K : Vec Ideal S1x2048x128 .bf16) (o e : Fin 2) (s : Fin 512) (d : Fin 128) :
    headOf K o e (ix2 s d) = K (ix3 0 ⟨2 * (2 * s.val + o.val) + e.val, by omega⟩ d) := by
  unfold headOf
  rw [halfOf_apply]
  exact pairs_apply K ⟨2 * s.val + o.val, by omega⟩ e d

/-! ## The blocks read -/

variable (t : Fin cfg0.N) (x0 : Vec Ideal S3x12x512 .i32) (x1 : Vec Ideal S64x128 .f32) (x2 x3 : Vec Ideal S1x2048x128 .bf16)

/-- The rotation's cosines and sines of a block. -/
def cosRows : FVec Ideal S512x128 .f32 :=
  k0_pay8 (View.ld x0 (Rect.unit (k0_off1 (grid0.coords t)) ![1, 1, 512] (k0_off1_inb (grid0.coords t)))) (View.ld x0 (Rect.unit (k0_off2 (grid0.coords t)) ![1, 1, 512] (k0_off2_inb (grid0.coords t))))
    (View.ld x0 (Rect.unit (k0_off3 (grid0.coords t)) ![1, 1, 512] (k0_off3_inb (grid0.coords t)))) (View.ld x1 (Rect.unit ![0, 0] ![64, 1] inb_S64x128_S64x1_0_0))
def sinRows : FVec Ideal S512x128 .f32 :=
  k0_pay9 (View.ld x0 (Rect.unit (k0_off1 (grid0.coords t)) ![1, 1, 512] (k0_off1_inb (grid0.coords t)))) (View.ld x0 (Rect.unit (k0_off2 (grid0.coords t)) ![1, 1, 512] (k0_off2_inb (grid0.coords t))))
    (View.ld x0 (Rect.unit (k0_off3 (grid0.coords t)) ![1, 1, 512] (k0_off3_inb (grid0.coords t)))) (View.ld x1 (Rect.unit ![0, 0] ![64, 1] inb_S64x128_S64x1_0_0))
def cosTab : FVec Ideal S1x64x512 .f32 :=
  k0_pay6 (View.ld x0 (Rect.unit (k0_off1 (grid0.coords t)) ![1, 1, 512] (k0_off1_inb (grid0.coords t)))) (View.ld x0 (Rect.unit (k0_off2 (grid0.coords t)) ![1, 1, 512] (k0_off2_inb (grid0.coords t))))
    (View.ld x0 (Rect.unit (k0_off3 (grid0.coords t)) ![1, 1, 512] (k0_off3_inb (grid0.coords t)))) (View.ld x1 (Rect.unit ![0, 0] ![64, 1] inb_S64x128_S64x1_0_0))
def sinTab : FVec Ideal S1x64x512 .f32 :=
  k0_pay7 (View.ld x0 (Rect.unit (k0_off1 (grid0.coords t)) ![1, 1, 512] (k0_off1_inb (grid0.coords t)))) (View.ld x0 (Rect.unit (k0_off2 (grid0.coords t)) ![1, 1, 512] (k0_off2_inb (grid0.coords t))))
    (View.ld x0 (Rect.unit (k0_off3 (grid0.coords t)) ![1, 1, 512] (k0_off3_inb (grid0.coords t)))) (View.ld x1 (Rect.unit ![0, 0] ![64, 1] inb_S64x128_S64x1_0_0))

/-- A head's rotated keys and their largest magnitudes over 448. -/
def keyRot (o e : Fin 2) : FVec Ideal S512x128 .f32 := rotOf (cosRows t x0 x1) (sinRows t x0 x1) (headOf x2 o e)
def keyY (o e : Fin 2) : FVec Ideal S1x512 .f32 := yOf (keyRot t x0 x1 x2 o e)

/-- The position of a block's row. -/
abbrev posn (j : Fin 5) (s : Fin 512) : Fin 2560 := ⟨j.val * 512 + s.val, by omega⟩

/-- The input blocks at a grid point hold what the arrays hold of batch entry `b` and of block `j` of the positions. -/
structure Reads (a0 : Vec Ideal S3x12x2560 .i32) (a1 : Vec Ideal S64x128 .f32) (a2 a3 : Vec Ideal S12x10240x128 .bf16) (b : Fin 12) (j : Fin 5) : Prop where
  b_eq : (grid0.coords t 0).val = b.val
  p_eq : ∀ (a : Fin 3) s, x0 (ix3 a b s) = a0 (ix3 a b (posn j s))
  f_eq : ∀ d, x1 (ix2 d 0) = a1 (ix2 d 0)
  k_eq : ∀ (r : Fin 2048) d, x2 (ix3 0 r d) = a2 (ix3 b ⟨j.val * 2048 + r.val, by omega⟩ d)
  v_eq : ∀ (r : Fin 2048) d, x3 (ix3 0 r d) = a3 (ix3 b ⟨j.val * 2048 + r.val, by omega⟩ d)

theorem off1 : ∀ t : Fin cfg0.N, k0_off1 (grid0.coords t) = ![0, (grid0.coords t 0).val, 0] := by decide +kernel
theorem off2 : ∀ t : Fin cfg0.N, k0_off2 (grid0.coords t) = ![1, (grid0.coords t 0).val, 0] := by decide +kernel
theorem off3 : ∀ t : Fin cfg0.N, k0_off3 (grid0.coords t) = ![2, (grid0.coords t 0).val, 0] := by decide +kernel

variable {t x0 x1 x2 x3} {a0 : Vec Ideal S3x12x2560 .i32} {a1 : Vec Ideal S64x128 .f32} {a2 a3 : Vec Ideal S12x10240x128 .bf16} {b : Fin 12} {j : Fin 5}

theorem row_at (hb : (grid0.coords t 0).val = b.val) (off : Fin 3 → Nat) (inb : ∀ a, off a + S1x1x512.size a ≤ S3x12x512.size a) (r : Fin 3)
    (h : off = ![r.val, (grid0.coords t 0).val, 0]) (s : Fin 512) :
    View.ld (Val := Elt Ideal) (e' := .i32) x0 (Rect.unit (s := S3x12x512) off ![1, 1, 512] inb) (ix3 (0 : Fin 1) (0 : Fin 1) s) = x0 (ix3 r b s) := by
  subst h
  refine congrArg x0 ?_
  funext a; apply Fin.ext
  fin_cases a
  · show r.val + 1 * 0 = r.val; omega
  · show (grid0.coords t 0).val + 1 * 0 = b.val; omega
  · show 0 + 1 * s.val = s.val; omega
theorem freq_at (d : Fin 64) :
    View.ld (Val := Elt Ideal) (e' := .f32) x1 (Rect.unit (s := S64x128) ![0, 0] ![64, 1] inb_S64x128_S64x1_0_0) (ix2 d (0 : Fin 1)) = x1 (ix2 d 0) := by
  refine congrArg x1 ?_
  funext a; apply Fin.ext
  fin_cases a
  · show 0 + 1 * d.val = d.val; omega
  · rfl

variable (H : Reads t x0 x1 x2 x3 a0 a1 a2 a3 b j)
include H

theorem angle_eq (d : Fin 64) (s : Fin 512) :
    k0_pay3 (View.ld x0 (Rect.unit (k0_off1 (grid0.coords t)) ![1, 1, 512] (k0_off1_inb (grid0.coords t)))) (View.ld x0 (Rect.unit (k0_off2 (grid0.coords t)) ![1, 1, 512] (k0_off2_inb (grid0.coords t))))
      (View.ld x0 (Rect.unit (k0_off3 (grid0.coords t)) ![1, 1, 512] (k0_off3_inb (grid0.coords t)))) (View.ld x1 (Rect.unit ![0, 0] ![64, 1] inb_S64x128_S64x1_0_0)) (ix2 d s)
      = angS a0 a1 b d (posn j s) := by
  refine (angle_apply _ _ _ _ d s).trans ?_
  rw [row_at H.b_eq _ _ 0 (off1 t), row_at H.b_eq _ _ 1 (off2 t), row_at H.b_eq _ _ 2 (off3 t), freq_at, H.p_eq, H.p_eq, H.p_eq, H.f_eq]
  rfl
theorem cos_eq (d : Fin 64) (s : Fin 512) : cosTab t x0 x1 (ix3 0 d s) = cosS a0 a1 b d (posn j s) := by
  refine (cosBlk_apply _ _ _ _ d s).trans ((cos_apply _ _ _ _ d s).trans ?_)
  rw [angle_eq H]; rfl
theorem sin_eq (d : Fin 64) (s : Fin 512) : sinTab t x0 x1 (ix3 0 d s) = sinS a0 a1 b d (posn j s) := by
  refine (sinBlk_apply _ _ _ _ d s).trans ((sin_apply _ _ _ _ d s).trans ?_)
  rw [angle_eq H]; rfl
theorem cosRows_eq (s : Fin 512) (d : Fin 128) : cosRows t x0 x1 (ix2 s d) =
    if g : d.val < 64 then cosS a0 a1 b ⟨d.val, g⟩ (posn j s) else cosS a0 a1 b ⟨d.val - 64, by omega⟩ (posn j s) := by
  refine (cosRows_apply _ _ _ _ s d).trans ?_
  simp only [cos_apply, angle_eq H]; rfl
theorem sinRows_eq (s : Fin 512) (d : Fin 128) : sinRows t x0 x1 (ix2 s d) =
    if g : d.val < 64 then 0 - sinS a0 a1 b ⟨d.val, g⟩ (posn j s) else sinS a0 a1 b ⟨d.val - 64, by omega⟩ (posn j s) := by
  refine (sinRows_apply _ _ _ _ s d).trans ?_
  simp only [sin_apply, angle_eq H]; rfl

omit H in
theorem row_eq (h : Fin 4) (o e : Fin 2) (s : Fin 512) (hh : h.val = 2 * o.val + e.val) (p : j.val * 2048 + (2 * (2 * s.val + o.val) + e.val) < 10240) :
    (⟨j.val * 2048 + (2 * (2 * s.val + o.val) + e.val), p⟩ : Fin 10240) = rowAt (posn j s) h := Fin.ext (by
  show j.val * 2048 + (2 * (2 * s.val + o.val) + e.val) = (j.val * 512 + s.val) * 4 + h.val; omega)
theorem key_eq (h : Fin 4) (o e : Fin 2) (hh : h.val = 2 * o.val + e.val) (s : Fin 512) (d : Fin 128) : headOf x2 o e (ix2 s d) = a2 (ix3 b (rowAt (posn j s) h) d) := by
  rw [headOf_apply, H.k_eq, row_eq h o e s hh]
theorem val_eq (h : Fin 4) (o e : Fin 2) (hh : h.val = 2 * o.val + e.val) (s : Fin 512) (d : Fin 128) : headOf x3 o e (ix2 s d) = a3 (ix3 b (rowAt (posn j s) h) d) := by
  rw [headOf_apply, H.v_eq, row_eq h o e s hh]
theorem rot_eq (h : Fin 4) (o e : Fin 2) (hh : h.val = 2 * o.val + e.val) (s : Fin 512) (d : Fin 128) :
    keyRot t x0 x1 x2 o e (ix2 s d) = rotS a0 a1 a2 b h (posn j s) d := by
  unfold keyRot
  rw [rotOf_apply, cosRows_eq H, sinRows_eq H, key_eq H h o e hh, key_eq H h o e hh]
  rfl
theorem y_eq (h : Fin 4) (o e : Fin 2) (hh : h.val = 2 * o.val + e.val) (s : Fin 512) : keyY t x0 x1 x2 o e (ix2 0 s) = yS a0 a1 a2 b h (posn j s) := by
  unfold keyY
  rw [yOf_apply]
  simp only [rot_eq H h o e hh]
  rfl
theorem scale_eq (h : Fin 4) (o e : Fin 2) (hh : h.val = 2 * o.val + e.val) (s : Fin 512) :
    scaleBlk (keyY t x0 x1 x2 o e) (ix3 0 0 s) = scaleS a0 a1 a2 b h (posn j s) := by
  rw [scaleBlk_apply, y_eq H h o e hh]; rfl
theorem code_eq (h : Fin 4) (o e : Fin 2) (hh : h.val = 2 * o.val + e.val) (s : Fin 512) (d : Fin 128) :
    codesOf (keyRot t x0 x1 x2 o e) (keyY t x0 x1 x2 o e) (ix2 s d) = codeS a0 a1 a2 b h (posn j s) d := by
  rw [codesOf_apply, y_eq H h o e hh, rot_eq H h o e hh]; rfl
theorem codeBlk_eq (h : Fin 4) (o e : Fin 2) (hh : h.val = 2 * o.val + e.val) (s : Fin 512) (d : Fin 128) :
    codeBlk (keyRot t x0 x1 x2 o e) (keyY t x0 x1 x2 o e) (ix4 0 0 s d) = codeS a0 a1 a2 b h (posn j s) d := by
  rw [codeBlk_apply, code_eq H h o e hh]
theorem codeRows_eq (h : Fin 4) (o e : Fin 2) (hh : h.val = 2 * o.val + e.val) (s : Fin 512) (d : Fin 128) :
    codeRows (keyRot t x0 x1 x2 o e) (keyY t x0 x1 x2 o e) (ix2 s d) = codeS a0 a1 a2 b h (posn j s) d := by
  rw [codeRows_apply, code_eq H h o e hh]
theorem valueBlk_eq (h : Fin 4) (o e : Fin 2) (hh : h.val = 2 * o.val + e.val) (s : Fin 512) (d : Fin 128) :
    valueBlk (headOf x3 o e) (ix4 0 0 d s) = a3 (ix3 b (rowAt (posn j s) h) d) := by
  rw [valueBlk_apply, val_eq H h o e hh]

end Cert.KeysIdeal.Keys
end
-- ==== Proof.KeysOut.lean ====
/-
  The key preparation's result blocks at a grid point.
-/
module

public import proofs.«01_k».proof.Proof.KeysBlock

@[expose] public section

set_option maxRecDepth 16384

noncomputable section

namespace Cert.KeysIdeal.Keys

open Idealize.ShloMosaic Idealize.ShloMosaic.TcCoe Idealize.SL.Sem
open Cert.KeysIdeal Cert.KeysIdeal.Gen
open Cert.KeysReferenceIdeal.Keys (rowAt angS cosS sinS rotS yS scaleS codeS)

/-! ## The pieces stored, from the four heads' rows -/

section
variable (w : Fin 2 → Fin 2 → FVec Ideal S512x128 .bf16) (r : Fin 2 → Fin 2 → FVec Ideal S512x128 .f32)
def valuePieces : List (View.Piece (Elt Ideal) S1x4x128x512 .bf16) :=
    [⟨Rect.unit ![0, 3, 0, 0] ![1, 1, 128, 512] inb_S1x4x128x512_S1x1x128x512_0_3_0_0, valueBlk (w 1 1)⟩,
     ⟨Rect.unit ![0, 2, 0, 0] ![1, 1, 128, 512] inb_S1x4x128x512_S1x1x128x512_0_2_0_0, valueBlk (w 1 0)⟩,
     ⟨Rect.unit ![0, 1, 0, 0] ![1, 1, 128, 512] inb_S1x4x128x512_S1x1x128x512_0_1_0_0, valueBlk (w 0 1)⟩,
     ⟨Rect.unit ![0, 0, 0, 0] ![1, 1, 128, 512] inb_S1x4x128x512_S1x1x128x512_0_0_0_0, valueBlk (w 0 0)⟩]
def codePieces : List (View.Piece (Elt Ideal) S1x4x512x128 .fp8e4m3) :=
    [⟨Rect.unit ![0, 3, 0, 0] ![1, 1, 512, 128] inb_S1x4x512x128_S1x1x512x128_0_3_0_0, codeBlk (r 1 1) (yOf (r 1 1))⟩,
     ⟨Rect.unit ![0, 2, 0, 0] ![1, 1, 512, 128] inb_S1x4x512x128_S1x1x512x128_0_2_0_0, codeBlk (r 1 0) (yOf (r 1 0))⟩,
     ⟨Rect.unit ![0, 1, 0, 0] ![1, 1, 512, 128] inb_S1x4x512x128_S1x1x512x128_0_1_0_0, codeBlk (r 0 1) (yOf (r 0 1))⟩,
     ⟨Rect.unit ![0, 0, 0, 0] ![1, 1, 512, 128] inb_S1x4x512x128_S1x1x512x128_0_0_0_0, codeBlk (r 0 0) (yOf (r 0 0))⟩]
def scalePieces : List (View.Piece (Elt Ideal) S1x4x512 .f32) :=
    [⟨Rect.unit ![0, 3, 0] ![1, 1, 512] inb_S1x4x512_S1x1x512_0_3_0, scaleBlk (yOf (r 1 1))⟩,
     ⟨Rect.unit ![0, 2, 0] ![1, 1, 512] inb_S1x4x512_S1x1x512_0_2_0, scaleBlk (yOf (r 1 0))⟩,
     ⟨Rect.unit ![0, 1, 0] ![1, 1, 512] inb_S1x4x512_S1x1x512_0_1_0, scaleBlk (yOf (r 0 1))⟩,
     ⟨Rect.unit ![0, 0, 0] ![1, 1, 512] inb_S1x4x512_S1x1x512_0_0_0, scaleBlk (yOf (r 0 0))⟩]
def rowPieces : List (View.Piece (Elt Ideal) S2048x128 .f32) :=
    [⟨{ off := ![3, 0], size := ![512, 128], stride := ![4, 1], inb := inb_S2048x128_S512x128_3_0_s_4_1, stride_pos := spos_4_1 }, codeRows (r 1 1) (yOf (r 1 1))⟩,
     ⟨{ off := ![2, 0], size := ![512, 128], stride := ![4, 1], inb := inb_S2048x128_S512x128_2_0_s_4_1, stride_pos := spos_4_1 }, codeRows (r 1 0) (yOf (r 1 0))⟩,
     ⟨{ off := ![1, 0], size := ![512, 128], stride := ![4, 1], inb := inb_S2048x128_S512x128_1_0_s_4_1, stride_pos := spos_4_1 }, codeRows (r 0 1) (yOf (r 0 1))⟩,
     ⟨{ off := ![0, 0], size := ![512, 128], stride := ![4, 1], inb := inb_S2048x128_S512x128_0_0_s_4_1, stride_pos := spos_4_1 }, codeRows (r 0 0) (yOf (r 0 0))⟩]
end

variable (m : (ℓ : Loc nD τ sig) → Buf (Elt Ideal) ℓ) (c : Dev nD) (t : Fin cfg0.N)

theorem out9_eq : (outsAt0 m c t).2.2.2.2.2 = sinTab t (iblk m c 0 t) (iblk m c 1 t) := by
  unfold outsAt0
  frame_out
  first | rfl | exact View.canon_unit_zero (S := S1x64x512) hz3 _ _
theorem out8_eq : (outsAt0 m c t).2.2.2.2.1 = cosTab t (iblk m c 0 t) (iblk m c 1 t) := by
  unfold outsAt0
  frame_out
  first | rfl | exact View.canon_unit_zero (S := S1x64x512) hz3 _ _

/-- The pairs of two heads as loaded, of the values and of the keys. -/
def loadV : Fin 2 → Vec Ideal S512x2x128 .bf16
  | 0 => loadA [kept (k0_pay62 (k0_pay61 (iblk m c 3 t))), kept (k0_pay10 (iblk m c 2 t))]
  | 1 => loadB [kept (k0_pay62 (k0_pay61 (iblk m c 3 t))), kept (k0_pay10 (iblk m c 2 t))]
def loadK : Fin 2 → Vec Ideal S512x2x128 .bf16
  | 0 => loadA [kept (k0_pay10 (iblk m c 2 t))]
  | 1 => loadB [kept (k0_pay10 (iblk m c 2 t))]
theorem loadV_eq (o : Fin 2) : loadV m c t o = pairsAt (k0_pay10 (iblk m c 3 t)) o := by
  fin_cases o
  · exact (load_first _ _).trans rfl
  · exact (load_second _ _).trans rfl
theorem loadK_eq (o : Fin 2) : loadK m c t o = pairsAt (k0_pay10 (iblk m c 2 t)) o := by
  fin_cases o
  · exact load_first _ _
  · exact load_second _ _
/-- A head's rotated keys, from the pairs as loaded. -/
def loadRot (o e : Fin 2) : FVec Ideal S512x128 .f32 :=
  rotOf (cosRows t (iblk m c 0 t) (iblk m c 1 t)) (sinRows t (iblk m c 0 t) (iblk m c 1 t)) (halfOf e (loadK m c t o))
theorem loadRot_eq : loadRot m c t = keyRot t (iblk m c 0 t) (iblk m c 1 t) (iblk m c 2 t) := by
  funext o e
  unfold loadRot
  rw [loadK_eq]; rfl

theorem out7_raw (X : Vec Ideal S1x4x128x512 .bf16) (hX : X = View.canon (valuePieces fun o e => halfOf e (loadV m c t o))) : (outsAt0 m c t).2.2.2.1 = X := by
  unfold outsAt0
  frame_out
  simp only [value0, value1, value2, value3]
  exact hX.symm
theorem out7_eq : (outsAt0 m c t).2.2.2.1 = View.canon (valuePieces (headOf (iblk m c 3 t))) :=
  (out7_raw m c t _ rfl).trans (congrArg (fun w => View.canon (valuePieces w)) (funext fun o => funext fun e => by rw [loadV_eq]; rfl))
theorem out6_raw (X : Vec Ideal S1x4x512x128 .fp8e4m3) (hX : X = View.canon (codePieces (loadRot m c t))) : (outsAt0 m c t).2.2.1 = X := by
  unfold outsAt0
  frame_out
  simp only [code0, code1, code2, code3]
  exact hX.symm
theorem out6_eq : (outsAt0 m c t).2.2.1 = View.canon (codePieces (keyRot t (iblk m c 0 t) (iblk m c 1 t) (iblk m c 2 t))) :=
  (out6_raw m c t _ rfl).trans (by rw [loadRot_eq])
theorem out5_raw (X : Vec Ideal S1x4x512 .f32) (hX : X = View.canon (scalePieces (loadRot m c t))) : (outsAt0 m c t).2.1 = X := by
  unfold outsAt0
  frame_out
  simp only [scale0, scale1, scale2, scale3]
  exact hX.symm
theorem out5_eq : (outsAt0 m c t).2.1 = View.canon (scalePieces (keyRot t (iblk m c 0 t) (iblk m c 1 t) (iblk m c 2 t))) :=
  (out5_raw m c t _ rfl).trans (by rw [loadRot_eq])
theorem out4_raw (X : Vec Ideal S1x2048x128 .fp8e4m3)
    (hX : X = k0_pay60 ((View.whole cc0_scratch1).readCov (rowPieces (loadRot m c t)) (Rect.unit ![0, 0] ![2048, 128] inb_S2048x128_S2048x128_0_0).toLoadRect)) : (outsAt0 m c t).1 = X := by
  unfold outsAt0
  frame_out
  simp only [rows0, rows1, rows2, rows3]
  exact hX.symm
theorem out4_eq : (outsAt0 m c t).1 = k0_pay60 (View.canon (rowPieces (keyRot t (iblk m c 0 t) (iblk m c 1 t) (iblk m c 2 t)))) := by
  refine (out4_raw m c t _ rfl).trans (congrArg (k0_pay60 (F := Ideal)) ?_)
  rw [View.readCov_eq_canon', loadRot_eq]
  funext i
  refine congrArg (View.canon (rowPieces (keyRot t (iblk m c 0 t) (iblk m c 1 t) (iblk m c 2 t)))) ?_
  funext a; apply Fin.ext
  fin_cases a
  · show 0 + 1 * (i 0).val = (i 0).val; omega
  · show 0 + 1 * (i 1).val = (i 1).val; omega

end Cert.KeysIdeal.Keys
end
-- ==== Proof.KeysFold.lean ====
/-
  The key preparation's result blocks, at an index.
-/
module

public import proofs.«01_k».proof.Proof.KeysOut

@[expose] public section

set_option maxRecDepth 16384

noncomputable section

namespace Cert.KeysIdeal.Keys

open Idealize.ShloMosaic Idealize.ShloMosaic.TcCoe Idealize.SL.Sem
open Cert.KeysIdeal Cert.KeysIdeal.Gen
open Cert.KeysReferenceIdeal.Keys (rowAt angS cosS sinS rotS yS scaleS codeS)

/-! ## The pieces together, at an index -/

/-- The blocks' values, as functions of the index in the block. -/
def scaleFn (a0 : Vec Ideal S3x12x2560 .i32) (a1 : Vec Ideal S64x128 .f32) (a2 : Vec Ideal S12x10240x128 .bf16) (b : Fin 12) (j : Fin 5) : S1x4x512.Idx → Elt Ideal .f32 :=
  fun y => scaleS a0 a1 a2 b (y 1) (posn j (y 2))
def codeFn (a0 : Vec Ideal S3x12x2560 .i32) (a1 : Vec Ideal S64x128 .f32) (a2 : Vec Ideal S12x10240x128 .bf16) (b : Fin 12) (j : Fin 5) : S1x4x512x128.Idx → Elt Ideal .fp8e4m3 :=
  fun y => codeS a0 a1 a2 b (y 1) (posn j (y 2)) (y 3)
def valueFn (a3 : Vec Ideal S12x10240x128 .bf16) (b : Fin 12) (j : Fin 5) : S1x4x128x512.Idx → Elt Ideal .bf16 :=
  fun y => a3 (ix3 b (rowAt (posn j (y 3)) (y 1)) (y 2))
/-- The head and the position in the block of a row of the block. -/
abbrev headIn (r : Fin 2048) : Fin 4 := ⟨r.val % 4, Nat.mod_lt _ (by decide)⟩
abbrev posIn (r : Fin 2048) : Fin 512 := ⟨r.val / 4, by omega⟩
def rowFn (a0 : Vec Ideal S3x12x2560 .i32) (a1 : Vec Ideal S64x128 .f32) (a2 : Vec Ideal S12x10240x128 .bf16) (b : Fin 12) (j : Fin 5) : S2048x128.Idx → Elt Ideal .f32 :=
  fun y => codeS a0 a1 a2 b (headIn (y 0)) (posn j (posIn (y 0))) (y 1)

/-- Which rows of a block a head's piece covers. -/
theorem mem_scale (h : Fin 4) (s : Fin 512) (inb : ∀ a, (![0, h.val, 0] : Fin 3 → Nat) a + S1x1x512.size a ≤ S1x4x512.size a) :
    (ix3 (0 : Fin 1) h s : S1x4x512.Idx) ∈ (Rect.unit (s := S1x4x512) ![0, h.val, 0] S1x1x512.size inb).set := by
  refine Rect.mem_set_unit.2 fun a => ?_
  fin_cases a
  · exact ⟨Nat.le_refl 0, Nat.one_pos⟩
  · exact ⟨Nat.le_refl h.val, Nat.lt_succ_self h.val⟩
  · exact ⟨Nat.zero_le s.val, by show s.val < 0 + 512; omega⟩
theorem mem_code (h : Fin 4) (s : Fin 512) (d : Fin 128) (inb : ∀ a, (![0, h.val, 0, 0] : Fin 4 → Nat) a + S1x1x512x128.size a ≤ S1x4x512x128.size a) :
    (ix4 (0 : Fin 1) h s d : S1x4x512x128.Idx) ∈ (Rect.unit (s := S1x4x512x128) ![0, h.val, 0, 0] S1x1x512x128.size inb).set := by
  refine Rect.mem_set_unit.2 fun a => ?_
  fin_cases a
  · exact ⟨Nat.le_refl 0, Nat.one_pos⟩
  · exact ⟨Nat.le_refl h.val, Nat.lt_succ_self h.val⟩
  · exact ⟨Nat.zero_le s.val, by show s.val < 0 + 512; omega⟩
  · exact ⟨Nat.zero_le d.val, by show d.val < 0 + 128; omega⟩
theorem mem_value (h : Fin 4) (d : Fin 128) (s : Fin 512) (inb : ∀ a, (![0, h.val, 0, 0] : Fin 4 → Nat) a + S1x1x128x512.size a ≤ S1x4x128x512.size a) :
    (ix4 (0 : Fin 1) h d s : S1x4x128x512.Idx) ∈ (Rect.unit (s := S1x4x128x512) ![0, h.val, 0, 0] S1x1x128x512.size inb).set := by
  refine Rect.mem_set_unit.2 fun a => ?_
  fin_cases a
  · exact ⟨Nat.le_refl 0, Nat.one_pos⟩
  · exact ⟨Nat.le_refl h.val, Nat.lt_succ_self h.val⟩
  · exact ⟨Nat.zero_le d.val, by show d.val < 0 + 128; omega⟩
  · exact ⟨Nat.zero_le s.val, by show s.val < 0 + 512; omega⟩

section
variable {x0 : Vec Ideal S3x12x512 .i32} {x1 : Vec Ideal S64x128 .f32} {x2 x3 : Vec Ideal S1x2048x128 .bf16}
  {a0 : Vec Ideal S3x12x2560 .i32} {a1 : Vec Ideal S64x128 .f32} {a2 a3 : Vec Ideal S12x10240x128 .bf16} {b : Fin 12} {j : Fin 5} {t : Fin cfg0.N}
  (H : Reads t x0 x1 x2 x3 a0 a1 a2 a3 b j)
include H

theorem scale_piece (h : Fin 4) (o e : Fin 2) (hh : h.val = 2 * o.val + e.val) (x : S1x1x512.Idx)
    (y : S1x4x512.Idx) (hy1 : (y 1).val = h.val + (x 1).val) (hy2 : (y 2).val = (x 2).val) :
    scaleBlk (yOf (keyRot t x0 x1 x2 o e)) x = scaleFn a0 a1 a2 b j y := by
  obtain ⟨p, q, s, rfl⟩ : ∃ (p q : Fin 1) (s : Fin 512), x = ix3 p q s := ⟨x 0, x 1, x 2, by funext a; fin_cases a <;> rfl⟩
  obtain rfl := Subsingleton.elim p 0
  obtain rfl := Subsingleton.elim q 0
  have e1 : (y 1).val = h.val + 0 := hy1
  have e2 : (y 2).val = s.val := hy2
  refine (scale_eq H h o e hh s).trans ?_
  refine congr (congrArg (scaleS a0 a1 a2 b) ?_) (congrArg (posn j) ?_)
  · apply Fin.ext; show h.val = (y 1).val; omega
  · apply Fin.ext; show s.val = (y 2).val; omega
theorem scales_all (h : Fin 4) (s : Fin 512) : View.canon (scalePieces (keyRot t x0 x1 x2)) (ix3 (0 : Fin 1) h s) = scaleS a0 a1 a2 b h (posn j s) := by
  refine View.canon_apply_of_pieces (Val := Elt Ideal) (e := .f32) (scaleFn a0 a1 a2 b j) _ ?_ _ ?_
  · intro p hp
    simp only [scalePieces, List.mem_cons, List.not_mem_nil, or_false] at hp
    rcases hp with rfl | rfl | rfl | rfl
    · intro x
      have h2 := scale_piece H 3 1 1 rfl x ((Rect.unit (s := S1x4x512) ![0, 3, 0] ![1, 1, 512] inb_S1x4x512_S1x1x512_0_3_0).emb x) (by show 3 + 1 * (x 1).val = 3 + (x 1).val; omega) (by show 0 + 1 * (x 2).val = (x 2).val; omega)
      with_reducible exact h2
    · intro x
      have h2 := scale_piece H 2 1 0 rfl x ((Rect.unit (s := S1x4x512) ![0, 2, 0] ![1, 1, 512] inb_S1x4x512_S1x1x512_0_2_0).emb x) (by show 2 + 1 * (x 1).val = 2 + (x 1).val; omega) (by show 0 + 1 * (x 2).val = (x 2).val; omega)
      with_reducible exact h2
    · intro x
      have h2 := scale_piece H 1 0 1 rfl x ((Rect.unit (s := S1x4x512) ![0, 1, 0] ![1, 1, 512] inb_S1x4x512_S1x1x512_0_1_0).emb x) (by show 1 + 1 * (x 1).val = 1 + (x 1).val; omega) (by show 0 + 1 * (x 2).val = (x 2).val; omega)
      with_reducible exact h2
    · intro x
      have h2 := scale_piece H 0 0 0 rfl x ((Rect.unit (s := S1x4x512) ![0, 0, 0] ![1, 1, 512] inb_S1x4x512_S1x1x512_0_0_0).emb x) (by show 0 + 1 * (x 1).val = 0 + (x 1).val; omega) (by show 0 + 1 * (x 2).val = (x 2).val; omega)
      with_reducible exact h2
  · obtain rfl | rfl | rfl | rfl : h = 0 ∨ h = 1 ∨ h = 2 ∨ h = 3 := by omega
    · exact ⟨_, .tail _ (.tail _ (.tail _ (.head _))), mem_scale 0 s inb_S1x4x512_S1x1x512_0_0_0⟩
    · exact ⟨_, .tail _ (.tail _ (.head _)), mem_scale 1 s inb_S1x4x512_S1x1x512_0_1_0⟩
    · exact ⟨_, .tail _ (.head _), mem_scale 2 s inb_S1x4x512_S1x1x512_0_2_0⟩
    · exact ⟨_, .head _, mem_scale 3 s inb_S1x4x512_S1x1x512_0_3_0⟩

theorem code_piece (h : Fin 4) (o e : Fin 2) (hh : h.val = 2 * o.val + e.val) (inb : ∀ a, (![0, h.val, 0, 0] : Fin 4 → Nat) a + S1x1x512x128.size a ≤ S1x4x512x128.size a) (x : S1x1x512x128.Idx) :
    codeBlk (keyRot t x0 x1 x2 o e) (yOf (keyRot t x0 x1 x2 o e)) x = (codeFn a0 a1 a2 b j) ((Rect.unit (s := S1x4x512x128) ![0, h.val, 0, 0] S1x1x512x128.size inb).emb x) := by
  obtain ⟨p, q, s, d, rfl⟩ : ∃ (p q : Fin 1) (s : Fin 512) (d : Fin 128), x = ix4 p q s d := ⟨x 0, x 1, x 2, x 3, by funext a; fin_cases a <;> rfl⟩
  obtain rfl := Subsingleton.elim p 0
  obtain rfl := Subsingleton.elim q 0
  refine (codeBlk_eq H h o e hh s d).trans ?_
  refine congr (congr (congrArg (codeS a0 a1 a2 b) ?_) (congrArg (posn j) ?_)) ?_
  · apply Fin.ext; show h.val = h.val + 1 * 0; omega
  · apply Fin.ext; show s.val = 0 + 1 * s.val; omega
  · apply Fin.ext; show d.val = 0 + 1 * d.val; omega
theorem codes_all (h : Fin 4) (s : Fin 512) (d : Fin 128) : View.canon (codePieces (keyRot t x0 x1 x2)) (ix4 (0 : Fin 1) h s d) = codeS a0 a1 a2 b h (posn j s) d := by
  refine View.canon_apply_of_pieces (Val := Elt Ideal) (e := .fp8e4m3) (codeFn a0 a1 a2 b j) _ ?_ _ ?_
  · intro p hp
    simp only [codePieces, List.mem_cons, List.not_mem_nil, or_false] at hp
    rcases hp with rfl | rfl | rfl | rfl
    · exact code_piece H 3 1 1 rfl inb_S1x4x512x128_S1x1x512x128_0_3_0_0
    · exact code_piece H 2 1 0 rfl inb_S1x4x512x128_S1x1x512x128_0_2_0_0
    · exact code_piece H 1 0 1 rfl inb_S1x4x512x128_S1x1x512x128_0_1_0_0
    · exact code_piece H 0 0 0 rfl inb_S1x4x512x128_S1x1x512x128_0_0_0_0
  · obtain rfl | rfl | rfl | rfl : h = 0 ∨ h = 1 ∨ h = 2 ∨ h = 3 := by omega
    · exact ⟨_, .tail _ (.tail _ (.tail _ (.head _))), mem_code 0 s d inb_S1x4x512x128_S1x1x512x128_0_0_0_0⟩
    · exact ⟨_, .tail _ (.tail _ (.head _)), mem_code 1 s d inb_S1x4x512x128_S1x1x512x128_0_1_0_0⟩
    · exact ⟨_, .tail _ (.head _), mem_code 2 s d inb_S1x4x512x128_S1x1x512x128_0_2_0_0⟩
    · exact ⟨_, .head _, mem_code 3 s d inb_S1x4x512x128_S1x1x512x128_0_3_0_0⟩

theorem value_piece (h : Fin 4) (o e : Fin 2) (hh : h.val = 2 * o.val + e.val) (inb : ∀ a, (![0, h.val, 0, 0] : Fin 4 → Nat) a + S1x1x128x512.size a ≤ S1x4x128x512.size a) (x : S1x1x128x512.Idx) :
    valueBlk (headOf x3 o e) x = (valueFn a3 b j) ((Rect.unit (s := S1x4x128x512) ![0, h.val, 0, 0] S1x1x128x512.size inb).emb x) := by
  obtain ⟨p, q, d, s, rfl⟩ : ∃ (p q : Fin 1) (d : Fin 128) (s : Fin 512), x = ix4 p q d s := ⟨x 0, x 1, x 2, x 3, by funext a; fin_cases a <;> rfl⟩
  obtain rfl := Subsingleton.elim p 0
  obtain rfl := Subsingleton.elim q 0
  refine (valueBlk_eq H h o e hh s d).trans ?_
  refine congrArg a3 (congr (congrArg (ix3 b) (congr (congrArg rowAt (congrArg (posn j) ?_)) ?_)) ?_)
  · apply Fin.ext; show s.val = 0 + 1 * s.val; omega
  · apply Fin.ext; show h.val = h.val + 1 * 0; omega
  · apply Fin.ext; show d.val = 0 + 1 * d.val; omega
theorem values_all (h : Fin 4) (d : Fin 128) (s : Fin 512) : View.canon (valuePieces (headOf x3)) (ix4 (0 : Fin 1) h d s) = a3 (ix3 b (rowAt (posn j s) h) d) := by
  refine View.canon_apply_of_pieces (Val := Elt Ideal) (e := .bf16) (valueFn a3 b j) _ ?_ _ ?_
  · intro p hp
    simp only [valuePieces, List.mem_cons, List.not_mem_nil, or_false] at hp
    rcases hp with rfl | rfl | rfl | rfl
    · exact value_piece H 3 1 1 rfl inb_S1x4x128x512_S1x1x128x512_0_3_0_0
    · exact value_piece H 2 1 0 rfl inb_S1x4x128x512_S1x1x128x512_0_2_0_0
    · exact value_piece H 1 0 1 rfl inb_S1x4x128x512_S1x1x128x512_0_1_0_0
    · exact value_piece H 0 0 0 rfl inb_S1x4x128x512_S1x1x128x512_0_0_0_0
  · obtain rfl | rfl | rfl | rfl : h = 0 ∨ h = 1 ∨ h = 2 ∨ h = 3 := by omega
    · exact ⟨_, .tail _ (.tail _ (.tail _ (.head _))), mem_value 0 d s inb_S1x4x128x512_S1x1x128x512_0_0_0_0⟩
    · exact ⟨_, .tail _ (.tail _ (.head _)), mem_value 1 d s inb_S1x4x128x512_S1x1x128x512_0_1_0_0⟩
    · exact ⟨_, .tail _ (.head _), mem_value 2 d s inb_S1x4x128x512_S1x1x128x512_0_2_0_0⟩
    · exact ⟨_, .head _, mem_value 3 d s inb_S1x4x128x512_S1x1x128x512_0_3_0_0⟩

theorem row_piece (h : Fin 4) (o e : Fin 2) (hh : h.val = 2 * o.val + e.val) (x : S512x128.Idx)
    (y : S2048x128.Idx) (hy0 : (y 0).val = h.val + 4 * (x 0).val) (hy1 : (y 1).val = (x 1).val) :
    codeRows (keyRot t x0 x1 x2 o e) (yOf (keyRot t x0 x1 x2 o e)) x = rowFn a0 a1 a2 b j y := by
  obtain ⟨s, d, rfl⟩ : ∃ (s : Fin 512) (d : Fin 128), x = ix2 s d := ⟨x 0, x 1, by funext a; fin_cases a <;> rfl⟩
  have e0 : (y 0).val = h.val + 4 * s.val := hy0
  have e1 : (y 1).val = d.val := hy1
  refine (codeRows_eq H h o e hh s d).trans ?_
  refine congr (congr (congrArg (codeS a0 a1 a2 b) ?_) (congrArg (posn j) ?_)) ?_
  · apply Fin.ext; show h.val = (y 0).val % 4; omega
  · apply Fin.ext; show s.val = (y 0).val / 4; omega
  · apply Fin.ext; show d.val = (y 1).val; omega
theorem rows_all (r : Fin 2048) (d : Fin 128) : View.canon (rowPieces (keyRot t x0 x1 x2)) (ix2 r d) = codeS a0 a1 a2 b (headIn r) (posn j (posIn r)) d := by
  refine View.canon_apply_of_pieces (Val := Elt Ideal) (e := .f32) (rowFn a0 a1 a2 b j) _ ?_ _ ?_
  · intro p hp
    simp only [rowPieces, List.mem_cons, List.not_mem_nil, or_false] at hp
    rcases hp with rfl | rfl | rfl | rfl
    · exact fun x => row_piece H 3 1 1 rfl x _ rfl (by show 0 + 1 * (x 1).val = (x 1).val; omega)
    · exact fun x => row_piece H 2 1 0 rfl x _ rfl (by show 0 + 1 * (x 1).val = (x 1).val; omega)
    · exact fun x => row_piece H 1 0 1 rfl x _ rfl (by show 0 + 1 * (x 1).val = (x 1).val; omega)
    · exact fun x => row_piece H 0 0 0 rfl x _ rfl (by show 0 + 1 * (x 1).val = (x 1).val; omega)
  · have hr := r.isLt
    have hm : ∀ (k : Nat) (hk : r.val = k + 4 * (r.val / 4)) (a : Fin 2), ∃ i < (![512, 128] : Fin 2 → Nat) a, ((ix2 r d : S2048x128.Idx) a : Nat) = (![k, 0] : Fin 2 → Nat) a + (![4, 1] : Fin 2 → Nat) a * i := fun k hk a => by
      fin_cases a
      · exact ⟨r.val / 4, by show r.val / 4 < 512; omega, hk⟩
      · exact ⟨d.val, d.isLt, by show d.val = 0 + 1 * d.val; omega⟩
    unfold rowPieces
    have hc : r.val % 4 = 0 ∨ r.val % 4 = 1 ∨ r.val % 4 = 2 ∨ r.val % 4 = 3 := by omega
    rcases hc with g | g | g | g
    · exact ⟨_, .tail _ (.tail _ (.tail _ (.head _))), (LoadRect.mem_set _).2 (hm 0 (by omega))⟩
    · exact ⟨_, .tail _ (.tail _ (.head _)), (LoadRect.mem_set _).2 (hm 1 (by omega))⟩
    · exact ⟨_, .tail _ (.head _), (LoadRect.mem_set _).2 (hm 2 (by omega))⟩
    · exact ⟨_, .head _, (LoadRect.mem_set _).2 (hm 3 (by omega))⟩
omit H in
theorem cast_apply (X : Vec Ideal S2048x128 .f32) (r : Fin 2048) (d : Fin 128) : k0_pay60 X (ix3 0 r d) = X (ix2 r d) := by
  pointwise [k0_pay60]
end

end Cert.KeysIdeal.Keys
end
-- ==== Proof.KeysLaunch.lean ====
/-
  The run of the key preparation: what its result arrays hold at the end, and that its arguments stay.
-/
module

public import proofs.«01_k».proof.Proof.KeysFold
public import proofs.«01_k».proof.Proof.Gen.KeysIdeal.Value

@[expose] public section

set_option maxRecDepth 16384

noncomputable section

namespace Cert.KeysIdeal.Keys

open Idealize.ShloMosaic Idealize.ShloMosaic.TcCoe Idealize.ShloMosaic.Tactic
open Idealize.SL Idealize.SL.Sem
open Idealize.ShloMosaic.Pipeline (Dat Cfg Window)
open Cert.KeysIdeal Cert.KeysIdeal.Facts₀ Cert.KeysIdeal.Facts Cert.KeysIdeal.Gen
open Cert.KeysReferenceIdeal.Keys (rowAt angS cosS sinS rotS yS scaleS codeS)

variable (m : (ℓ : Loc nD τ sig) → Buf (Elt Ideal) ℓ) (ρ : Dev nD → PrngReg)

/-! ## The blocks of the arguments -/

abbrev argP (c : Dev nD) : Vec Ideal S3x12x2560 .i32 := m ((c.tc : Thread nD τ).loc main_arg0)
abbrev argF (c : Dev nD) : Vec Ideal S64x128 .f32 := m ((c.tc : Thread nD τ).loc main_arg1)
abbrev argK (c : Dev nD) : Vec Ideal S12x10240x128 .bf16 := m ((c.tc : Thread nD τ).loc main_arg2)
abbrev argV (c : Dev nD) : Vec Ideal S12x10240x128 .bf16 := m ((c.tc : Thread nD τ).loc main_arg3)

/-- A grid point's batch entry and block of positions. -/
def batAt (t : Fin cfg0.N) : Fin 12 := grid0.coords t 0
def blkAt (t : Fin cfg0.N) : Fin 5 := grid0.coords t 1

theorem idx0 : ∀ t, win0_0.index t = ![0, 0, (grid0.coords t 1).val] := by decide +kernel
theorem idx1 : ∀ t, win0_1.index t = ![0, 0] := by decide +kernel
theorem idx2 : ∀ t, win0_2.index t = ![(grid0.coords t 0).val, (grid0.coords t 1).val, 0] := by decide +kernel
theorem idx3 : ∀ t, win0_3.index t = ![(grid0.coords t 0).val, (grid0.coords t 1).val, 0] := by decide +kernel
theorem idx4 : ∀ t, win0_4.index t = ![(grid0.coords t 0).val, (grid0.coords t 1).val, 0] := by decide +kernel
theorem idx5 : ∀ t, win0_5.index t = ![(grid0.coords t 0).val, 0, (grid0.coords t 1).val] := by decide +kernel
theorem idx6 : ∀ t, win0_6.index t = ![(grid0.coords t 0).val, 0, (grid0.coords t 1).val, 0] := by decide +kernel
theorem idx7 : ∀ t, win0_7.index t = ![(grid0.coords t 0).val, 0, 0, (grid0.coords t 1).val] := by decide +kernel
theorem idx8 : ∀ t, win0_8.index t = ![(grid0.coords t 0).val, 0, (grid0.coords t 1).val] := by decide +kernel
theorem idx9 : ∀ t, win0_9.index t = ![(grid0.coords t 0).val, 0, (grid0.coords t 1).val] := by decide +kernel

theorem pos_at (c : Dev nD) (t : Fin cfg0.N) (a : Fin 3) (b : Fin 12) (s : Fin 512) :
    (iblk m c 0 t : Vec Ideal S3x12x512 .i32) (ix3 a b s) = argP m c (ix3 a b (posn (blkAt t) s)) := by
  simp only [blkAt]; blk_ext [iblk, V, idx0 t]
theorem frq_at (c : Dev nD) (t : Fin cfg0.N) (d : Fin 64) :
    (iblk m c 1 t : Vec Ideal S64x128 .f32) (ix2 d 0) = argF m c (ix2 d 0) := by
  blk_ext [iblk, V, idx1 t]
theorem k_at (c : Dev nD) (t : Fin cfg0.N) (r : Fin 2048) (d : Fin 128) :
    (iblk m c 2 t : Vec Ideal S1x2048x128 .bf16) (ix3 0 r d) = argK m c (ix3 (batAt t) ⟨(blkAt t).val * 2048 + r.val, by omega⟩ d) := by
  simp only [batAt, blkAt]; blk_ext [iblk, V, idx2 t]
theorem v_at (c : Dev nD) (t : Fin cfg0.N) (r : Fin 2048) (d : Fin 128) :
    (iblk m c 3 t : Vec Ideal S1x2048x128 .bf16) (ix3 0 r d) = argV m c (ix3 (batAt t) ⟨(blkAt t).val * 2048 + r.val, by omega⟩ d) := by
  simp only [batAt, blkAt]; blk_ext [iblk, V, idx3 t]

theorem reads (c : Dev nD) (t : Fin cfg0.N) :
    Reads t (iblk m c 0 t) (iblk m c 1 t) (iblk m c 2 t) (iblk m c 3 t) (argP m c) (argF m c) (argK m c) (argV m c) (batAt t) (blkAt t) where
  b_eq := rfl
  p_eq := fun a s => pos_at m c t a (batAt t) s
  f_eq := frq_at m c t
  k_eq := k_at m c t
  v_eq := v_at m c t

/-! ## The result arrays -/

theorem sins_at (c : Dev nD) (b : Fin 12) (d : Fin 64) (s : Fin 2560) :
    (dats m 0 c).arrAt 9 cfg0.N (ix3 b d s) = sinS (argP m c) (argF m c) b d s := by
  refine (dats m 0 c).arrAt_forall_of_covers 9
    (fun i v => ∀ b d s, i = ix3 b d s → v = sinS (argP m c) (argF m c) b d s)
    (by decide +kernel) (fun t hf y => ?_) (ix3 b d s) (Memref.isWhole_whole _) b d s rfl
  intro b d s e
  have e0 := congrArg Fin.val (congrFun e 0)
  have e1 := congrArg Fin.val (congrFun e 1)
  have e2 := congrArg Fin.val (congrFun e 2)
  blk_simp [idx9 t] at e0 e1 e2
  blk_simp
  have y0 : (y 0).val < 1 := (y 0).isLt
  have hb : batAt t = b := Fin.ext e0
  have hs : posn (blkAt t) (y 2) = s := Fin.ext e2
  rw [← hb, ← hs]
  refine Eq.trans ?_ (sin_eq (reads m c t) d (y 2))
  rw [← out9_eq, ← after0_9]
  show (dats m 0 c).after 9 t y = (dats m 0 c).after 9 t (ix3 0 d (y 2))
  congr 1
  funext a
  fin_cases a <;> apply Fin.ext
  · show (y 0).val = 0; omega
  · exact e1
  · rfl

theorem coss_at (c : Dev nD) (b : Fin 12) (d : Fin 64) (s : Fin 2560) :
    (dats m 0 c).arrAt 8 cfg0.N (ix3 b d s) = cosS (argP m c) (argF m c) b d s := by
  refine (dats m 0 c).arrAt_forall_of_covers 8
    (fun i v => ∀ b d s, i = ix3 b d s → v = cosS (argP m c) (argF m c) b d s)
    (by decide +kernel) (fun t hf y => ?_) (ix3 b d s) (Memref.isWhole_whole _) b d s rfl
  intro b d s e
  have e0 := congrArg Fin.val (congrFun e 0)
  have e1 := congrArg Fin.val (congrFun e 1)
  have e2 := congrArg Fin.val (congrFun e 2)
  blk_simp [idx8 t] at e0 e1 e2
  blk_simp
  have y0 : (y 0).val < 1 := (y 0).isLt
  have hb : batAt t = b := Fin.ext e0
  have hs : posn (blkAt t) (y 2) = s := Fin.ext e2
  rw [← hb, ← hs]
  refine Eq.trans ?_ (cos_eq (reads m c t) d (y 2))
  rw [← out8_eq, ← after0_8]
  show (dats m 0 c).after 8 t y = (dats m 0 c).after 8 t (ix3 0 d (y 2))
  congr 1
  funext a
  fin_cases a <;> apply Fin.ext
  · show (y 0).val = 0; omega
  · exact e1
  · rfl

theorem values_at (c : Dev nD) (b : Fin 12) (h : Fin 4) (d : Fin 128) (s : Fin 2560) :
    (dats m 0 c).arrAt 7 cfg0.N (ix4 b h d s) = argV m c (ix3 b (rowAt s h) d) := by
  refine (dats m 0 c).arrAt_forall_of_covers 7
    (fun i v => ∀ b h d s, i = ix4 b h d s → v = argV m c (ix3 b (rowAt s h) d))
    (by decide +kernel) (fun t hf y => ?_) (ix4 b h d s) (Memref.isWhole_whole _) b h d s rfl
  intro b h d s e
  have e0 := congrArg Fin.val (congrFun e 0)
  have e1 := congrArg Fin.val (congrFun e 1)
  have e2 := congrArg Fin.val (congrFun e 2)
  have e3 := congrArg Fin.val (congrFun e 3)
  blk_simp [idx7 t] at e0 e1 e2 e3
  blk_simp
  have y0 : (y 0).val < 1 := (y 0).isLt
  have hb : batAt t = b := Fin.ext e0
  have hs : posn (blkAt t) (y 3) = s := Fin.ext e3
  rw [← hb, ← hs]
  refine Eq.trans ?_ (values_all (reads m c t) h d (y 3))
  rw [← out7_eq, ← after0_7]
  show (dats m 0 c).after 7 t y = (dats m 0 c).after 7 t (ix4 0 h d (y 3))
  congr 1
  funext a
  fin_cases a <;> apply Fin.ext
  · show (y 0).val = 0; omega
  · exact e1
  · exact e2
  · rfl

theorem heads_at (c : Dev nD) (b : Fin 12) (h : Fin 4) (s : Fin 2560) (d : Fin 128) :
    (dats m 0 c).arrAt 6 cfg0.N (ix4 b h s d) = codeS (argP m c) (argF m c) (argK m c) b h s d := by
  refine (dats m 0 c).arrAt_forall_of_covers 6
    (fun i v => ∀ b h s d, i = ix4 b h s d → v = codeS (argP m c) (argF m c) (argK m c) b h s d)
    (by decide +kernel) (fun t hf y => ?_) (ix4 b h s d) (Memref.isWhole_whole _) b h s d rfl
  intro b h s d e
  have e0 := congrArg Fin.val (congrFun e 0)
  have e1 := congrArg Fin.val (congrFun e 1)
  have e2 := congrArg Fin.val (congrFun e 2)
  have e3 := congrArg Fin.val (congrFun e 3)
  blk_simp [idx6 t] at e0 e1 e2 e3
  blk_simp
  have y0 : (y 0).val < 1 := (y 0).isLt
  have hb : batAt t = b := Fin.ext e0
  have hs : posn (blkAt t) (y 2) = s := Fin.ext e2
  rw [← hb, ← hs]
  refine Eq.trans ?_ (codes_all (reads m c t) h (y 2) d)
  rw [← out6_eq, ← after0_6]
  show (dats m 0 c).after 6 t y = (dats m 0 c).after 6 t (ix4 0 h (y 2) d)
  congr 1
  funext a
  fin_cases a <;> apply Fin.ext
  · show (y 0).val = 0; omega
  · exact e1
  · rfl
  · exact e3

theorem scales_at (c : Dev nD) (b : Fin 12) (h : Fin 4) (s : Fin 2560) :
    (dats m 0 c).arrAt 5 cfg0.N (ix3 b h s) = scaleS (argP m c) (argF m c) (argK m c) b h s := by
  refine (dats m 0 c).arrAt_forall_of_covers 5
    (fun i v => ∀ b h s, i = ix3 b h s → v = scaleS (argP m c) (argF m c) (argK m c) b h s)
    (by decide +kernel) (fun t hf y => ?_) (ix3 b h s) (Memref.isWhole_whole _) b h s rfl
  intro b h s e
  have e0 := congrArg Fin.val (congrFun e 0)
  have e1 := congrArg Fin.val (congrFun e 1)
  have e2 := congrArg Fin.val (congrFun e 2)
  blk_simp [idx5 t] at e0 e1 e2
  blk_simp
  have y0 : (y 0).val < 1 := (y 0).isLt
  have hb : batAt t = b := Fin.ext e0
  have hs : posn (blkAt t) (y 2) = s := Fin.ext e2
  rw [← hb, ← hs]
  refine Eq.trans ?_ (scales_all (reads m c t) h (y 2))
  rw [← out5_eq, ← after0_5]
  show (dats m 0 c).after 5 t y = (dats m 0 c).after 5 t (ix3 0 h (y 2))
  congr 1
  funext a
  fin_cases a <;> apply Fin.ext
  · show (y 0).val = 0; omega
  · exact e1
  · rfl

theorem codes_at (c : Dev nD) (b : Fin 12) (s : Fin 2560) (h : Fin 4) (d : Fin 128) :
    (dats m 0 c).arrAt 4 cfg0.N (ix3 b (rowAt s h) d) = codeS (argP m c) (argF m c) (argK m c) b h s d := by
  refine (dats m 0 c).arrAt_forall_of_covers 4
    (fun i v => ∀ b s h d, i = ix3 b (rowAt s h) d → v = codeS (argP m c) (argF m c) (argK m c) b h s d)
    (by decide +kernel) (fun t hf y => ?_) (ix3 b (rowAt s h) d) (Memref.isWhole_whole _) b s h d rfl
  intro b s h d e
  have e0 := congrArg Fin.val (congrFun e 0)
  have e1 := congrArg Fin.val (congrFun e 1)
  have e2 := congrArg Fin.val (congrFun e 2)
  blk_simp [idx4 t] at e0 e1 e2
  blk_simp
  have y0 : (y 0).val < 1 := (y 0).isLt
  have hb : batAt t = b := Fin.ext e0
  have y1 : (y 1).val < 2048 := (y 1).isLt
  have eh : (blkAt t).val * 2048 + (y 1).val = s.val * 4 + h.val := e1
  have hh := h.isLt
  have hr : headIn (y 1) = h := Fin.ext (by show (y 1).val % 4 = h.val; omega)
  have hs : posn (blkAt t) (posIn (y 1)) = s := Fin.ext (by show (blkAt t).val * 512 + (y 1).val / 4 = s.val; omega)
  rw [← hb, ← hs, ← hr]
  refine Eq.trans ?_ (rows_all (reads m c t) (y 1) d)
  refine Eq.trans ?_ (cast_apply _ (y 1) d)
  rw [← out4_eq, ← after0_4]
  show (dats m 0 c).after 4 t y = (dats m 0 c).after 4 t (ix3 0 (y 1) d)
  congr 1
  funext a
  fin_cases a <;> apply Fin.ext
  · show (y 0).val = 0; omega
  · rfl
  · exact e2

end Cert.KeysIdeal.Keys
end
-- ==== Proof.KeysRefRun.lean ====
/-
  The run of the second reference: each result array is one function of the argument arrays.
-/
module

public import proofs.«01_k».proof.Proof.Gen.KeysReferenceIdeal.Frame
public import Idealize.ShloMosaic.Lib.Pipeline.Value

@[expose] public section

noncomputable section

namespace Cert.KeysReferenceIdeal.Run

open Cert.KeysReferenceIdeal Cert.KeysReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_2) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_3) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_4) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_5) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run named, `(dats m 0 c).arrAt w N`, and
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c : Thread nD τ).loc main_v0_3) = (dats m 0 c).arrAt 7 cfg0.N
      ∧ r.2.mem ((c : Thread nD τ).loc main_v0_4) = (dats m 0 c).arrAt 8 cfg0.N
      ∧ r.2.mem ((c : Thread nD τ).loc main_v0_5) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      post7 m r h c,
      post8 m r h c,
      post9 m r h c,
      kept_main_arg0 m r h c,
      kept_main_arg1 m r h c,
      kept_main_arg2 m r h c,
      kept_main_arg3 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S3x12x2560.Idx) : ((cfg0.win 0).blk t).view.emb j = j := by
  obtain ⟨e0, e1, e2⟩ := idx_zero0 t
  funext a; apply Fin.ext
  match a with
  | ⟨0, _⟩ => show win0_0.index t (0 : Fin 3) * 3 + 1 * (j 0).val = (j 0).val; omega
  | ⟨1, _⟩ => show win0_0.index t (1 : Fin 3) * 12 + 1 * (j 1).val = (j 1).val; omega
  | ⟨2, _⟩ => show win0_0.index t (2 : Fin 3) * 2560 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S64x128.Idx) : ((cfg0.win 1).blk t).view.emb j = j := by
  obtain ⟨e0, e1⟩ := idx_zero1 t
  funext a; apply Fin.ext
  match a with
  | ⟨0, _⟩ => show win0_1.index t (0 : Fin 2) * 64 + 1 * (j 0).val = (j 0).val; omega
  | ⟨1, _⟩ => show win0_1.index t (1 : Fin 2) * 128 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S12x10240x128.Idx) : ((cfg0.win 2).blk t).view.emb j = j := by
  obtain ⟨e0, e1, e2⟩ := idx_zero2 t
  funext a; apply Fin.ext
  match a with
  | ⟨0, _⟩ => show win0_2.index t (0 : Fin 3) * 12 + 1 * (j 0).val = (j 0).val; omega
  | ⟨1, _⟩ => show win0_2.index t (1 : Fin 3) * 10240 + 1 * (j 1).val = (j 1).val; omega
  | ⟨2, _⟩ => show win0_2.index t (2 : Fin 3) * 128 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S12x10240x128.Idx) : ((cfg0.win 3).blk t).view.emb j = j := by
  obtain ⟨e0, e1, e2⟩ := idx_zero3 t
  funext a; apply Fin.ext
  match a with
  | ⟨0, _⟩ => show win0_3.index t (0 : Fin 3) * 12 + 1 * (j 0).val = (j 0).val; omega
  | ⟨1, _⟩ => show win0_3.index t (1 : Fin 3) * 10240 + 1 * (j 1).val = (j 1).val; omega
  | ⟨2, _⟩ => show win0_3.index t (2 : Fin 3) * 128 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S12x10240x128.Idx) : ((cfg0.win 4).blk t).view.emb j = j := by
  obtain ⟨e0, e1, e2⟩ := idx_zero4 t
  funext a; apply Fin.ext
  match a with
  | ⟨0, _⟩ => show win0_4.index t (0 : Fin 3) * 12 + 1 * (j 0).val = (j 0).val; omega
  | ⟨1, _⟩ => show win0_4.index t (1 : Fin 3) * 10240 + 1 * (j 1).val = (j 1).val; omega
  | ⟨2, _⟩ => show win0_4.index t (2 : Fin 3) * 128 + 1 * (j 2).val = (j 2).val; omega

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S12x4x2560.Idx) : ((cfg0.win 5).blk t).view.emb j = j := by
  obtain ⟨e0, e1, e2⟩ := idx_zero5 t
  funext a; apply Fin.ext
  match a with
  | ⟨0, _⟩ => show win0_5.index t (0 : Fin 3) * 12 + 1 * (j 0).val = (j 0).val; omega
  | ⟨1, _⟩ => show win0_5.index t (1 : Fin 3) * 4 + 1 * (j 1).val = (j 1).val; omega
  | ⟨2, _⟩ => show win0_5.index t (2 : Fin 3) * 2560 + 1 * (j 2).val = (j 2).val; omega

theorem hz6 : (![0, 0, 0, 0] : Fin 4 → Nat) = fun _ => 0 := funext fun a => by fin_cases a <;> rfl

/-- Window 6's block index at the one point is zero on every axis. -/
theorem idx_zero6 : ∀ t : Fin cfg0.N, win0_6.index t (0 : Fin 4) = 0 ∧ win0_6.index t (1 : Fin 4) = 0 ∧ win0_6.index t (2 : Fin 4) = 0 ∧ win0_6.index t (3 : Fin 4) = 0 :=
  (by decide +kernel : ∀ t : Fin grid0.N, _)

/-- An index of window 6's block is the same index of its array. -/
theorem emb6 (t : Fin cfg0.N) (j : S12x4x2560x128.Idx) : ((cfg0.win 6).blk t).view.emb j = j := by
  obtain ⟨e0, e1, e2, e3⟩ := idx_zero6 t
  funext a; apply Fin.ext
  match a with
  | ⟨0, _⟩ => show win0_6.index t (0 : Fin 4) * 12 + 1 * (j 0).val = (j 0).val; omega
  | ⟨1, _⟩ => show win0_6.index t (1 : Fin 4) * 4 + 1 * (j 1).val = (j 1).val; omega
  | ⟨2, _⟩ => show win0_6.index t (2 : Fin 4) * 2560 + 1 * (j 2).val = (j 2).val; omega
  | ⟨3, _⟩ => show win0_6.index t (3 : Fin 4) * 128 + 1 * (j 3).val = (j 3).val; omega

theorem hz7 : (![0, 0, 0, 0] : Fin 4 → Nat) = fun _ => 0 := funext fun a => by fin_cases a <;> rfl

/-- Window 7's block index at the one point is zero on every axis. -/
theorem idx_zero7 : ∀ t : Fin cfg0.N, win0_7.index t (0 : Fin 4) = 0 ∧ win0_7.index t (1 : Fin 4) = 0 ∧ win0_7.index t (2 : Fin 4) = 0 ∧ win0_7.index t (3 : Fin 4) = 0 :=
  (by decide +kernel : ∀ t : Fin grid0.N, _)

/-- An index of window 7's block is the same index of its array. -/
theorem emb7 (t : Fin cfg0.N) (j : S12x4x128x2560.Idx) : ((cfg0.win 7).blk t).view.emb j = j := by
  obtain ⟨e0, e1, e2, e3⟩ := idx_zero7 t
  funext a; apply Fin.ext
  match a with
  | ⟨0, _⟩ => show win0_7.index t (0 : Fin 4) * 12 + 1 * (j 0).val = (j 0).val; omega
  | ⟨1, _⟩ => show win0_7.index t (1 : Fin 4) * 4 + 1 * (j 1).val = (j 1).val; omega
  | ⟨2, _⟩ => show win0_7.index t (2 : Fin 4) * 128 + 1 * (j 2).val = (j 2).val; omega
  | ⟨3, _⟩ => show win0_7.index t (3 : Fin 4) * 2560 + 1 * (j 3).val = (j 3).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S12x64x2560.Idx) : ((cfg0.win 8).blk t).view.emb j = j := by
  obtain ⟨e0, e1, e2⟩ := idx_zero8 t
  funext a; apply Fin.ext
  match a with
  | ⟨0, _⟩ => show win0_8.index t (0 : Fin 3) * 12 + 1 * (j 0).val = (j 0).val; omega
  | ⟨1, _⟩ => show win0_8.index t (1 : Fin 3) * 64 + 1 * (j 1).val = (j 1).val; omega
  | ⟨2, _⟩ => show win0_8.index t (2 : Fin 3) * 2560 + 1 * (j 2).val = (j 2).val; omega

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S12x64x2560.Idx) : ((cfg0.win 9).blk t).view.emb j = j := by
  obtain ⟨e0, e1, e2⟩ := idx_zero9 t
  funext a; apply Fin.ext
  match a with
  | ⟨0, _⟩ => show win0_9.index t (0 : Fin 3) * 12 + 1 * (j 0).val = (j 0).val; omega
  | ⟨1, _⟩ => show win0_9.index t (1 : Fin 3) * 64 + 1 * (j 1).val = (j 1).val; omega
  | ⟨2, _⟩ => show win0_9.index t (2 : Fin 3) * 2560 + 1 * (j 2).val = (j 2).val; omega

/-! ### Output window 4: the array after the run -/

/-- What the window's array ends holding: `out0_4` applied to the argument arrays in place of the input blocks. A value that is
    stated apart keeps its loads inside its own definition. -/
abbrev G4 (a0 : Vec F S3x12x2560 .i32) (a1 : Vec F S64x128 .f32) (a2 : Vec F S12x10240x128 .bf16) (a3 : Vec F S12x10240x128 .bf16) : Vec F S12x10240x128 .fp8e4m3 :=
  k0_pay12 (k0_pay15 a0 a1 a2 a3) (k0_pay16 a0 a1 a2 a3) (k0_pay17 a0 a1 a2 a3)

/-- The one store through the whole rectangle leaves its payload. -/
theorem out4_eq (a0 : Vec F S3x12x2560 .i32) (a1 : Vec F S64x128 .f32) (a2 : Vec F S12x10240x128 .bf16) (a3 : Vec F S12x10240x128 .bf16) : out0_4 (F := F) a0 a1 a2 a3 = G4 a0 a1 a2 a3 := by
  unfold out0_4
  rw [View.canon_unit_zero hz4]

/-- Cutting the point's block out of `X` and reading `X` through the block's view give the same. -/
theorem cut4_eq (t : Fin cfg0.N) (X : Vec F S12x10240x128 .fp8e4m3) :
    (cfg0.win 4).cut (grid0.coords t) X = ((cfg0.win 4).blk t).view.read (Elt F) X := by
  funext j
  show X j = X (((cfg0.win 4).blk t).view.emb j)
  rw [emb4]

/-- What the point writes back is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S12x10240x128.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- The array after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-! ### Output window 5: the array after the run -/

/-- What the window's array ends holding: `out0_5` applied to the argument arrays in place of the input blocks. A value that is
    stated apart keeps its loads inside its own definition. -/
abbrev G5 (a0 : Vec F S3x12x2560 .i32) (a1 : Vec F S64x128 .f32) (a2 : Vec F S12x10240x128 .bf16) (a3 : Vec F S12x10240x128 .bf16) : Vec F S12x4x2560 .f32 :=
  k0_pay14 (k0_pay15 a0 a1 a2 a3) (k0_pay16 a0 a1 a2 a3) (k0_pay17 a0 a1 a2 a3)

/-- The one store through the whole rectangle leaves its payload. -/
theorem out5_eq (a0 : Vec F S3x12x2560 .i32) (a1 : Vec F S64x128 .f32) (a2 : Vec F S12x10240x128 .bf16) (a3 : Vec F S12x10240x128 .bf16) : out0_5 (F := F) a0 a1 a2 a3 = G5 a0 a1 a2 a3 := by
  unfold out0_5
  rw [View.canon_unit_zero hz5]

/-- Cutting the point's block out of `X` and reading `X` through the block's view give the same. -/
theorem cut5_eq (t : Fin cfg0.N) (X : Vec F S12x4x2560 .f32) :
    (cfg0.win 5).cut (grid0.coords t) X = ((cfg0.win 5).blk t).view.read (Elt F) X := by
  funext j
  show X j = X (((cfg0.win 5).blk t).view.emb j)
  rw [emb5]

/-- What the point writes back is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3)) := by
  show (cfg0.win 5).cut (grid0.coords t) ((dats m 0 c).after 5 t) = _
  rw [after0_5, out5_eq, iblk0_eq, iblk1_eq, iblk2_eq, iblk3_eq]
  exact cut5_eq t _

/-- Every index of the array is in the point's block. -/
theorem covered5 (i : S12x4x2560.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- The array after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  ((dats m 0 c).arrAt_eq_of_cover 5 (G5 (V m c main_arg0) (V m c main_arg1) (V m c main_arg2) (V m c main_arg3)) (fun t _ => flushed5_eq m c t) covered5).trans (by rw [V_main_arg0, V_main_arg1, V_main_arg2, V_main_arg3])

/-! ### Output window 6: the array after the run -/

/-- What the window's array ends holding: `out0_6` applied to the argument arrays in place of the input blocks. A value that is
    stated apart keeps its loads inside its own definition. -/
abbrev G6 (a0 : Vec F S3x12x2560 .i32) (a1 : Vec F S64x128 .f32) (a2 : Vec F S12x10240x128 .bf16) (a3 : Vec F S12x10240x128 .bf16) : Vec F S12x4x2560x128 .fp8e4m3 :=
  k0_pay13 (k0_pay15 a0 a1 a2 a3) (k0_pay16 a0 a1 a2 a3) (k0_pay17 a0 a1 a2 a3)

/-- The one store through the whole rectangle leaves its payload. -/
theorem out6_eq (a0 : Vec F S3x12x2560 .i32) (a1 : Vec F S64x128 .f32) (a2 : Vec F S12x10240x128 .bf16) (a3 : Vec F S12x10240x128 .bf16) : out0_6 (F := F) a0 a1 a2 a3 = G6 a0 a1 a2 a3 := by
  unfold out0_6
  rw [View.canon_unit_zero hz6]

/-- Cutting the point's block out of `X` and reading `X` through the block's view give the same. -/
theorem cut6_eq (t : Fin cfg0.N) (X : Vec F S12x4x2560x128 .fp8e4m3) :
    (cfg0.win 6).cut (grid0.coords t) X = ((cfg0.win 6).blk t).view.read (Elt F) X := by
  funext j
  show X j = X (((cfg0.win 6).blk t).view.emb j)
  rw [emb6]

/-- What the point writes back is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3)) := by
  show (cfg0.win 6).cut (grid0.coords t) ((dats m 0 c).after 6 t) = _
  rw [after0_6, out6_eq, iblk0_eq, iblk1_eq, iblk2_eq, iblk3_eq]
  exact cut6_eq t _

/-- Every index of the array is in the point's block. -/
theorem covered6 (i : S12x4x2560x128.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- The array after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) :=
  ((dats m 0 c).arrAt_eq_of_cover 6 (G6 (V m c main_arg0) (V m c main_arg1) (V m c main_arg2) (V m c main_arg3)) (fun t _ => flushed6_eq m c t) covered6).trans (by rw [V_main_arg0, V_main_arg1, V_main_arg2, V_main_arg3])

/-! ### Output window 7: the array after the run -/

/-- What the window's array ends holding: `out0_7` applied to the argument arrays in place of the input blocks. A value that is
    stated apart keeps its loads inside its own definition. -/
abbrev G7 (a0 : Vec F S3x12x2560 .i32) (a1 : Vec F S64x128 .f32) (a2 : Vec F S12x10240x128 .bf16) (a3 : Vec F S12x10240x128 .bf16) : Vec F S12x4x128x2560 .bf16 :=
  k0_pay1 a3

/-- A load of the whole of a block reads the block, and the one store through the whole rectangle leaves its payload. -/
theorem out7_eq (a0 : Vec F S3x12x2560 .i32) (a1 : Vec F S64x128 .f32) (a2 : Vec F S12x10240x128 .bf16) (a3 : Vec F S12x10240x128 .bf16) : out0_7 (F := F) a0 a1 a2 a3 = G7 a0 a1 a2 a3 := by
  unfold out0_7
  rw [View.canon_unit_zero hz7, View.ld_unit_zero (S := S12x10240x128) hz3 _ a3]

/-- Cutting the point's block out of `X` and reading `X` through the block's view give the same. -/
theorem cut7_eq (t : Fin cfg0.N) (X : Vec F S12x4x128x2560 .bf16) :
    (cfg0.win 7).cut (grid0.coords t) X = ((cfg0.win 7).blk t).view.read (Elt F) X := by
  funext j
  show X j = X (((cfg0.win 7).blk t).view.emb j)
  rw [emb7]

/-- What the point writes back is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3)) := by
  show (cfg0.win 7).cut (grid0.coords t) ((dats m 0 c).after 7 t) = _
  rw [after0_7, out7_eq, iblk0_eq, iblk1_eq, iblk2_eq, iblk3_eq]
  exact cut7_eq t _

/-- Every index of the array is in the point's block. -/
theorem covered7 (i : S12x4x128x2560.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- The array after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) :=
  ((dats m 0 c).arrAt_eq_of_cover 7 (G7 (V m c main_arg0) (V m c main_arg1) (V m c main_arg2) (V m c main_arg3)) (fun t _ => flushed7_eq m c t) covered7).trans (by rw [V_main_arg0, V_main_arg1, V_main_arg2, V_main_arg3])

/-! ### Output window 8: the array after the run -/

/-- What the window's array ends holding: `out0_8` applied to the argument arrays in place of the input blocks. A value that is
    stated apart keeps its loads inside its own definition. -/
abbrev G8 (a0 : Vec F S3x12x2560 .i32) (a1 : Vec F S64x128 .f32) (a2 : Vec F S12x10240x128 .bf16) (a3 : Vec F S12x10240x128 .bf16) : Vec F S12x64x2560 .f32 :=
  k0_pay3 a0 a1

/-- A load of the whole of a block reads the block, and the one store through the whole rectangle leaves its payload. -/
theorem out8_eq (a0 : Vec F S3x12x2560 .i32) (a1 : Vec F S64x128 .f32) (a2 : Vec F S12x10240x128 .bf16) (a3 : Vec F S12x10240x128 .bf16) : out0_8 (F := F) a0 a1 a2 a3 = G8 a0 a1 a2 a3 := by
  unfold out0_8
  rw [View.canon_unit_zero hz8, View.ld_unit_zero (S := S3x12x2560) hz0 _ a0, View.ld_unit_zero (S := S64x128) hz1 _ a1]

/-- Cutting the point's block out of `X` and reading `X` through the block's view give the same. -/
theorem cut8_eq (t : Fin cfg0.N) (X : Vec F S12x64x2560 .f32) :
    (cfg0.win 8).cut (grid0.coords t) X = ((cfg0.win 8).blk t).view.read (Elt F) X := by
  funext j
  show X j = X (((cfg0.win 8).blk t).view.emb j)
  rw [emb8]

/-- What the point writes back is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3)) := by
  show (cfg0.win 8).cut (grid0.coords t) ((dats m 0 c).after 8 t) = _
  rw [after0_8, out8_eq, iblk0_eq, iblk1_eq, iblk2_eq, iblk3_eq]
  exact cut8_eq t _

/-- Every index of the array is in the point's block. -/
theorem covered8 (i : S12x64x2560.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- The array after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) :=
  ((dats m 0 c).arrAt_eq_of_cover 8 (G8 (V m c main_arg0) (V m c main_arg1) (V m c main_arg2) (V m c main_arg3)) (fun t _ => flushed8_eq m c t) covered8).trans (by rw [V_main_arg0, V_main_arg1, V_main_arg2, V_main_arg3])

/-! ### Output window 9: the array after the run -/

/-- What the window's array ends holding: `out0_9` applied to the argument arrays in place of the input blocks. A value that is
    stated apart keeps its loads inside its own definition. -/
abbrev G9 (a0 : Vec F S3x12x2560 .i32) (a1 : Vec F S64x128 .f32) (a2 : Vec F S12x10240x128 .bf16) (a3 : Vec F S12x10240x128 .bf16) : Vec F S12x64x2560 .f32 :=
  k0_pay4 a0 a1

/-- A load of the whole of a block reads the block, and the one store through the whole rectangle leaves its payload. -/
theorem out9_eq (a0 : Vec F S3x12x2560 .i32) (a1 : Vec F S64x128 .f32) (a2 : Vec F S12x10240x128 .bf16) (a3 : Vec F S12x10240x128 .bf16) : out0_9 (F := F) a0 a1 a2 a3 = G9 a0 a1 a2 a3 := by
  unfold out0_9
  rw [View.canon_unit_zero hz9, View.ld_unit_zero (S := S3x12x2560) hz0 _ a0, View.ld_unit_zero (S := S64x128) hz1 _ a1]

/-- Cutting the point's block out of `X` and reading `X` through the block's view give the same. -/
theorem cut9_eq (t : Fin cfg0.N) (X : Vec F S12x64x2560 .f32) :
    (cfg0.win 9).cut (grid0.coords t) X = ((cfg0.win 9).blk t).view.read (Elt F) X := by
  funext j
  show X j = X (((cfg0.win 9).blk t).view.emb j)
  rw [emb9]

/-- What the point writes back is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3)) := by
  show (cfg0.win 9).cut (grid0.coords t) ((dats m 0 c).after 9 t) = _
  rw [after0_9, out9_eq, iblk0_eq, iblk1_eq, iblk2_eq, iblk3_eq]
  exact cut9_eq t _

/-- Every index of the array is in the point's block. -/
theorem covered9 (i : S12x64x2560.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- The array after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) :=
  ((dats m 0 c).arrAt_eq_of_cover 9 (G9 (V m c main_arg0) (V m c main_arg1) (V m c main_arg2) (V m c main_arg3)) (fun t _ => flushed9_eq m c t) covered9).trans (by rw [V_main_arg0, V_main_arg1, V_main_arg2, V_main_arg3])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = G6 (m ((c : Thread nD τ).loc main_arg0)) (m ((c : Thread nD τ).loc main_arg1)) (m ((c : Thread nD τ).loc main_arg2)) (m ((c : Thread nD τ).loc main_arg3))
      ∧ r.2.mem ((c : Thread nD τ).loc main_v0_3) = G7 (m ((c : Thread nD τ).loc main_arg0)) (m ((c : Thread nD τ).loc main_arg1)) (m ((c : Thread nD τ).loc main_arg2)) (m ((c : Thread nD τ).loc main_arg3))
      ∧ r.2.mem ((c : Thread nD τ).loc main_v0_4) = G8 (m ((c : Thread nD τ).loc main_arg0)) (m ((c : Thread nD τ).loc main_arg1)) (m ((c : Thread nD τ).loc main_arg2)) (m ((c : Thread nD τ).loc main_arg3))
      ∧ r.2.mem ((c : Thread nD τ).loc main_v0_5) = G9 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      (post7 m r h c).trans (final7 m c),
      (post8 m r h c).trans (final8 m c),
      (post9 m r h c).trans (final9 m c),
      kept_main_arg0 m r h c,
      kept_main_arg1 m r h c,
      kept_main_arg2 m r h c,
      kept_main_arg3 m r h c⟩)
    (run_main m ρ)

end Cert.KeysReferenceIdeal.Run

end
-- ==== Proof.KeysClaims.lean ====
/-
  The claims of the key preparation: its programs run and leave their arguments unchanged, the idealized one keeps
  what the words of two 16-bit numbers stand for, and its six results are the reference's for all arguments.
-/
module

public import proofs.«01_k».proof.Defs
public import proofs.«01_k».proof.Proof.KeysLaunch
public import proofs.«01_k».proof.Proof.KeysRefRun
public import Idealize.ShloMosaic.Lib.Bf16Pair
public import Idealize.ShloMosaic.Lib.Bf16PairInverse

@[expose] public section

set_option maxRecDepth 16384

noncomputable section

open Idealize.ShloMosaic Idealize.ShloMosaic.TcCoe Idealize.SL.Sem

namespace Cert.KeysIdeal.Keys

open Cert.KeysIdeal Cert.KeysIdeal.Gen
open Cert.KeysReferenceIdeal.Keys (rowAt cosS sinS scaleS codeS)
open Cert.KeysReferenceIdeal.Run (G4 G5 G6 G7 G8 G9)

/-! ## The results -/

/-- The values that the reference stores before its results read the arguments whole. -/
theorem stored_eq (a0 : Vec Ideal S3x12x2560 .i32) (a1 : Vec Ideal S64x128 .f32) (a2 a3 : Vec Ideal S12x10240x128 .bf16) :
    Cert.KeysReferenceIdeal.Gen.k0_pay15 a0 a1 a2 a3 = Cert.KeysReferenceIdeal.Gen.k0_pay6 a2
    ∧ Cert.KeysReferenceIdeal.Gen.k0_pay16 a0 a1 a2 a3 = Cert.KeysReferenceIdeal.Gen.k0_pay7 a0 a1 a2
    ∧ Cert.KeysReferenceIdeal.Gen.k0_pay17 a0 a1 a2 a3 = Cert.KeysReferenceIdeal.Gen.k0_pay8 a0 a1 := by
  unfold Cert.KeysReferenceIdeal.Gen.k0_pay15 Cert.KeysReferenceIdeal.Gen.k0_pay16 Cert.KeysReferenceIdeal.Gen.k0_pay17
  rw [View.ld_unit_zero (S := S3x12x2560) Cert.KeysReferenceIdeal.Run.hz0 _ a0, View.ld_unit_zero (S := S64x128) Cert.KeysReferenceIdeal.Run.hz1 _ a1,
    View.ld_unit_zero (S := S12x10240x128) Cert.KeysReferenceIdeal.Run.hz2 _ a2]
  exact ⟨rfl, rfl, rfl⟩

section
variable (a0 : Vec Ideal S3x12x2560 .i32) (a1 : Vec Ideal S64x128 .f32) (a2 a3 : Vec Ideal S12x10240x128 .bf16)
theorem codes_result (X : Vec Ideal S12x10240x128 .fp8e4m3) (hX : ∀ b s h d, X (ix3 b (rowAt s h) d) = codeS a0 a1 a2 b h s d) : X = G4 a0 a1 a2 a3 := by
  funext i
  obtain ⟨b, r, d, rfl⟩ : ∃ b r d, i = ix3 b r d := ⟨i 0, i 1, i 2, by funext a; fin_cases a <;> rfl⟩
  obtain ⟨s, h, rfl⟩ : ∃ s h, r = rowAt s h :=
    ⟨⟨r.val / 4, by omega⟩, ⟨r.val % 4, Nat.mod_lt _ (by decide)⟩, Fin.ext (by show r.val = r.val / 4 * 4 + r.val % 4; omega)⟩
  obtain ⟨e1, e2, e3⟩ := stored_eq a0 a1 a2 a3
  rw [hX, G4, e1, e2, e3, Cert.KeysReferenceIdeal.Keys.codesRows_apply, Cert.KeysReferenceIdeal.Keys.code_eq]
theorem scales_result (X : Vec Ideal S12x4x2560 .f32) (hX : ∀ b h s, X (ix3 b h s) = scaleS a0 a1 a2 b h s) : X = G5 a0 a1 a2 a3 := by
  funext i
  obtain ⟨b, h, s, rfl⟩ : ∃ b h s, i = ix3 b h s := ⟨i 0, i 1, i 2, by funext a; fin_cases a <;> rfl⟩
  obtain ⟨e1, e2, e3⟩ := stored_eq a0 a1 a2 a3
  rw [hX, G5, e1, e2, e3, Cert.KeysReferenceIdeal.Keys.scales_apply, Cert.KeysReferenceIdeal.Keys.scale_eq]
theorem heads_result (X : Vec Ideal S12x4x2560x128 .fp8e4m3) (hX : ∀ b h s d, X (ix4 b h s d) = codeS a0 a1 a2 b h s d) : X = G6 a0 a1 a2 a3 := by
  funext i
  obtain ⟨b, h, s, d, rfl⟩ : ∃ b h s d, i = ix4 b h s d := ⟨i 0, i 1, i 2, i 3, by funext a; fin_cases a <;> rfl⟩
  obtain ⟨e1, e2, e3⟩ := stored_eq a0 a1 a2 a3
  rw [hX, G6, e1, e2, e3, Cert.KeysReferenceIdeal.Keys.heads_apply, Cert.KeysReferenceIdeal.Keys.code_eq]
theorem values_result (X : Vec Ideal S12x4x128x2560 .bf16) (hX : ∀ b h d s, X (ix4 b h d s) = a3 (ix3 b (rowAt s h) d)) : X = G7 a0 a1 a2 a3 := by
  funext i
  obtain ⟨b, h, d, s, rfl⟩ : ∃ b h d s, i = ix4 b h d s := ⟨i 0, i 1, i 2, i 3, by funext a; fin_cases a <;> rfl⟩
  rw [hX, G7, Cert.KeysReferenceIdeal.Keys.values_apply]
theorem coss_result (X : Vec Ideal S12x64x2560 .f32) (hX : ∀ b d s, X (ix3 b d s) = cosS a0 a1 b d s) : X = G8 a0 a1 a2 a3 := by
  funext i
  obtain ⟨b, d, s, rfl⟩ : ∃ b d s, i = ix3 b d s := ⟨i 0, i 1, i 2, by funext a; fin_cases a <;> rfl⟩
  rw [hX, G8, Cert.KeysReferenceIdeal.Keys.cos_apply]
theorem sins_result (X : Vec Ideal S12x64x2560 .f32) (hX : ∀ b d s, X (ix3 b d s) = sinS a0 a1 b d s) : X = G9 a0 a1 a2 a3 := by
  funext i
  obtain ⟨b, d, s, rfl⟩ : ∃ b d s, i = ix3 b d s := ⟨i 0, i 1, i 2, by funext a; fin_cases a <;> rfl⟩
  rw [hX, G9, Cert.KeysReferenceIdeal.Keys.sin_apply]
end

end Cert.KeysIdeal.Keys

/-! ## The claims -/

namespace Cert.Proof.KeysClaims

open Cert.KeysIdeal.Keys
open Cert.KeysReferenceIdeal.Run (G4 G5 G6 G7 G8 G9)

theorem frame_ki : Cert.quiescent_KeysIdeal := fun m ρ _ => Cert.KeysIdeal.Gen.frame m ρ
theorem frame_kri : Cert.quiescent_KeysReferenceIdeal := fun m ρ _ => Cert.KeysReferenceIdeal.Gen.frame m ρ

theorem preserves : Cert.preserves_Keys_KeysIdeal :=
  ⟨IdealRules.bf16_pair.bufferStatement _ _, IdealRules.bf16_pair.statement _ _, IdealRules.bf16_pair.statement _ _,
    IdealRules.bf16_pair.statement _ _, IdealRules.bf16_pair.statement _ _⟩

theorem algebraic : Cert.algebraic_KeysIdeal_KeysReferenceIdeal := fun m g m' g' _ hargs => by
  refine ⟨fun c => G4 (argP m c) (argF m c) (argK m c) (argV m c), fun c => G5 (argP m c) (argF m c) (argK m c) (argV m c),
    fun c => G6 (argP m c) (argF m c) (argK m c) (argV m c), fun c => G7 (argP m c) (argF m c) (argK m c) (argV m c),
    fun c => G8 (argP m c) (argF m c) (argK m c) (argV m c), fun c => G9 (argP m c) (argF m c) (argK m c) (argV m c), ?_, ?_⟩
  · refine (θ_run Cert.KeysIdeal.defs _ _).mono (fun r h c => ?_) (Cert.KeysIdeal.Value.run_blocks (F := Ideal) m g)
    obtain ⟨h0, h1, h2, h3, h4, h5, ha⟩ := h c
    exact ⟨h0.trans (codes_result _ _ _ _ _ (codes_at m c)), h1.trans (scales_result _ _ _ _ _ (scales_at m c)),
      h2.trans (heads_result _ _ _ _ _ (heads_at m c)), h3.trans (values_result _ _ _ _ _ (values_at m c)),
      h4.trans (coss_result _ _ _ _ _ (coss_at m c)), h5.trans (sins_result _ _ _ _ _ (sins_at m c)), ha⟩
  · refine (θ_run Cert.KeysReferenceIdeal.defs _ _).mono (fun r h c => ?_) (Cert.KeysReferenceIdeal.Run.run (F := Ideal) m' g')
    obtain ⟨e0, e1, e2, e3⟩ := hargs c
    obtain ⟨h0, h1, h2, h3, h4, h5, ha⟩ := h c
    refine ⟨h0.trans ?_, h1.trans ?_, h2.trans ?_, h3.trans ?_, h4.trans ?_, h5.trans ?_, ha⟩ <;> rw [e0, e1, e2, e3]

end Cert.Proof.KeysClaims
-- ==== Proof.lean ====
/- The proof of the claims: each program runs and leaves its arguments unchanged; the idealized attention call keeps what its
   one named constant stands for, and its three results are the reference's where no key scale is negative; the idealized
   preparation of the keys keeps what its words of two 16-bit numbers stand for, and its six results are the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_scales_not_negative
public import proofs.«01_k».proof.Proof.Gen.Keys
public import proofs.«01_k».proof.Proof.Gen.KeysIdeal
public import proofs.«01_k».proof.Proof.Gen.KeysReferenceIdeal
public import proofs.«01_k».proof.Proof.Gen.Keys.Frame
public import proofs.«01_k».proof.Proof.Gen.KeysIdeal.Value
public import proofs.«01_k».proof.Proof.Gen.KeysReferenceIdeal.Frame
public import proofs.«01_k».proof.Proof.FrameKernel
public import proofs.«01_k».proof.Proof.AttnClaims
public import proofs.«01_k».proof.Proof.KeysClaims

@[expose] public section

noncomputable section

namespace Cert.Proof

open Idealize.ShloMosaic

theorem claim : Cert.Claim :=
  ⟨Cert.Kernel.Gen.facts, Cert.KernelIdeal.Gen.facts, Cert.ReferenceIdeal.Gen.facts, Cert.Keys.Gen.facts, Cert.KeysIdeal.Gen.facts,
    Cert.KeysReferenceIdeal.Gen.facts, Cert.Pre_scales_not_negative.Gen.facts,
    fun m ρ _ => Cert.Kernel.Unchanged.frame m ρ, AttnClaims.frame_pi, fun m ρ _ => AttnClaims.frame_pi m ρ trivial,
    AttnClaims.frame_ri, fun m ρ _ => AttnClaims.frame_ri m ρ trivial,
    fun m ρ _ => Cert.Keys.Gen.frame m ρ, KeysClaims.frame_ki, KeysClaims.frame_kri,
    AttnClaims.preserves, AttnClaims.algebraic, KeysClaims.preserves, KeysClaims.algebraic⟩

end Cert.Proof

end
